-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_clean4 [hPre_clean4 : Cert.Pre_clean4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_clean4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_clean4 [hPre_clean4 : Cert.Pre_clean4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_clean4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_ReferenceHIdeal (m : (ℓ : Loc Cert.ReferenceHIdeal.nD Cert.ReferenceHIdeal.τ Cert.ReferenceHIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_clean4 [hKernel4Ideal : Cert.Kernel4Ideal.Facts] [hPre_clean4 : Cert.Pre_clean4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_clean4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_clean4 [hReference4Ideal : Cert.Reference4Ideal.Facts] [hPre_clean4 : Cert.Pre_clean4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_clean4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5)
      ∧ r.2.mem ((c.tc : Thread Cert.KernelH.nD Cert.KernelH.τ).loc Cert.KernelH.main_arg6) = m ((c.tc : Thread Cert.KernelH.nD Cert.KernelH.τ).loc Cert.KernelH.main_arg6))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
      ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6))
      ∧ r.2.sem = fun _ => 0)

def quiescent_ReferenceHIdeal [hReferenceHIdeal : Cert.ReferenceHIdeal.Facts] : Prop :=
  ∀ (m : (ℓ : Loc Cert.ReferenceHIdeal.nD Cert.ReferenceHIdeal.τ Cert.ReferenceHIdeal.sig) → Buf (Elt Ideal) ℓ) (g : Dev Cert.ReferenceHIdeal.nD → PrngReg), Pre_ReferenceHIdeal m →
    θ_run (Cert.ReferenceHIdeal.defs (F := Ideal)) (onTc (τ := Cert.ReferenceHIdeal.τ) (Cert.ReferenceHIdeal.main (F := Ideal))) ⟨m, fun _ => 0, g⟩ (fun r => (∀ c : Dev Cert.ReferenceHIdeal.nD,
      r.2.mem ((c.tc : Thread Cert.ReferenceHIdeal.nD Cert.ReferenceHIdeal.τ).loc Cert.ReferenceHIdeal.main_arg0) = m ((c.tc : Thread Cert.ReferenceHIdeal.nD Cert.ReferenceHIdeal.τ).loc Cert.ReferenceHIdeal.main_arg0)
      ∧ r.2.mem ((c.tc : Thread Cert.ReferenceHIdeal.nD Cert.ReferenceHIdeal.τ).loc Cert.ReferenceHIdeal.main_arg1) = m ((c.tc : Thread Cert.ReferenceHIdeal.nD Cert.ReferenceHIdeal.τ).loc Cert.ReferenceHIdeal.main_arg1)
      ∧ r.2.mem ((c.tc : Thread Cert.ReferenceHIdeal.nD Cert.ReferenceHIdeal.τ).loc Cert.ReferenceHIdeal.main_arg2) = m ((c.tc : Thread Cert.ReferenceHIdeal.nD Cert.ReferenceHIdeal.τ).loc Cert.ReferenceHIdeal.main_arg2)
      ∧ r.2.mem ((c.tc : Thread Cert.ReferenceHIdeal.nD Cert.ReferenceHIdeal.τ).loc Cert.ReferenceHIdeal.main_arg3) = m ((c.tc : Thread Cert.ReferenceHIdeal.nD Cert.ReferenceHIdeal.τ).loc Cert.ReferenceHIdeal.main_arg3)
      ∧ r.2.mem ((c.tc : Thread Cert.ReferenceHIdeal.nD Cert.ReferenceHIdeal.τ).loc Cert.ReferenceHIdeal.main_arg4) = m ((c.tc : Thread Cert.ReferenceHIdeal.nD Cert.ReferenceHIdeal.τ).loc Cert.ReferenceHIdeal.main_arg4)
      ∧ r.2.mem ((c.tc : Thread Cert.ReferenceHIdeal.nD Cert.ReferenceHIdeal.τ).loc Cert.ReferenceHIdeal.main_arg5) = m ((c.tc : Thread Cert.ReferenceHIdeal.nD Cert.ReferenceHIdeal.τ).loc Cert.ReferenceHIdeal.main_arg5)
      ∧ r.2.mem ((c.tc : Thread Cert.ReferenceHIdeal.nD Cert.ReferenceHIdeal.τ).loc Cert.ReferenceHIdeal.main_arg6) = m ((c.tc : Thread Cert.ReferenceHIdeal.nD Cert.ReferenceHIdeal.τ).loc Cert.ReferenceHIdeal.main_arg6))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4))
      ∧ r.2.sem = fun _ => 0)

def preserves_Kernel_KernelIdeal : Prop :=
  IdealRules.named_const.Statement Cert.KernelIdeal.κ "inv_len" .f32 0x3BAF3ADE#32 ((1 / 187 : ℝ) : EReal)
  ∧ IdealRules.named_const.Statement Cert.KernelIdeal.κ "inv_dof" .f32 0x3E124925#32 ((1 / 7 : ℝ) : EReal)
  ∧ IdealRules.named_const.Statement Cert.KernelIdeal.κ "inv_n1" .f32 0x38AF3ADE#32 ((1 / 11968 : ℝ) : EReal)
  ∧ IdealRules.named_const.Statement Cert.KernelIdeal.κ "inv_n2" .f32 0x39302C0B#32 ((1 / 5952 : ℝ) : EReal)
  ∧ IdealRules.named_const.Statement Cert.KernelIdeal.κ "inv_n3" .f32 0x39B21643#32 ((1 / 2944 : ℝ) : EReal)
  ∧ IdealRules.named_const.Statement Cert.KernelIdeal.κ "inv_n4" .f32 0x3A321643#32 ((1 / 1472 : ℝ) : EReal)
  ∧ IdealRules.named_const.Statement Cert.KernelIdeal.κ "inv_out" .f32 0x3DBA2E8C#32 ((1 / 11 : ℝ) : EReal)

def preserves_Kernel4_Kernel4Ideal : Prop :=
  IdealRules.named_const.Statement Cert.Kernel4Ideal.κ "inv_n4" .f32 0x3A321643#32 ((1 / 1472 : ℝ) : EReal)
  ∧ IdealRules.named_const.Statement Cert.Kernel4Ideal.κ "inv_out" .f32 0x3DBA2E8C#32 ((1 / 11 : ℝ) : EReal)

def algebraic_Kernel4Ideal_Reference4Ideal_pre_clean4 [hKernel4Ideal : Cert.Kernel4Ideal.Facts] [hReference4Ideal : Cert.Reference4Ideal.Facts] [hPre_clean4 : Cert.Pre_clean4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_clean4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v168) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_KernelH_KernelHIdeal : Prop :=
  True

def algebraic_KernelHIdeal_ReferenceHIdeal [hKernelHIdeal : Cert.KernelHIdeal.Facts] [hReferenceHIdeal : Cert.ReferenceHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg)
    (m' : (ℓ : Loc Cert.ReferenceHIdeal.nD Cert.ReferenceHIdeal.τ Cert.ReferenceHIdeal.sig) → Buf (Elt Ideal) ℓ) (g' : Dev Cert.ReferenceHIdeal.nD → PrngReg), Pre_KernelHIdeal m →
    (∀ c : Dev Cert.KernelHIdeal.nD,
      m' ((c.tc : Thread Cert.ReferenceHIdeal.nD Cert.ReferenceHIdeal.τ).loc Cert.ReferenceHIdeal.main_arg0) = m ((c.tc : Thread Cert.KernelHIdeal.nD Cert.KernelHIdeal.τ).loc Cert.KernelHIdeal.main_arg0)
      ∧ m' ((c.tc : Thread Cert.ReferenceHIdeal.nD Cert.ReferenceHIdeal.τ).loc Cert.ReferenceHIdeal.main_arg1) = m ((c.tc : Thread Cert.KernelHIdeal.nD Cert.KernelHIdeal.τ).loc Cert.KernelHIdeal.main_arg1)
      ∧ m' ((c.tc : Thread Cert.ReferenceHIdeal.nD Cert.ReferenceHIdeal.τ).loc Cert.ReferenceHIdeal.main_arg2) = m ((c.tc : Thread Cert.KernelHIdeal.nD Cert.KernelHIdeal.τ).loc Cert.KernelHIdeal.main_arg2)
      ∧ m' ((c.tc : Thread Cert.ReferenceHIdeal.nD Cert.ReferenceHIdeal.τ).loc Cert.ReferenceHIdeal.main_arg3) = m ((c.tc : Thread Cert.KernelHIdeal.nD Cert.KernelHIdeal.τ).loc Cert.KernelHIdeal.main_arg3)
      ∧ m' ((c.tc : Thread Cert.ReferenceHIdeal.nD Cert.ReferenceHIdeal.τ).loc Cert.ReferenceHIdeal.main_arg4) = m ((c.tc : Thread Cert.KernelHIdeal.nD Cert.KernelHIdeal.τ).loc Cert.KernelHIdeal.main_arg4)
      ∧ m' ((c.tc : Thread Cert.ReferenceHIdeal.nD Cert.ReferenceHIdeal.τ).loc Cert.ReferenceHIdeal.main_arg5) = m ((c.tc : Thread Cert.KernelHIdeal.nD Cert.KernelHIdeal.τ).loc Cert.KernelHIdeal.main_arg5)
      ∧ m' ((c.tc : Thread Cert.ReferenceHIdeal.nD Cert.ReferenceHIdeal.τ).loc Cert.ReferenceHIdeal.main_arg6) = m ((c.tc : Thread Cert.KernelHIdeal.nD Cert.KernelHIdeal.τ).loc Cert.KernelHIdeal.main_arg6)) →
    ∃ (v0 : (c : Dev Cert.KernelHIdeal.nD) → Buf (Elt Ideal) ((c.tc : Thread Cert.KernelHIdeal.nD Cert.KernelHIdeal.τ).loc Cert.KernelHIdeal.main_v6)),
      θ_run (Cert.KernelHIdeal.defs (F := Ideal)) (onTc (τ := Cert.KernelHIdeal.τ) (Cert.KernelHIdeal.main (F := Ideal))) ⟨m, fun _ => 0, g⟩ (fun r => ∀ c : Dev Cert.KernelHIdeal.nD,
          r.2.mem ((c.tc : Thread Cert.KernelHIdeal.nD Cert.KernelHIdeal.τ).loc Cert.KernelHIdeal.main_v6) = v0 c
          ∧ r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
          ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
          ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
          ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
          ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
          ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5)
          ∧ r.2.mem ((c.tc : Thread Cert.KernelHIdeal.nD Cert.KernelHIdeal.τ).loc Cert.KernelHIdeal.main_arg6) = m ((c.tc : Thread Cert.KernelHIdeal.nD Cert.KernelHIdeal.τ).loc Cert.KernelHIdeal.main_arg6))
      ∧ θ_run (Cert.ReferenceHIdeal.defs (F := Ideal)) (onTc (τ := Cert.ReferenceHIdeal.τ) (Cert.ReferenceHIdeal.main (F := Ideal))) ⟨m', fun _ => 0, g'⟩ (fun r => ∀ c : Dev Cert.ReferenceHIdeal.nD,
          r.2.mem ((c.tc : Thread Cert.ReferenceHIdeal.nD Cert.ReferenceHIdeal.τ).loc Cert.ReferenceHIdeal.main_v16) = v0 c
          ∧ r.2.mem ((c.tc : Thread Cert.ReferenceHIdeal.nD Cert.ReferenceHIdeal.τ).loc Cert.ReferenceHIdeal.main_arg0) = m' ((c.tc : Thread Cert.ReferenceHIdeal.nD Cert.ReferenceHIdeal.τ).loc Cert.ReferenceHIdeal.main_arg0)
          ∧ r.2.mem ((c.tc : Thread Cert.ReferenceHIdeal.nD Cert.ReferenceHIdeal.τ).loc Cert.ReferenceHIdeal.main_arg1) = m' ((c.tc : Thread Cert.ReferenceHIdeal.nD Cert.ReferenceHIdeal.τ).loc Cert.ReferenceHIdeal.main_arg1)
          ∧ r.2.mem ((c.tc : Thread Cert.ReferenceHIdeal.nD Cert.ReferenceHIdeal.τ).loc Cert.ReferenceHIdeal.main_arg2) = m' ((c.tc : Thread Cert.ReferenceHIdeal.nD Cert.ReferenceHIdeal.τ).loc Cert.ReferenceHIdeal.main_arg2)
          ∧ r.2.mem ((c.tc : Thread Cert.ReferenceHIdeal.nD Cert.ReferenceHIdeal.τ).loc Cert.ReferenceHIdeal.main_arg3) = m' ((c.tc : Thread Cert.ReferenceHIdeal.nD Cert.ReferenceHIdeal.τ).loc Cert.ReferenceHIdeal.main_arg3)
          ∧ r.2.mem ((c.tc : Thread Cert.ReferenceHIdeal.nD Cert.ReferenceHIdeal.τ).loc Cert.ReferenceHIdeal.main_arg4) = m' ((c.tc : Thread Cert.ReferenceHIdeal.nD Cert.ReferenceHIdeal.τ).loc Cert.ReferenceHIdeal.main_arg4)
          ∧ r.2.mem ((c.tc : Thread Cert.ReferenceHIdeal.nD Cert.ReferenceHIdeal.τ).loc Cert.ReferenceHIdeal.main_arg5) = m' ((c.tc : Thread Cert.ReferenceHIdeal.nD Cert.ReferenceHIdeal.τ).loc Cert.ReferenceHIdeal.main_arg5)
          ∧ r.2.mem ((c.tc : Thread Cert.ReferenceHIdeal.nD Cert.ReferenceHIdeal.τ).loc Cert.ReferenceHIdeal.main_arg6) = m' ((c.tc : Thread Cert.ReferenceHIdeal.nD Cert.ReferenceHIdeal.τ).loc Cert.ReferenceHIdeal.main_arg6))

def preserves_KernelS_KernelSIdeal : Prop :=
  IdealRules.named_const.Statement Cert.KernelSIdeal.κ "inv_len" .f32 0x3BAF3ADE#32 ((1 / 187 : ℝ) : EReal)
  ∧ IdealRules.named_const.Statement Cert.KernelSIdeal.κ "inv_dof" .f32 0x3E124925#32 ((1 / 7 : ℝ) : EReal)

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)) →
    ∃ (v0 : (c : Dev Cert.KernelSIdeal.nD) → Buf (Elt Ideal) ((c.tc : Thread Cert.KernelSIdeal.nD Cert.KernelSIdeal.τ).loc Cert.KernelSIdeal.main_v18_2)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v18_2) = v0 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v50) = v0 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4))

def Claim : Prop :=
  ∃ (hKernel : Cert.Kernel.Facts) (hKernelIdeal : Cert.KernelIdeal.Facts) (hKernel4 : Cert.Kernel4.Facts) (hKernel4Ideal : Cert.Kernel4Ideal.Facts) (hReference4Ideal : Cert.Reference4Ideal.Facts) (hKernelH : Cert.KernelH.Facts) (hKernelHIdeal : Cert.KernelHIdeal.Facts) (hReferenceHIdeal : Cert.ReferenceHIdeal.Facts) (hKernelS : Cert.KernelS.Facts) (hKernelSIdeal : Cert.KernelSIdeal.Facts) (hReferenceSIdeal : Cert.ReferenceSIdeal.Facts) (hPre_clean4 : Cert.Pre_clean4.Facts),
    quiescent_Kernel (hKernel := hKernel)
    ∧ quiescent_KernelIdeal (hKernelIdeal := hKernelIdeal)
    ∧ quiescent_Kernel4 (hKernel4 := hKernel4)
    ∧ quiescent_Kernel4Ideal (hKernel4Ideal := hKernel4Ideal)
    ∧ quiescent_Kernel4Ideal_pre_clean4 (hKernel4Ideal := hKernel4Ideal) (hPre_clean4 := hPre_clean4)
    ∧ quiescent_Reference4Ideal (hReference4Ideal := hReference4Ideal)
    ∧ quiescent_Reference4Ideal_pre_clean4 (hReference4Ideal := hReference4Ideal) (hPre_clean4 := hPre_clean4)
    ∧ quiescent_KernelH (hKernelH := hKernelH)
    ∧ quiescent_KernelHIdeal (hKernelHIdeal := hKernelHIdeal)
    ∧ quiescent_ReferenceHIdeal (hReferenceHIdeal := hReferenceHIdeal)
    ∧ quiescent_KernelS (hKernelS := hKernelS)
    ∧ quiescent_KernelSIdeal (hKernelSIdeal := hKernelSIdeal)
    ∧ quiescent_ReferenceSIdeal (hReferenceSIdeal := hReferenceSIdeal)
    ∧ preserves_Kernel_KernelIdeal
    ∧ preserves_Kernel4_Kernel4Ideal
    ∧ algebraic_Kernel4Ideal_Reference4Ideal_pre_clean4 (hKernel4Ideal := hKernel4Ideal) (hReference4Ideal := hReference4Ideal) (hPre_clean4 := hPre_clean4)
    ∧ preserves_KernelH_KernelHIdeal
    ∧ algebraic_KernelHIdeal_ReferenceHIdeal (hKernelHIdeal := hKernelHIdeal) (hReferenceHIdeal := hReferenceHIdeal)
    ∧ preserves_KernelS_KernelSIdeal
    ∧ algebraic_KernelSIdeal_ReferenceSIdeal (hKernelSIdeal := hKernelSIdeal) (hReferenceSIdeal := hReferenceSIdeal)
-- ==== Pre_clean4.lean ====
abbrev S8x1568x256 : Shape := ⟨3, ![8, 1568, 256]⟩
abbrev S8x512x256x25 : Shape := ⟨4, ![8, 512, 256, 25]⟩
abbrev S8x512 : Shape := ⟨2, ![8, 512]⟩
abbrev S64x8 : Shape := ⟨2, ![64, 8]⟩
abbrev S_ : Shape := ⟨0, ![]⟩

class Facts : Prop where
  bcast_S_S8x1568x256 : S_.BroadcastsInDim S8x1568x256 (![] : Fin 0 → Fin S8x1568x256.rank)
  reducesTo_S8x1568x256_S_d0_1_2 : S8x1568x256.ReducesTo [0, 1, 2] S_
  h_S_ : 0 < S_.numel
  bcast_S_S8x512x256x25 : S_.BroadcastsInDim S8x512x256x25 (![] : Fin 0 → Fin S8x512x256x25.rank)
  reducesTo_S8x512x256x25_S_d0_1_2_3 : S8x512x256x25.ReducesTo [0, 1, 2, 3] S_
  bcast_S_S8x512 : S_.BroadcastsInDim S8x512 (![] : Fin 0 → Fin S8x512.rank)
  reducesTo_S8x512_S_d0_1 : S8x512.ReducesTo [0, 1] S_
  bcast_S_S64x8 : S_.BroadcastsInDim S64x8 (![] : Fin 0 → Fin S64x8.rank)
  reducesTo_S64x8_S_d0_1 : S64x8.ReducesTo [0, 1] S_

variable [Facts]

def fn_where {F : FTy → Type} [FloatOps F] (arg0 : IVec S8x1568x256 1) (arg1 : FVec F S8x1568x256 .f32) (arg2 : FVec F S_ .f32) : FVec F S8x1568x256 .f32 :=
  let v0 : FVec F S_ .f32 := id arg2
  let v1 : FVec F S8x1568x256 .f32 := broadcastInDim S8x1568x256 ![] bcast_S_S8x1568x256 v0
  let v2 : FVec F S8x1568x256 .f32 := select arg0 arg1 v1
  v2

def fn_part2 {F : FTy → Type} [FloatOps F] (main_arg0 : FVec F S8x1568x256 .f32) (main_v29 : IVec S_ 1) (main_v32 : IVec S8x1568x256 32) (main_c_12 : IVec S_ 32) : IVec S_ 1 :=
  let main_v33 : IVec S8x1568x256 32 := broadcastInDim S8x1568x256 ![] bcast_S_S8x1568x256 main_c_12
  let main_v34 : IVec S8x1568x256 1 := cmpi .eq main_v32 main_v33
  let main_cst_13 : FVec F S_ .f32 := constant S_ .f32 0x00000000#32
  let main_v35 : FVec F S8x1568x256 .f32 := fn_where (F := F) main_v34 main_arg0 main_cst_13
  let main_cst_14 : FVec F S_ .f32 := constant S_ .f32 0x00000000#32
  let main_v36 : FVec F S8x1568x256 .f32 := broadcastInDim S8x1568x256 ![] bcast_S_S8x1568x256 main_cst_14
  let main_v37 : IVec S8x1568x256 1 := cmpf .oeq main_v35 main_v36
  let main_c_15 : IVec S_ 1 := constantI S_ 1 1#1
  let main_v38 : IVec S_ 1 := (fun x v => Host.reduce IntOp.andi x v reducesTo_S8x1568x256_S_d0_1_2 h_S_) main_v37 main_c_15
  let main_v39 : IVec S_ 1 := andi main_v29 main_v38
  main_v39

def fn_part1 {F : FTy → Type} [FloatOps F] (main_arg0 : FVec F S8x1568x256 .f32) (main_arg4 : FVec F S8x512 .f32) (main_arg5 : FVec F S64x8 .f32) (main_v14 : IVec S_ 1) (main_v15 : FVec F S8x512 .f32) (main_cst_5 : FVec F S_ .f32) : IVec S_ 1 :=
  let main_v16 : FVec F S8x512 .f32 := broadcastInDim S8x512 ![] bcast_S_S8x512 main_cst_5
  let main_v17 : IVec S8x512 1 := cmpf .olt main_v15 main_v16
  let main_c_6 : IVec S_ 1 := constantI S_ 1 1#1
  let main_v18 : IVec S_ 1 := (fun x v => Host.reduce IntOp.andi x v reducesTo_S8x512_S_d0_1 h_S_) main_v17 main_c_6
  let main_v19 : IVec S_ 1 := andi main_v14 main_v18
  let main_v20 : FVec F S8x512 .f32 := Host.absf main_arg4
  let main_cst_7 : FVec F S_ .f32 := constant S_ .f32 0x7F800000#32
  let main_v21 : FVec F S8x512 .f32 := broadcastInDim S8x512 ![] bcast_S_S8x512 main_cst_7
  let main_v22 : IVec S8x512 1 := cmpf .olt main_v20 main_v21
  let main_c_8 : IVec S_ 1 := constantI S_ 1 1#1
  let main_v23 : IVec S_ 1 := (fun x v => Host.reduce IntOp.andi x v reducesTo_S8x512_S_d0_1 h_S_) main_v22 main_c_8
  let main_v24 : IVec S_ 1 := andi main_v19 main_v23
  let main_v25 : FVec F S64x8 .f32 := Host.absf main_arg5
  let main_cst_9 : FVec F S_ .f32 := constant S_ .f32 0x7F800000#32
  let main_v26 : FVec F S64x8 .f32 := broadcastInDim S64x8 ![] bcast_S_S64x8 main_cst_9
  let main_v27 : IVec S64x8 1 := cmpf .olt main_v25 main_v26
  let main_c_10 : IVec S_ 1 := constantI S_ 1 1#1
  let main_v28 : IVec S_ 1 := (fun x v => Host.reduce IntOp.andi x v reducesTo_S64x8_S_d0_1 h_S_) main_v27 main_c_10
  let main_v29 : IVec S_ 1 := andi main_v24 main_v28
  let main_v30 : IVec S8x1568x256 32 := iotaInDim S8x1568x256 32 1
  let main_c_11 : IVec S_ 32 := constantI S_ 32 24#32
  let main_v31 : IVec S8x1568x256 32 := broadcastInDim S8x1568x256 ![] bcast_S_S8x1568x256 main_c_11
  let main_v32 : IVec S8x1568x256 32 := Host.remsi main_v30 main_v31
  let main_c_12 : IVec S_ 32 := constantI S_ 32 15#32
  fn_part2 (F := F) main_arg0 main_v29 main_v32 main_c_12

def fn {F : FTy → Type} [FloatOps F] (main_arg0 : FVec F S8x1568x256 .f32) (main_arg1 : FVec F S8x512x256x25 .f32) (main_arg2 : FVec F S8x512 .f32) (main_arg3 : FVec F S8x512 .f32) (main_arg4 : FVec F S8x512 .f32) (main_arg5 : FVec F S64x8 .f32) : IVec S_ 1 :=
  let main_v0 : FVec F S8x1568x256 .f32 := Host.absf main_arg0
  let main_cst : FVec F S_ .f32 := constant S_ .f32 0x7F800000#32
  let main_v1 : FVec F S8x1568x256 .f32 := broadcastInDim S8x1568x256 ![] bcast_S_S8x1568x256 main_cst
  let main_v2 : IVec S8x1568x256 1 := cmpf .olt main_v0 main_v1
  let main_c : IVec S_ 1 := constantI S_ 1 1#1
  let main_v3 : IVec S_ 1 := (fun x v => Host.reduce IntOp.andi x v reducesTo_S8x1568x256_S_d0_1_2 h_S_) main_v2 main_c
  let main_c_0 : IVec S_ 1 := constantI S_ 1 1#1
  let main_v4 : IVec S_ 1 := andi main_c_0 main_v3
  let main_v5 : FVec F S8x512x256x25 .f32 := Host.absf main_arg1
  let main_cst_1 : FVec F S_ .f32 := constant S_ .f32 0x7F800000#32
  let main_v6 : FVec F S8x512x256x25 .f32 := broadcastInDim S8x512x256x25 ![] bcast_S_S8x512x256x25 main_cst_1
  let main_v7 : IVec S8x512x256x25 1 := cmpf .olt main_v5 main_v6
  let main_c_2 : IVec S_ 1 := constantI S_ 1 1#1
  let main_v8 : IVec S_ 1 := (fun x v => Host.reduce IntOp.andi x v reducesTo_S8x512x256x25_S_d0_1_2_3 h_S_) main_v7 main_c_2
  let main_v9 : IVec S_ 1 := andi main_v4 main_v8
  let main_v10 : FVec F S8x512 .f32 := Host.absf main_arg2
  let main_cst_3 : FVec F S_ .f32 := constant S_ .f32 0x7F800000#32
  let main_v11 : FVec F S8x512 .f32 := broadcastInDim S8x512 ![] bcast_S_S8x512 main_cst_3
  let main_v12 : IVec S8x512 1 := cmpf .olt main_v10 main_v11
  let main_c_4 : IVec S_ 1 := constantI S_ 1 1#1
  let main_v13 : IVec S_ 1 := (fun x v => Host.reduce IntOp.andi x v reducesTo_S8x512_S_d0_1 h_S_) main_v12 main_c_4
  let main_v14 : IVec S_ 1 := andi main_v9 main_v13
  let main_v15 : FVec F S8x512 .f32 := Host.absf main_arg3
  let main_cst_5 : FVec F S_ .f32 := constant S_ .f32 0x7F800000#32
  fn_part1 (F := F) main_arg0 main_arg4 main_arg5 main_v14 main_v15 main_cst_5
-- ==== Kernel.lean ====
abbrev S64x1x187 : Shape := ⟨3, ![64, 1, 187]⟩
abbrev S16x1x3 : Shape := ⟨3, ![16, 1, 3]⟩
abbrev S16 : Shape := ⟨1, ![16]⟩
abbrev S8x16 : Shape := ⟨2, ![8, 16]⟩
abbrev S8 : Shape := ⟨1, ![8]⟩
abbrev S8x64x16x3 : Shape := ⟨4, ![8, 64, 16, 3]⟩
abbrev S8x64 : Shape := ⟨2, ![8, 64]⟩
abbrev S8x128x64x9 : Shape := ⟨4, ![8, 128, 64, 9]⟩
abbrev S8x128 : Shape := ⟨2, ![8, 128]⟩
abbrev S8x256x128x11 : Shape := ⟨4, ![8, 256, 128, 11]⟩
abbrev S8x256 : Shape := ⟨2, ![8, 256]⟩
abbrev S8x512x256x25 : Shape := ⟨4, ![8, 512, 256, 25]⟩
abbrev S8x512 : Shape := ⟨2, ![8, 512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S5x64 : Shape := ⟨2, ![5, 64]⟩
abbrev S5 : Shape := ⟨1, ![5]⟩
abbrev S64x187 : Shape := ⟨2, ![64, 187]⟩
abbrev S_ : Shape := ⟨0, ![]⟩
abbrev S64x1 : Shape := ⟨2, ![64, 1]⟩
abbrev S64x186 : Shape := ⟨2, ![64, 186]⟩
abbrev S64x187x1 : Shape := ⟨3, ![64, 187, 1]⟩
abbrev S64x187x3 : Shape := ⟨3, ![64, 187, 3]⟩
abbrev S64x192x3 : Shape := ⟨3, ![64, 192, 3]⟩
abbrev S12288x3 : Shape := ⟨2, ![12288, 3]⟩
abbrev S12320x3 : Shape := ⟨2, ![12320, 3]⟩
abbrev S16x3 : Shape := ⟨2, ![16, 3]⟩
abbrev S3x16 : Shape := ⟨2, ![3, 16]⟩
abbrev S1x16 : Shape := ⟨2, ![1, 16]⟩
abbrev S16x8 : Shape := ⟨2, ![16, 8]⟩
abbrev S1x8 : Shape := ⟨2, ![1, 8]⟩
abbrev S8x3x16x64 : Shape := ⟨4, ![8, 3, 16, 64]⟩
abbrev S8x9x64x128 : Shape := ⟨4, ![8, 9, 64, 128]⟩
abbrev S8x11x128x256 : Shape := ⟨4, ![8, 11, 128, 256]⟩
abbrev S8x25x256x512 : Shape := ⟨4, ![8, 25, 256, 512]⟩
abbrev S12320x16 : Shape := ⟨2, ![12320, 16]⟩
abbrev S64x8 : Shape := ⟨2, ![64, 8]⟩
abbrev S1x1 : Shape := ⟨2, ![1, 1]⟩
abbrev S12288x16 : Shape := ⟨2, ![12288, 16]⟩
abbrev S16x16 : Shape := ⟨2, ![16, 16]⟩
abbrev S64x12288 : Shape := ⟨2, ![64, 12288]⟩
abbrev S64x16 : Shape := ⟨2, ![64, 16]⟩
abbrev S1 : Shape := ⟨1, ![1]⟩
abbrev S8x1x64 : Shape := ⟨3, ![8, 1, 64]⟩
abbrev S8x6176x64 : Shape := ⟨3, ![8, 6176, 64]⟩
abbrev S1x3x16x64 : Shape := ⟨4, ![1, 3, 16, 64]⟩
abbrev S1x1x64 : Shape := ⟨3, ![1, 1, 64]⟩
abbrev S1x6176x64 : Shape := ⟨3, ![1, 6176, 64]⟩
abbrev S1x1x16x64 : Shape := ⟨4, ![1, 1, 16, 64]⟩
abbrev S16x64 : Shape := ⟨2, ![16, 64]⟩
abbrev S12288x64 : Shape := ⟨2, ![12288, 64]⟩
abbrev S1x64 : Shape := ⟨2, ![1, 64]⟩
abbrev S6144x2x64 : Shape := ⟨3, ![6144, 2, 64]⟩
abbrev S6144x64 : Shape := ⟨2, ![6144, 64]⟩
abbrev S1x16x64 : Shape := ⟨3, ![1, 16, 64]⟩
abbrev S1x6144x64 : Shape := ⟨3, ![1, 6144, 64]⟩
abbrev S8x1x128 : Shape := ⟨3, ![8, 1, 128]⟩
abbrev S8x3104x128 : Shape := ⟨3, ![8, 3104, 128]⟩
abbrev S1x9x64x128 : Shape := ⟨4, ![1, 9, 64, 128]⟩
abbrev S1x1x128 : Shape := ⟨3, ![1, 1, 128]⟩
abbrev S1x3104x128 : Shape := ⟨3, ![1, 3104, 128]⟩
abbrev S6176x64 : Shape := ⟨2, ![6176, 64]⟩
abbrev S1x1x64x128 : Shape := ⟨4, ![1, 1, 64, 128]⟩
abbrev S64x128 : Shape := ⟨2, ![64, 128]⟩
abbrev S6144x128 : Shape := ⟨2, ![6144, 128]⟩
abbrev S1x128 : Shape := ⟨2, ![1, 128]⟩
abbrev S128 : Shape := ⟨1, ![128]⟩
abbrev S3072x2x128 : Shape := ⟨3, ![3072, 2, 128]⟩
abbrev S3072x128 : Shape := ⟨2, ![3072, 128]⟩
abbrev S16x128 : Shape := ⟨2, ![16, 128]⟩
abbrev S1x16x128 : Shape := ⟨3, ![1, 16, 128]⟩
abbrev S1x3072x128 : Shape := ⟨3, ![1, 3072, 128]⟩
abbrev S8x1x256 : Shape := ⟨3, ![8, 1, 256]⟩
abbrev S8x1568x256 : Shape := ⟨3, ![8, 1568, 256]⟩
abbrev S1x11x128x256 : Shape := ⟨4, ![1, 11, 128, 256]⟩
abbrev S1x1x256 : Shape := ⟨3, ![1, 1, 256]⟩
abbrev S1x1568x256 : Shape := ⟨3, ![1, 1568, 256]⟩
abbrev S3104x128 : Shape := ⟨2, ![3104, 128]⟩
abbrev S1x1x128x256 : Shape := ⟨4, ![1, 1, 128, 256]⟩
abbrev S128x256 : Shape := ⟨2, ![128, 256]⟩
abbrev S3072x256 : Shape := ⟨2, ![3072, 256]⟩
abbrev S1x256 : Shape := ⟨2, ![1, 256]⟩
abbrev S1536x2x256 : Shape := ⟨3, ![1536, 2, 256]⟩
abbrev S1536x256 : Shape := ⟨2, ![1536, 256]⟩
abbrev S16x256 : Shape := ⟨2, ![16, 256]⟩
abbrev S1x16x256 : Shape := ⟨3, ![1, 16, 256]⟩
abbrev S1x1536x256 : Shape := ⟨3, ![1, 1536, 256]⟩
abbrev S8x1x512 : Shape := ⟨3, ![8, 1, 512]⟩
abbrev S64x512 : Shape := ⟨2, ![64, 512]⟩
abbrev S1x25x256x512 : Shape := ⟨4, ![1, 25, 256, 512]⟩
abbrev S1x1x512 : Shape := ⟨3, ![1, 1, 512]⟩
abbrev S1568x256 : Shape := ⟨2, ![1568, 256]⟩
abbrev S1x1x256x512 : Shape := ⟨4, ![1, 1, 256, 512]⟩
abbrev S1536x512 : Shape := ⟨2, ![1536, 512]⟩
abbrev S1x512 : Shape := ⟨2, ![1, 512]⟩
abbrev S512 : Shape := ⟨1, ![512]⟩
abbrev S768x2x512 : Shape := ⟨3, ![768, 2, 512]⟩
abbrev S768x512 : Shape := ⟨2, ![768, 512]⟩
abbrev S64x768 : Shape := ⟨2, ![64, 768]⟩
abbrev S512x256 : Shape := ⟨2, ![512, 256]⟩
abbrev S256x64 : Shape := ⟨2, ![256, 64]⟩
abbrev S64x5 : Shape := ⟨2, ![64, 5]⟩
abbrev S1x5 : Shape := ⟨2, ![1, 5]⟩
abbrev S64x64 : Shape := ⟨2, ![64, 64]⟩

abbrev nBuf : Space → Nat
  | .hbm => 81
  | .vmem => 63
  | .smem => 0
  | _ => 0

abbrev bufTy : (tb : Table) → Fin (tcTables nBuf tb) → BufTy
  | .hbm, ⟨0, _⟩ => ⟨S64x1x187, .f32⟩
  | .hbm, ⟨1, _⟩ => ⟨S16x1x3, .f32⟩
  | .hbm, ⟨2, _⟩ => ⟨S16, .f32⟩
  | .hbm, ⟨3, _⟩ => ⟨S8x16, .f32⟩
  | .hbm, ⟨4, _⟩ => ⟨S8, .f32⟩
  | .hbm, ⟨5, _⟩ => ⟨S8x64x16x3, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x128x64x9, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S8x256x128x11, .f32⟩
  | .hbm, ⟨14, _⟩ => ⟨S8x256, .f32⟩
  | .hbm, ⟨15, _⟩ => ⟨S8x256, .f32⟩
  | .hbm, ⟨16, _⟩ => ⟨S8x256, .f32⟩
  | .hbm, ⟨17, _⟩ => ⟨S8x512x256x25, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S256x512, .f32⟩
  | .hbm, ⟨22, _⟩ => ⟨S256, .f32⟩
  | .hbm, ⟨23, _⟩ => ⟨S64x256, .f32⟩
  | .hbm, ⟨24, _⟩ => ⟨S64, .f32⟩
  | .hbm, ⟨25, _⟩ => ⟨S5x64, .f32⟩
  | .hbm, ⟨26, _⟩ => ⟨S5, .f32⟩
  | .hbm, ⟨27, _⟩ => ⟨S64x187, .f32⟩
  | .hbm, ⟨28, _⟩ => ⟨S_, .f32⟩
  | .hbm, ⟨29, _⟩ => ⟨S64x1, .f32⟩
  | .hbm, ⟨30, _⟩ => ⟨S64x186, .f32⟩
  | .hbm, ⟨31, _⟩ => ⟨S64x187, .f32⟩
  | .hbm, ⟨32, _⟩ => ⟨S64x186, .f32⟩
  | .hbm, ⟨33, _⟩ => ⟨S64x187, .f32⟩
  | .hbm, ⟨34, _⟩ => ⟨S64x187x1, .f32⟩
  | .hbm, ⟨35, _⟩ => ⟨S64x187x1, .f32⟩
  | .hbm, ⟨36, _⟩ => ⟨S64x187x1, .f32⟩
  | .hbm, ⟨37, _⟩ => ⟨S64x187x3, .f32⟩
  | .hbm, ⟨38, _⟩ => ⟨S_, .i32⟩
  | .hbm, ⟨39, _⟩ => ⟨S_, .f32⟩
  | .hbm, ⟨40, _⟩ => ⟨S64x192x3, .f32⟩
  | .hbm, ⟨41, _⟩ => ⟨S12288x3, .f32⟩
  | .hbm, ⟨42, _⟩ => ⟨S_, .i32⟩
  | .hbm, ⟨43, _⟩ => ⟨S_, .f32⟩
  | .hbm, ⟨44, _⟩ => ⟨S12320x3, .f32⟩
  | .hbm, ⟨45, _⟩ => ⟨S16x3, .f32⟩
  | .hbm, ⟨46, _⟩ => ⟨S3x16, .f32⟩
  | .hbm, ⟨47, _⟩ => ⟨S1x16, .f32⟩
  | .hbm, ⟨48, _⟩ => ⟨S16x8, .f32⟩
  | .hbm, ⟨49, _⟩ => ⟨S1x8, .f32⟩
  | .hbm, ⟨50, _⟩ => ⟨S8x3x16x64, .f32⟩
  | .hbm, ⟨51, _⟩ => ⟨S8x9x64x128, .f32⟩
  | .hbm, ⟨52, _⟩ => ⟨S8x11x128x256, .f32⟩
  | .hbm, ⟨53, _⟩ => ⟨S8x25x256x512, .f32⟩
  | .hbm, ⟨54, _⟩ => ⟨S12320x16, .f32⟩
  | .hbm, ⟨55, _⟩ => ⟨S64x8, .f32⟩
  | .hbm, ⟨56, _⟩ => ⟨S1x1, .f32⟩
  | .hbm, ⟨57, _⟩ => ⟨S8x1x64, .f32⟩
  | .hbm, ⟨58, _⟩ => ⟨S8x1x64, .f32⟩
  | .hbm, ⟨59, _⟩ => ⟨S8x1x64, .f32⟩
  | .hbm, ⟨60, _⟩ => ⟨S8x6176x64, .f32⟩
  | .hbm, ⟨61, _⟩ => ⟨S8x1x128, .f32⟩
  | .hbm, ⟨62, _⟩ => ⟨S8x1x128, .f32⟩
  | .hbm, ⟨63, _⟩ => ⟨S8x1x128, .f32⟩
  | .hbm, ⟨64, _⟩ => ⟨S8x3104x128, .f32⟩
  | .hbm, ⟨65, _⟩ => ⟨S8x1x256, .f32⟩
  | .hbm, ⟨66, _⟩ => ⟨S8x1x256, .f32⟩
  | .hbm, ⟨67, _⟩ => ⟨S8x1x256, .f32⟩
  | .hbm, ⟨68, _⟩ => ⟨S8x1568x256, .f32⟩
  | .hbm, ⟨69, _⟩ => ⟨S8x1x512, .f32⟩
  | .hbm, ⟨70, _⟩ => ⟨S8x1x512, .f32⟩
  | .hbm, ⟨71, _⟩ => ⟨S8x1x512, .f32⟩
  | .hbm, ⟨72, _⟩ => ⟨S64x512, .f32⟩
  | .hbm, ⟨73, _⟩ => ⟨S512x256, .f32⟩
  | .hbm, ⟨74, _⟩ => ⟨S1x256, .f32⟩
  | .hbm, ⟨75, _⟩ => ⟨S256x64, .f32⟩
  | .hbm, ⟨76, _⟩ => ⟨S1x64, .f32⟩
  | .hbm, ⟨77, _⟩ => ⟨S64x5, .f32⟩
  | .hbm, ⟨78, _⟩ => ⟨S1x5, .f32⟩
  | .hbm, ⟨79, _⟩ => ⟨S64x5, .f32⟩
  | .hbm, ⟨80, _⟩ => ⟨S_, .f32⟩
  | .local _ .vmem, ⟨0, _⟩ => ⟨S12320x3, .f32⟩
  | .local _ .vmem, ⟨1, _⟩ => ⟨S3x16, .f32⟩
  | .local _ .vmem, ⟨2, _⟩ => ⟨S1x16, .f32⟩
  | .local _ .vmem, ⟨3, _⟩ => ⟨S16x8, .f32⟩
  | .local _ .vmem, ⟨4, _⟩ => ⟨S1x8, .f32⟩
  | .local _ .vmem, ⟨5, _⟩ => ⟨S12320x16, .f32⟩
  | .local _ .vmem, ⟨6, _⟩ => ⟨S64x8, .f32⟩
  | .local _ .vmem, ⟨7, _⟩ => ⟨S1x1, .f32⟩
  | .local _ .vmem, ⟨8, _⟩ => ⟨S12320x16, .f32⟩
  | .local _ .vmem, ⟨9, _⟩ => ⟨S1x3x16x64, .f32⟩
  | .local _ .vmem, ⟨10, _⟩ => ⟨S1x3x16x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x6176x64, .f32⟩
  | .local _ .vmem, ⟨18, _⟩ => ⟨S1x6176x64, .f32⟩
  | .local _ .vmem, ⟨19, _⟩ => ⟨S1x6176x64, .f32⟩
  | .local _ .vmem, ⟨20, _⟩ => ⟨S1x6176x64, .f32⟩
  | .local _ .vmem, ⟨21, _⟩ => ⟨S1x9x64x128, .f32⟩
  | .local _ .vmem, ⟨22, _⟩ => ⟨S1x9x64x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x3104x128, .f32⟩
  | .local _ .vmem, ⟨30, _⟩ => ⟨S1x3104x128, .f32⟩
  | .local _ .vmem, ⟨31, _⟩ => ⟨S1x3104x128, .f32⟩
  | .local _ .vmem, ⟨32, _⟩ => ⟨S1x3104x128, .f32⟩
  | .local _ .vmem, ⟨33, _⟩ => ⟨S1x11x128x256, .f32⟩
  | .local _ .vmem, ⟨34, _⟩ => ⟨S1x11x128x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1568x256, .f32⟩
  | .local _ .vmem, ⟨42, _⟩ => ⟨S1x1568x256, .f32⟩
  | .local _ .vmem, ⟨43, _⟩ => ⟨S1x1568x256, .f32⟩
  | .local _ .vmem, ⟨44, _⟩ => ⟨S1x1568x256, .f32⟩
  | .local _ .vmem, ⟨45, _⟩ => ⟨S1x25x256x512, .f32⟩
  | .local _ .vmem, ⟨46, _⟩ => ⟨S1x25x256x512, .f32⟩
  | .local _ .vmem, ⟨47, _⟩ => ⟨S1x1x512, .f32⟩
  | .local _ .vmem, ⟨48, _⟩ => ⟨S1x1x512, .f32⟩
  | .local _ .vmem, ⟨49, _⟩ => ⟨S1x1x512, .f32⟩
  | .local _ .vmem, ⟨50, _⟩ => ⟨S1x1x512, .f32⟩
  | .local _ .vmem, ⟨51, _⟩ => ⟨S1x1x512, .f32⟩
  | .local _ .vmem, ⟨52, _⟩ => ⟨S1x1x512, .f32⟩
  | .local _ .vmem, ⟨53, _⟩ => ⟨S64x8, .f32⟩
  | .local _ .vmem, ⟨54, _⟩ => ⟨S64x512, .f32⟩
  | .local _ .vmem, ⟨55, _⟩ => ⟨S64x512, .f32⟩
  | .local _ .vmem, ⟨56, _⟩ => ⟨S512x256, .f32⟩
  | .local _ .vmem, ⟨57, _⟩ => ⟨S1x256, .f32⟩
  | .local _ .vmem, ⟨58, _⟩ => ⟨S256x64, .f32⟩
  | .local _ .vmem, ⟨59, _⟩ => ⟨S1x64, .f32⟩
  | .local _ .vmem, ⟨60, _⟩ => ⟨S64x5, .f32⟩
  | .local _ .vmem, ⟨61, _⟩ => ⟨S1x5, .f32⟩
  | .local _ .vmem, ⟨62, _⟩ => ⟨S64x5, .f32⟩
  | _, _ => ⟨S64x1x187, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_c_0 : Ref sig .tc := ⟨.hbm, 42, rfl⟩
abbrev main_call1_v0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22_0 : Ref sig .tc := ⟨.hbm, 54, rfl⟩
abbrev main_v22_1 : Ref sig .tc := ⟨.hbm, 55, rfl⟩
abbrev main_v22_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_stg5_0 : Ref sig .tc := ⟨.vmem, 53, rfl⟩
abbrev cc4_stg6_0 : Ref sig .tc := ⟨.vmem, 54, rfl⟩
abbrev cc5_stg0_0 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem4_1 : DmaSem sig := 40
abbrev cc3_sem5_0 : DmaSem sig := 41
abbrev cc3_sem5_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem6_0 : DmaSem sig := 54
abbrev cc5_sem0_0 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62

abbrev nD : Nat := 1
abbrev τ : Topo := Topo.v7x

variable {F : FTy → Type} [FloatOps F]

abbrev grid0 : Pipeline.Grid := .none

abbrev stage0_0 : Fin 1 → Memref sig .tc .vmem S12320x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12320x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S12320x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x3x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x6176x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x6176x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x9x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x3104x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x3104x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x11x128x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1568x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![8, 1], ![false, false]⟩

def k4_cond1 (i : grid4.Coords) : BitVec 1 :=
  let arg0 : BitVec 32 := BitVec.ofNat 32 (i 0).val
  let c0_i32_192 : BitVec 32 := 0#32
  let v391 : BitVec 1 := Scalar.cmpi .eq arg0 c0_i32_192
  let v392 : BitVec 32 := Scalar.extui v391
  let c0_i32_193 : BitVec 32 := 0#32
  let v393 : BitVec 1 := Scalar.cmpi .ne v392 c0_i32_193
  v393

def k4_off1 (i : grid4.Coords) : Fin 2 → Nat :=
  let c0_196 : Index := 0#32
  let arg1 : BitVec 32 := BitVec.ofNat 32 (i 1).val
  let c512_i32 : BitVec 32 := 512#32
  let v397 : BitVec 32 := Scalar.muli arg1 c512_i32
  let v398 : Index := Scalar.indexCast v397
  ![0, v398.toNat]
def k4_cond2 (i : grid4.Coords) : BitVec 1 :=
  let arg0 : BitVec 32 := BitVec.ofNat 32 (i 0).val
  let c0_i32_194 : BitVec 32 := 0#32
  let v394 : BitVec 1 := Scalar.cmpi .ne arg0 c0_i32_194
  let v395 : BitVec 32 := Scalar.extui v394
  let c0_i32_195 : BitVec 32 := 0#32
  let v396 : BitVec 1 := Scalar.cmpi .ne v395 c0_i32_195
  v396

def k4_off2 (i : grid4.Coords) : Fin 2 → Nat :=
  let c0_196 : Index := 0#32
  let arg1 : BitVec 32 := BitVec.ofNat 32 (i 1).val
  let c512_i32 : BitVec 32 := 512#32
  let v397 : BitVec 32 := Scalar.muli arg1 c512_i32
  let v398 : Index := Scalar.indexCast v397
  ![0, v398.toNat]
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x1568x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x25x256x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x1x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 1 → Memref sig .tc .vmem S64x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S64x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev grid5 : Pipeline.Grid := .none

abbrev stage5_0 : Fin 1 → Memref sig .tc .vmem S64x512 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S512x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S64x5 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1x5 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S64x5 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
-- ==== KernelIdeal.lean ====
variable {F : FTy → Type} [FloatOps F] [Named F]
def κ : String → Option EReal := fun
  | "inv_dof" => some ((1 / 7 : ℝ) : EReal)
  | "inv_len" => some ((1 / 187 : ℝ) : EReal)
  | "inv_n1" => some ((1 / 11968 : ℝ) : EReal)
  | "inv_n2" => some ((1 / 5952 : ℝ) : EReal)
  | "inv_n3" => some ((1 / 2944 : ℝ) : EReal)
  | "inv_n4" => some ((1 / 1472 : ℝ) : EReal)
  | "inv_out" => some ((1 / 11 : ℝ) : EReal)
  | _ => none
-- ==== Kernel4.lean ====
abbrev S8x1568x256 : Shape := ⟨3, ![8, 1568, 256]⟩
abbrev S8x512x256x25 : Shape := ⟨4, ![8, 512, 256, 25]⟩
abbrev S8x512 : Shape := ⟨2, ![8, 512]⟩
abbrev S64x8 : Shape := ⟨2, ![64, 8]⟩
abbrev S8x25x256x512 : Shape := ⟨4, ![8, 25, 256, 512]⟩
abbrev S8x1x512 : Shape := ⟨3, ![8, 1, 512]⟩
abbrev S64x512 : Shape := ⟨2, ![64, 512]⟩
abbrev S1x1568x256 : Shape := ⟨3, ![1, 1568, 256]⟩
abbrev S1x25x256x512 : Shape := ⟨4, ![1, 25, 256, 512]⟩
abbrev S1x1x512 : Shape := ⟨3, ![1, 1, 512]⟩
abbrev S1568x256 : Shape := ⟨2, ![1568, 256]⟩
abbrev S1536x256 : Shape := ⟨2, ![1536, 256]⟩
abbrev S1x1x256x512 : Shape := ⟨4, ![1, 1, 256, 512]⟩
abbrev S256x512 : Shape := ⟨2, ![256, 512]⟩
abbrev S1536x512 : Shape := ⟨2, ![1536, 512]⟩
abbrev S1x512 : Shape := ⟨2, ![1, 512]⟩
abbrev S512 : Shape := ⟨1, ![512]⟩
abbrev S768x2x512 : Shape := ⟨3, ![768, 2, 512]⟩
abbrev S768x512 : Shape := ⟨2, ![768, 512]⟩
abbrev S64x768 : Shape := ⟨2, ![64, 768]⟩
abbrev S64 : Shape := ⟨1, ![64]⟩
abbrev S64x1 : Shape := ⟨2, ![64, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x1568x256, .f32⟩
  | .hbm, ⟨1, _⟩ => ⟨S8x512x256x25, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S64x8, .f32⟩
  | .hbm, ⟨6, _⟩ => ⟨S8x25x256x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S64x512, .f32⟩
  | .local _ .vmem, ⟨0, _⟩ => ⟨S1x1568x256, .f32⟩
  | .local _ .vmem, ⟨1, _⟩ => ⟨S1x1568x256, .f32⟩
  | .local _ .vmem, ⟨2, _⟩ => ⟨S1x25x256x512, .f32⟩
  | .local _ .vmem, ⟨3, _⟩ => ⟨S1x25x256x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S64x8, .f32⟩
  | .local _ .vmem, ⟨11, _⟩ => ⟨S64x512, .f32⟩
  | _, _ => ⟨S8x1568x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32_192 : BitVec 32 := 0#32
  let v390 : BitVec 1 := Scalar.cmpi .eq arg0 c0_i32_192
  let v391 : BitVec 32 := Scalar.extui v390
  let c0_i32_193 : BitVec 32 := 0#32
  let v392 : BitVec 1 := Scalar.cmpi .ne v391 c0_i32_193
  v392

def k0_off1 (i : grid0.Coords) : Fin 2 → Nat :=
  let c0_196 : Index := 0#32
  let arg1 : BitVec 32 := BitVec.ofNat 32 (i 1).val
  let c512_i32 : BitVec 32 := 512#32
  let v396 : BitVec 32 := Scalar.muli arg1 c512_i32
  let v397 : Index := Scalar.indexCast v396
  ![0, v397.toNat]
def k0_cond2 (i : grid0.Coords) : BitVec 1 :=
  let arg0 : BitVec 32 := BitVec.ofNat 32 (i 0).val
  let c0_i32_194 : BitVec 32 := 0#32
  let v393 : BitVec 1 := Scalar.cmpi .ne arg0 c0_i32_194
  let v394 : BitVec 32 := Scalar.extui v393
  let c0_i32_195 : BitVec 32 := 0#32
  let v395 : BitVec 1 := Scalar.cmpi .ne v394 c0_i32_195
  v395

def k0_off2 (i : grid0.Coords) : Fin 2 → Nat :=
  let c0_196 : Index := 0#32
  let arg1 : BitVec 32 := BitVec.ofNat 32 (i 1).val
  let c512_i32 : BitVec 32 := 512#32
  let v396 : BitVec 32 := Scalar.muli arg1 c512_i32
  let v397 : Index := Scalar.indexCast v396
  ![0, v397.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1568x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x25x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Kernel4Ideal.lean ====
variable {F : FTy → Type} [FloatOps F] [Named F]
def κ : String → Option EReal := fun
  | "inv_n4" => some ((1 / 1472 : ℝ) : EReal)
  | "inv_out" => some ((1 / 11 : ℝ) : EReal)
  | _ => none
-- ==== Reference4Ideal.lean ====
abbrev S8x1568x256 : Shape := ⟨3, ![8, 1568, 256]⟩
abbrev S8x512x256x25 : Shape := ⟨4, ![8, 512, 256, 25]⟩
abbrev S8x512 : Shape := ⟨2, ![8, 512]⟩
abbrev S64x8 : Shape := ⟨2, ![64, 8]⟩
abbrev S8x1536x256 : Shape := ⟨3, ![8, 1536, 256]⟩
abbrev S8x64x24x256 : Shape := ⟨4, ![8, 64, 24, 256]⟩
abbrev S8x64x23x256 : Shape := ⟨4, ![8, 64, 23, 256]⟩
abbrev S_ : Shape := ⟨0, ![]⟩
abbrev S8x64x47x256 : Shape := ⟨4, ![8, 64, 47, 256]⟩
abbrev S8x512x256x1 : Shape := ⟨4, ![8, 512, 256, 1]⟩
abbrev S8x512x256 : Shape := ⟨3, ![8, 512, 256]⟩
abbrev S8x64x23x512 : Shape := ⟨4, ![8, 64, 23, 512]⟩
abbrev S8x1x1x512 : Shape := ⟨4, ![8, 1, 1, 512]⟩
abbrev S8x64x512 : Shape := ⟨3, ![8, 64, 512]⟩
abbrev S8x64x11x512 : Shape := ⟨4, ![8, 64, 11, 512]⟩
abbrev S8x64 : Shape := ⟨2, ![8, 64]⟩
abbrev S8x64x1x1 : Shape := ⟨4, ![8, 64, 1, 1]⟩
abbrev S64x11x512 : Shape := ⟨3, ![64, 11, 512]⟩
abbrev S64x512 : Shape := ⟨2, ![64, 512]⟩

abbrev nBuf : Space → Nat
  | .hbm => 189
  | .vmem => 0
  | .smem => 0
  | _ => 0

abbrev hbmTy0_0 (i : Nat) : BufTy := match i % 128 with
  | 0 => ⟨S8x1568x256, .f32⟩
  | 1 => ⟨S8x512x256x25, .f32⟩
  | 2 => ⟨S8x512, .f32⟩
  | 3 => ⟨S8x512, .f32⟩
  | 4 => ⟨S8x512, .f32⟩
  | 5 => ⟨S64x8, .f32⟩
  | 6 => ⟨S8x1536x256, .f32⟩
  | 7 => ⟨S8x64x24x256, .f32⟩
  | 8 => ⟨S8x64x23x256, .f32⟩
  | 9 => ⟨S_, .i32⟩
  | 10 => ⟨S_, .f32⟩
  | 11 => ⟨S8x64x47x256, .f32⟩
  | 12 => ⟨S8x64x23x256, .f32⟩
  | 13 => ⟨S8x512x256x1, .f32⟩
  | 14 => ⟨S8x512x256, .f32⟩
  | 15 => ⟨S8x64x23x512, .f32⟩
  | 16 => ⟨S8x64x23x256, .f32⟩
  | 17 => ⟨S8x512x256x1, .f32⟩
  | 18 => ⟨S8x512x256, .f32⟩
  | 19 => ⟨S8x64x23x512, .f32⟩
  | 20 => ⟨S8x64x23x512, .f32⟩
  | 21 => ⟨S8x64x23x256, .f32⟩
  | 22 => ⟨S8x512x256x1, .f32⟩
  | 23 => ⟨S8x512x256, .f32⟩
  | 24 => ⟨S8x64x23x512, .f32⟩
  | 25 => ⟨S8x64x23x512, .f32⟩
  | 26 => ⟨S8x64x23x256, .f32⟩
  | 27 => ⟨S8x512x256x1, .f32⟩
  | 28 => ⟨S8x512x256, .f32⟩
  | 29 => ⟨S8x64x23x512, .f32⟩
  | 30 => ⟨S8x64x23x512, .f32⟩
  | 31 => ⟨S8x64x23x256, .f32⟩
  | 32 => ⟨S8x512x256x1, .f32⟩
  | 33 => ⟨S8x512x256, .f32⟩
  | 34 => ⟨S8x64x23x512, .f32⟩
  | 35 => ⟨S8x64x23x512, .f32⟩
  | 36 => ⟨S8x64x23x256, .f32⟩
  | 37 => ⟨S8x512x256x1, .f32⟩
  | 38 => ⟨S8x512x256, .f32⟩
  | 39 => ⟨S8x64x23x512, .f32⟩
  | 40 => ⟨S8x64x23x512, .f32⟩
  | 41 => ⟨S8x64x23x256, .f32⟩
  | 42 => ⟨S8x512x256x1, .f32⟩
  | 43 => ⟨S8x512x256, .f32⟩
  | 44 => ⟨S8x64x23x512, .f32⟩
  | 45 => ⟨S8x64x23x512, .f32⟩
  | 46 => ⟨S8x64x23x256, .f32⟩
  | 47 => ⟨S8x512x256x1, .f32⟩
  | 48 => ⟨S8x512x256, .f32⟩
  | 49 => ⟨S8x64x23x512, .f32⟩
  | 50 => ⟨S8x64x23x512, .f32⟩
  | 51 => ⟨S8x64x23x256, .f32⟩
  | 52 => ⟨S8x512x256x1, .f32⟩
  | 53 => ⟨S8x512x256, .f32⟩
  | 54 => ⟨S8x64x23x512, .f32⟩
  | 55 => ⟨S8x64x23x512, .f32⟩
  | 56 => ⟨S8x64x23x256, .f32⟩
  | 57 => ⟨S8x512x256x1, .f32⟩
  | 58 => ⟨S8x512x256, .f32⟩
  | 59 => ⟨S8x64x23x512, .f32⟩
  | 60 => ⟨S8x64x23x512, .f32⟩
  | 61 => ⟨S8x64x23x256, .f32⟩
  | 62 => ⟨S8x512x256x1, .f32⟩
  | 63 => ⟨S8x512x256, .f32⟩
  | 64 => ⟨S8x64x23x512, .f32⟩
  | 65 => ⟨S8x64x23x512, .f32⟩
  | 66 => ⟨S8x64x23x256, .f32⟩
  | 67 => ⟨S8x512x256x1, .f32⟩
  | 68 => ⟨S8x512x256, .f32⟩
  | 69 => ⟨S8x64x23x512, .f32⟩
  | 70 => ⟨S8x64x23x512, .f32⟩
  | 71 => ⟨S8x64x23x256, .f32⟩
  | 72 => ⟨S8x512x256x1, .f32⟩
  | 73 => ⟨S8x512x256, .f32⟩
  | 74 => ⟨S8x64x23x512, .f32⟩
  | 75 => ⟨S8x64x23x512, .f32⟩
  | 76 => ⟨S8x64x23x256, .f32⟩
  | 77 => ⟨S8x512x256x1, .f32⟩
  | 78 => ⟨S8x512x256, .f32⟩
  | 79 => ⟨S8x64x23x512, .f32⟩
  | 80 => ⟨S8x64x23x512, .f32⟩
  | 81 => ⟨S8x64x23x256, .f32⟩
  | 82 => ⟨S8x512x256x1, .f32⟩
  | 83 => ⟨S8x512x256, .f32⟩
  | 84 => ⟨S8x64x23x512, .f32⟩
  | 85 => ⟨S8x64x23x512, .f32⟩
  | 86 => ⟨S8x64x23x256, .f32⟩
  | 87 => ⟨S8x512x256x1, .f32⟩
  | 88 => ⟨S8x512x256, .f32⟩
  | 89 => ⟨S8x64x23x512, .f32⟩
  | 90 => ⟨S8x64x23x512, .f32⟩
  | 91 => ⟨S8x64x23x256, .f32⟩
  | 92 => ⟨S8x512x256x1, .f32⟩
  | 93 => ⟨S8x512x256, .f32⟩
  | 94 => ⟨S8x64x23x512, .f32⟩
  | 95 => ⟨S8x64x23x512, .f32⟩
  | 96 => ⟨S8x64x23x256, .f32⟩
  | 97 => ⟨S8x512x256x1, .f32⟩
  | 98 => ⟨S8x512x256, .f32⟩
  | 99 => ⟨S8x64x23x512, .f32⟩
  | 100 => ⟨S8x64x23x512, .f32⟩
  | 101 => ⟨S8x64x23x256, .f32⟩
  | 102 => ⟨S8x512x256x1, .f32⟩
  | 103 => ⟨S8x512x256, .f32⟩
  | 104 => ⟨S8x64x23x512, .f32⟩
  | 105 => ⟨S8x64x23x512, .f32⟩
  | 106 => ⟨S8x64x23x256, .f32⟩
  | 107 => ⟨S8x512x256x1, .f32⟩
  | 108 => ⟨S8x512x256, .f32⟩
  | 109 => ⟨S8x64x23x512, .f32⟩
  | 110 => ⟨S8x64x23x512, .f32⟩
  | 111 => ⟨S8x64x23x256, .f32⟩
  | 112 => ⟨S8x512x256x1, .f32⟩
  | 113 => ⟨S8x512x256, .f32⟩
  | 114 => ⟨S8x64x23x512, .f32⟩
  | 115 => ⟨S8x64x23x512, .f32⟩
  | 116 => ⟨S8x64x23x256, .f32⟩
  | 117 => ⟨S8x512x256x1, .f32⟩
  | 118 => ⟨S8x512x256, .f32⟩
  | 119 => ⟨S8x64x23x512, .f32⟩
  | 120 => ⟨S8x64x23x512, .f32⟩
  | 121 => ⟨S8x64x23x256, .f32⟩
  | 122 => ⟨S8x512x256x1, .f32⟩
  | 123 => ⟨S8x512x256, .f32⟩
  | 124 => ⟨S8x64x23x512, .f32⟩
  | 125 => ⟨S8x64x23x512, .f32⟩
  | 126 => ⟨S8x64x23x256, .f32⟩
  | 127 => ⟨S8x512x256x1, .f32⟩
  | _ => ⟨S8x1568x256, .f32⟩

abbrev hbmTy0_1 (i : Nat) : BufTy := match i % 128 with
  | 0 => ⟨S8x512x256, .f32⟩
  | 1 => ⟨S8x64x23x512, .f32⟩
  | 2 => ⟨S8x64x23x512, .f32⟩
  | 3 => ⟨S8x64x23x256, .f32⟩
  | 4 => ⟨S8x512x256x1, .f32⟩
  | 5 => ⟨S8x512x256, .f32⟩
  | 6 => ⟨S8x64x23x512, .f32⟩
  | 7 => ⟨S8x64x23x512, .f32⟩
  | 8 => ⟨S8x1x1x512, .f32⟩
  | 9 => ⟨S8x64x23x512, .f32⟩
  | 10 => ⟨S8x64x23x512, .f32⟩
  | 11 => ⟨S_, .f32⟩
  | 12 => ⟨S8x64x512, .f32⟩
  | 13 => ⟨S_, .f32⟩
  | 14 => ⟨S8x512, .f32⟩
  | 15 => ⟨S8x1x1x512, .f32⟩
  | 16 => ⟨S_, .f32⟩
  | 17 => ⟨S8x1x1x512, .f32⟩
  | 18 => ⟨S8x1x1x512, .f32⟩
  | 19 => ⟨S8x64x23x512, .f32⟩
  | 20 => ⟨S8x64x23x512, .f32⟩
  | 21 => ⟨S8x64x23x512, .f32⟩
  | 22 => ⟨S_, .f32⟩
  | 23 => ⟨S8x64x512, .f32⟩
  | 24 => ⟨S_, .f32⟩
  | 25 => ⟨S8x512, .f32⟩
  | 26 => ⟨S8x1x1x512, .f32⟩
  | 27 => ⟨S_, .f32⟩
  | 28 => ⟨S8x1x1x512, .f32⟩
  | 29 => ⟨S8x1x1x512, .f32⟩
  | 30 => ⟨S8x1x1x512, .f32⟩
  | 31 => ⟨S8x64x23x512, .f32⟩
  | 32 => ⟨S8x64x23x512, .f32⟩
  | 33 => ⟨S8x64x23x512, .f32⟩
  | 34 => ⟨S8x64x23x512, .f32⟩
  | 35 => ⟨S_, .f32⟩
  | 36 => ⟨S8x1x1x512, .f32⟩
  | 37 => ⟨S8x1x1x512, .f32⟩
  | 38 => ⟨S8x1x1x512, .f32⟩
  | 39 => ⟨S8x64x23x512, .f32⟩
  | 40 => ⟨S8x64x23x512, .f32⟩
  | 41 => ⟨S8x1x1x512, .f32⟩
  | 42 => ⟨S8x64x23x512, .f32⟩
  | 43 => ⟨S8x64x23x512, .f32⟩
  | 44 => ⟨S_, .f32⟩
  | 45 => ⟨S8x64x23x512, .f32⟩
  | 46 => ⟨S8x64x23x512, .f32⟩
  | 47 => ⟨S8x64x11x512, .f32⟩
  | 48 => ⟨S8x64x11x512, .f32⟩
  | 49 => ⟨S8x64x11x512, .f32⟩
  | 50 => ⟨S8x64, .f32⟩
  | 51 => ⟨S8x64x1x1, .f32⟩
  | 52 => ⟨S8x64x11x512, .f32⟩
  | 53 => ⟨S8x64x11x512, .f32⟩
  | 54 => ⟨S_, .f32⟩
  | 55 => ⟨S64x11x512, .f32⟩
  | 56 => ⟨S_, .f32⟩
  | 57 => ⟨S64x512, .f32⟩
  | 58 => ⟨S_, .f32⟩
  | 59 => ⟨S64x512, .f32⟩
  | 60 => ⟨S64x512, .f32⟩
  | _ => ⟨S8x1568x256, .f32⟩

abbrev hbmTy (i : Nat) : BufTy := match i / 128 with
  | 0 => hbmTy0_0 i
  | 1 => hbmTy0_1 i
  | _ => ⟨S8x1568x256, .f32⟩

abbrev bufTy : (tb : Table) → Fin (tcTables nBuf tb) → BufTy
  | .hbm, ⟨i, _⟩ => hbmTy i
  | _, _ => ⟨S8x1568x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_cst : Ref sig .tc := ⟨.hbm, 139, rfl⟩
abbrev main_v131 : Ref sig .tc := ⟨.hbm, 140, rfl⟩
abbrev main_cst_0 : Ref sig .tc := ⟨.hbm, 141, rfl⟩
abbrev main_v132 : Ref sig .tc := ⟨.hbm, 142, rfl⟩
abbrev main_v133 : Ref sig .tc := ⟨.hbm, 143, rfl⟩
abbrev main_cst_1 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_cst_2 : Ref sig .tc := ⟨.hbm, 150, rfl⟩
abbrev main_v139 : Ref sig .tc := ⟨.hbm, 151, rfl⟩
abbrev main_cst_3 : Ref sig .tc := ⟨.hbm, 152, rfl⟩
abbrev main_v140 : Ref sig .tc := ⟨.hbm, 153, rfl⟩
abbrev main_v141 : Ref sig .tc := ⟨.hbm, 154, rfl⟩
abbrev main_cst_4 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_cst_5 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_call1_cst : Ref sig .tc := ⟨.hbm, 172, rfl⟩
abbrev main_call1_v0 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_cst_6 : Ref sig .tc := ⟨.hbm, 182, rfl⟩
abbrev main_v165 : Ref sig .tc := ⟨.hbm, 183, rfl⟩
abbrev main_cst_7 : Ref sig .tc := ⟨.hbm, 184, rfl⟩
abbrev main_v166 : Ref sig .tc := ⟨.hbm, 185, rfl⟩
abbrev main_cst_8 : Ref sig .tc := ⟨.hbm, 186, rfl⟩
abbrev main_v167 : Ref sig .tc := ⟨.hbm, 187, rfl⟩
abbrev main_v168 : Ref sig .tc := ⟨.hbm, 188, rfl⟩

abbrev nD : Nat := 1
abbrev τ : Topo := Topo.v7x

variable {F : FTy → Type} [FloatOps F]
-- ==== KernelH.lean ====
abbrev S64x512 : Shape := ⟨2, ![64, 512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S5x64 : Shape := ⟨2, ![5, 64]⟩
abbrev S5 : Shape := ⟨1, ![5]⟩
abbrev S512x256 : Shape := ⟨2, ![512, 256]⟩
abbrev S1x256 : Shape := ⟨2, ![1, 256]⟩
abbrev S256x64 : Shape := ⟨2, ![256, 64]⟩
abbrev S1x64 : Shape := ⟨2, ![1, 64]⟩
abbrev S64x5 : Shape := ⟨2, ![64, 5]⟩
abbrev S1x5 : Shape := ⟨2, ![1, 5]⟩
abbrev S64x64 : Shape := ⟨2, ![64, 64]⟩

abbrev nBuf : Space → Nat
  | .hbm => 14
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S256x512, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S5x64, .f32⟩
  | .hbm, ⟨6, _⟩ => ⟨S5, .f32⟩
  | .hbm, ⟨7, _⟩ => ⟨S512x256, .f32⟩
  | .hbm, ⟨8, _⟩ => ⟨S1x256, .f32⟩
  | .hbm, ⟨9, _⟩ => ⟨S256x64, .f32⟩
  | .hbm, ⟨10, _⟩ => ⟨S1x64, .f32⟩
  | .hbm, ⟨11, _⟩ => ⟨S64x5, .f32⟩
  | .hbm, ⟨12, _⟩ => ⟨S1x5, .f32⟩
  | .hbm, ⟨13, _⟩ => ⟨S64x5, .f32⟩
  | .local _ .vmem, ⟨0, _⟩ => ⟨S64x512, .f32⟩
  | .local _ .vmem, ⟨1, _⟩ => ⟨S512x256, .f32⟩
  | .local _ .vmem, ⟨2, _⟩ => ⟨S1x256, .f32⟩
  | .local _ .vmem, ⟨3, _⟩ => ⟨S256x64, .f32⟩
  | .local _ .vmem, ⟨4, _⟩ => ⟨S1x64, .f32⟩
  | .local _ .vmem, ⟨5, _⟩ => ⟨S64x5, .f32⟩
  | .local _ .vmem, ⟨6, _⟩ => ⟨S1x5, .f32⟩
  | .local _ .vmem, ⟨7, _⟩ => ⟨S64x5, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceHIdeal.lean ====
abbrev S64x512 : Shape := ⟨2, ![64, 512]⟩
abbrev S256x512 : Shape := ⟨2, ![256, 512]⟩
abbrev S256 : Shape := ⟨1, ![256]⟩
abbrev S64x256 : Shape := ⟨2, ![64, 256]⟩
abbrev S64 : Shape := ⟨1, ![64]⟩
abbrev S5x64 : Shape := ⟨2, ![5, 64]⟩
abbrev S5 : Shape := ⟨1, ![5]⟩
abbrev S512x256 : Shape := ⟨2, ![512, 256]⟩
abbrev S1x256 : Shape := ⟨2, ![1, 256]⟩
abbrev S_ : Shape := ⟨0, ![]⟩
abbrev S256x64 : Shape := ⟨2, ![256, 64]⟩
abbrev S64x64 : Shape := ⟨2, ![64, 64]⟩
abbrev S1x64 : Shape := ⟨2, ![1, 64]⟩
abbrev S64x5 : Shape := ⟨2, ![64, 5]⟩
abbrev S1x5 : Shape := ⟨2, ![1, 5]⟩

abbrev nBuf : Space → Nat
  | .hbm => 28
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S256x512, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S5x64, .f32⟩
  | .hbm, ⟨6, _⟩ => ⟨S5, .f32⟩
  | .hbm, ⟨7, _⟩ => ⟨S512x256, .f32⟩
  | .hbm, ⟨8, _⟩ => ⟨S64x256, .f32⟩
  | .hbm, ⟨9, _⟩ => ⟨S1x256, .f32⟩
  | .hbm, ⟨10, _⟩ => ⟨S64x256, .f32⟩
  | .hbm, ⟨11, _⟩ => ⟨S64x256, .f32⟩
  | .hbm, ⟨12, _⟩ => ⟨S_, .f32⟩
  | .hbm, ⟨13, _⟩ => ⟨S64x256, .f32⟩
  | .hbm, ⟨14, _⟩ => ⟨S64x256, .f32⟩
  | .hbm, ⟨15, _⟩ => ⟨S256x64, .f32⟩
  | .hbm, ⟨16, _⟩ => ⟨S64x64, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S64x5, .f32⟩
  | .hbm, ⟨24, _⟩ => ⟨S64x5, .f32⟩
  | .hbm, ⟨25, _⟩ => ⟨S1x5, .f32⟩
  | .hbm, ⟨26, _⟩ => ⟨S64x5, .f32⟩
  | .hbm, ⟨27, _⟩ => ⟨S64x5, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== KernelS.lean ====
abbrev S64x1x187 : Shape := ⟨3, ![64, 1, 187]⟩
abbrev S16x1x3 : Shape := ⟨3, ![16, 1, 3]⟩
abbrev S16 : Shape := ⟨1, ![16]⟩
abbrev S8x16 : Shape := ⟨2, ![8, 16]⟩
abbrev S8 : Shape := ⟨1, ![8]⟩
abbrev S64x187 : Shape := ⟨2, ![64, 187]⟩
abbrev S_ : Shape := ⟨0, ![]⟩
abbrev S64x1 : Shape := ⟨2, ![64, 1]⟩
abbrev S64x186 : Shape := ⟨2, ![64, 186]⟩
abbrev S64x187x1 : Shape := ⟨3, ![64, 187, 1]⟩
abbrev S64x187x3 : Shape := ⟨3, ![64, 187, 3]⟩
abbrev S64x192x3 : Shape := ⟨3, ![64, 192, 3]⟩
abbrev S12288x3 : Shape := ⟨2, ![12288, 3]⟩
abbrev S12320x3 : Shape := ⟨2, ![12320, 3]⟩
abbrev S16x3 : Shape := ⟨2, ![16, 3]⟩
abbrev S3x16 : Shape := ⟨2, ![3, 16]⟩
abbrev S1x16 : Shape := ⟨2, ![1, 16]⟩
abbrev S16x8 : Shape := ⟨2, ![16, 8]⟩
abbrev S1x8 : Shape := ⟨2, ![1, 8]⟩
abbrev S12320x16 : Shape := ⟨2, ![12320, 16]⟩
abbrev S64x8 : Shape := ⟨2, ![64, 8]⟩
abbrev S1x1 : Shape := ⟨2, ![1, 1]⟩
abbrev S12288x16 : Shape := ⟨2, ![12288, 16]⟩
abbrev S16x16 : Shape := ⟨2, ![16, 16]⟩
abbrev S64x12288 : Shape := ⟨2, ![64, 12288]⟩
abbrev S64x16 : Shape := ⟨2, ![64, 16]⟩
abbrev S64 : Shape := ⟨1, ![64]⟩
abbrev S1 : Shape := ⟨1, ![1]⟩

abbrev nBuf : Space → Nat
  | .hbm => 31
  | .vmem => 8
  | .smem => 0
  | _ => 0

abbrev bufTy : (tb : Table) → Fin (tcTables nBuf tb) → BufTy
  | .hbm, ⟨0, _⟩ => ⟨S64x1x187, .f32⟩
  | .hbm, ⟨1, _⟩ => ⟨S16x1x3, .f32⟩
  | .hbm, ⟨2, _⟩ => ⟨S16, .f32⟩
  | .hbm, ⟨3, _⟩ => ⟨S8x16, .f32⟩
  | .hbm, ⟨4, _⟩ => ⟨S8, .f32⟩
  | .hbm, ⟨5, _⟩ => ⟨S64x187, .f32⟩
  | .hbm, ⟨6, _⟩ => ⟨S_, .f32⟩
  | .hbm, ⟨7, _⟩ => ⟨S64x1, .f32⟩
  | .hbm, ⟨8, _⟩ => ⟨S64x186, .f32⟩
  | .hbm, ⟨9, _⟩ => ⟨S64x187, .f32⟩
  | .hbm, ⟨10, _⟩ => ⟨S64x186, .f32⟩
  | .hbm, ⟨11, _⟩ => ⟨S64x187, .f32⟩
  | .hbm, ⟨12, _⟩ => ⟨S64x187x1, .f32⟩
  | .hbm, ⟨13, _⟩ => ⟨S64x187x1, .f32⟩
  | .hbm, ⟨14, _⟩ => ⟨S64x187x1, .f32⟩
  | .hbm, ⟨15, _⟩ => ⟨S64x187x3, .f32⟩
  | .hbm, ⟨16, _⟩ => ⟨S_, .i32⟩
  | .hbm, ⟨17, _⟩ => ⟨S_, .f32⟩
  | .hbm, ⟨18, _⟩ => ⟨S64x192x3, .f32⟩
  | .hbm, ⟨19, _⟩ => ⟨S12288x3, .f32⟩
  | .hbm, ⟨20, _⟩ => ⟨S_, .i32⟩
  | .hbm, ⟨21, _⟩ => ⟨S_, .f32⟩
  | .hbm, ⟨22, _⟩ => ⟨S12320x3, .f32⟩
  | .hbm, ⟨23, _⟩ => ⟨S16x3, .f32⟩
  | .hbm, ⟨24, _⟩ => ⟨S3x16, .f32⟩
  | .hbm, ⟨25, _⟩ => ⟨S1x16, .f32⟩
  | .hbm, ⟨26, _⟩ => ⟨S16x8, .f32⟩
  | .hbm, ⟨27, _⟩ => ⟨S1x8, .f32⟩
  | .hbm, ⟨28, _⟩ => ⟨S12320x16, .f32⟩
  | .hbm, ⟨29, _⟩ => ⟨S64x8, .f32⟩
  | .hbm, ⟨30, _⟩ => ⟨S1x1, .f32⟩
  | .local _ .vmem, ⟨0, _⟩ => ⟨S12320x3, .f32⟩
  | .local _ .vmem, ⟨1, _⟩ => ⟨S3x16, .f32⟩
  | .local _ .vmem, ⟨2, _⟩ => ⟨S1x16, .f32⟩
  | .local _ .vmem, ⟨3, _⟩ => ⟨S16x8, .f32⟩
  | .local _ .vmem, ⟨4, _⟩ => ⟨S1x8, .f32⟩
  | .local _ .vmem, ⟨5, _⟩ => ⟨S12320x16, .f32⟩
  | .local _ .vmem, ⟨6, _⟩ => ⟨S64x8, .f32⟩
  | .local _ .vmem, ⟨7, _⟩ => ⟨S1x1, .f32⟩
  | _, _ => ⟨S64x1x187, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12320x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12320x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelSIdeal.lean ====
variable {F : FTy → Type} [FloatOps F] [Named F]
def κ : String → Option EReal := fun
  | "inv_dof" => some ((1 / 7 : ℝ) : EReal)
  | "inv_len" => some ((1 / 187 : ℝ) : EReal)
  | _ => none
-- ==== ReferenceSIdeal.lean ====
abbrev S64x1x187 : Shape := ⟨3, ![64, 1, 187]⟩
abbrev S16x1x3 : Shape := ⟨3, ![16, 1, 3]⟩
abbrev S16 : Shape := ⟨1, ![16]⟩
abbrev S8x16 : Shape := ⟨2, ![8, 16]⟩
abbrev S8 : Shape := ⟨1, ![8]⟩
abbrev S_ : Shape := ⟨0, ![]⟩
abbrev S64x1x189 : Shape := ⟨3, ![64, 1, 189]⟩
abbrev S16x1x1 : Shape := ⟨3, ![16, 1, 1]⟩
abbrev S16x1 : Shape := ⟨2, ![16, 1]⟩
abbrev S16x64x187 : Shape := ⟨3, ![16, 64, 187]⟩
abbrev S64x16x187 : Shape := ⟨3, ![64, 16, 187]⟩
abbrev S1x16x1 : Shape := ⟨3, ![1, 16, 1]⟩
abbrev S64x16 : Shape := ⟨2, ![64, 16]⟩
abbrev S16x8 : Shape := ⟨2, ![16, 8]⟩
abbrev S64x8 : Shape := ⟨2, ![64, 8]⟩
abbrev S1x8 : Shape := ⟨2, ![1, 8]⟩
abbrev S64 : Shape := ⟨1, ![64]⟩
abbrev S64x1 : Shape := ⟨2, ![64, 1]⟩
abbrev S1 : Shape := ⟨1, ![1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S64x1x187, .f32⟩
  | .hbm, ⟨1, _⟩ => ⟨S16x1x3, .f32⟩
  | .hbm, ⟨2, _⟩ => ⟨S16, .f32⟩
  | .hbm, ⟨3, _⟩ => ⟨S8x16, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S64x1x189, .f32⟩
  | .hbm, ⟨8, _⟩ => ⟨S64x1x187, .f32⟩
  | .hbm, ⟨9, _⟩ => ⟨S16x1x1, .f32⟩
  | .hbm, ⟨10, _⟩ => ⟨S16x1, .f32⟩
  | .hbm, ⟨11, _⟩ => ⟨S16x64x187, .f32⟩
  | .hbm, ⟨12, _⟩ => ⟨S64x16x187, .f32⟩
  | .hbm, ⟨13, _⟩ => ⟨S64x1x187, .f32⟩
  | .hbm, ⟨14, _⟩ => ⟨S16x1x1, .f32⟩
  | .hbm, ⟨15, _⟩ => ⟨S16x1, .f32⟩
  | .hbm, ⟨16, _⟩ => ⟨S16x64x187, .f32⟩
  | .hbm, ⟨17, _⟩ => ⟨S64x16x187, .f32⟩
  | .hbm, ⟨18, _⟩ => ⟨S64x16x187, .f32⟩
  | .hbm, ⟨19, _⟩ => ⟨S64x1x187, .f32⟩
  | .hbm, ⟨20, _⟩ => ⟨S16x1x1, .f32⟩
  | .hbm, ⟨21, _⟩ => ⟨S16x1, .f32⟩
  | .hbm, ⟨22, _⟩ => ⟨S16x64x187, .f32⟩
  | .hbm, ⟨23, _⟩ => ⟨S64x16x187, .f32⟩
  | .hbm, ⟨24, _⟩ => ⟨S64x16x187, .f32⟩
  | .hbm, ⟨25, _⟩ => ⟨S1x16x1, .f32⟩
  | .hbm, ⟨26, _⟩ => ⟨S64x16x187, .f32⟩
  | .hbm, ⟨27, _⟩ => ⟨S64x16x187, .f32⟩
  | .hbm, ⟨28, _⟩ => ⟨S_, .f32⟩
  | .hbm, ⟨29, _⟩ => ⟨S64x16x187, .f32⟩
  | .hbm, ⟨30, _⟩ => ⟨S64x16x187, .f32⟩
  | .hbm, ⟨31, _⟩ => ⟨S_, .f32⟩
  | .hbm, ⟨32, _⟩ => ⟨S64x16, .f32⟩
  | .hbm, ⟨33, _⟩ => ⟨S_, .f32⟩
  | .hbm, ⟨34, _⟩ => ⟨S64x16, .f32⟩
  | .hbm, ⟨35, _⟩ => ⟨S64x16, .f32⟩
  | .hbm, ⟨36, _⟩ => ⟨S16x8, .f32⟩
  | .hbm, ⟨37, _⟩ => ⟨S64x8, .f32⟩
  | .hbm, ⟨38, _⟩ => ⟨S1x8, .f32⟩
  | .hbm, ⟨39, _⟩ => ⟨S64x8, .f32⟩
  | .hbm, ⟨40, _⟩ => ⟨S64x8, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64x1, .f32⟩
  | .hbm, ⟨47, _⟩ => ⟨S64x8, .f32⟩
  | .hbm, ⟨48, _⟩ => ⟨S64x8, .f32⟩
  | .hbm, ⟨49, _⟩ => ⟨S64x8, .f32⟩
  | .hbm, ⟨50, _⟩ => ⟨S_, .f32⟩
  | .hbm, ⟨51, _⟩ => ⟨S64, .f32⟩
  | .hbm, ⟨52, _⟩ => ⟨S64x1, .f32⟩
  | .hbm, ⟨53, _⟩ => ⟨S64x8, .f32⟩
  | .hbm, ⟨54, _⟩ => ⟨S64x8, .f32⟩
  | .hbm, ⟨55, _⟩ => ⟨S_, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .i32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S1, .f32⟩
  | .hbm, ⟨67, _⟩ => ⟨S8, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1x1, .f32⟩
  | _, _ => ⟨S64x1x187, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call1_cst : Ref sig .tc := ⟨.hbm, 28, rfl⟩
abbrev main_call1_v0 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_call2_call0_cst : Ref sig .tc := ⟨.hbm, 61, rfl⟩
abbrev main_call2_call0_v0 : Ref sig .tc := ⟨.hbm, 62, rfl⟩
abbrev main_call2_call0_v1 : Ref sig .tc := ⟨.hbm, 63, rfl⟩
abbrev main_call2_call0_cst_0 : Ref sig .tc := ⟨.hbm, 64, rfl⟩
abbrev main_call2_call0_v2 : Ref sig .tc := ⟨.hbm, 65, rfl⟩
abbrev main_call2_call0_v3 : Ref sig .tc := ⟨.hbm, 66, rfl⟩
abbrev main_call2_call0_v4 : Ref sig .tc := ⟨.hbm, 67, rfl⟩
abbrev main_call2_call0_v5 : Ref sig .tc := ⟨.hbm, 68, rfl⟩
abbrev main_call2_call0_v6 : Ref sig .tc := ⟨.hbm, 69, rfl⟩
abbrev main_call2_call0_v7 : Ref sig .tc := ⟨.hbm, 70, rfl⟩
abbrev main_call2_call0_cst_1 : Ref sig .tc := ⟨.hbm, 71, rfl⟩
abbrev main_call2_call0_v8 : Ref sig .tc := ⟨.hbm, 72, rfl⟩
abbrev main_call2_call0_cst_2 : Ref sig .tc := ⟨.hbm, 73, rfl⟩
abbrev main_call2_call0_v9 : Ref sig .tc := ⟨.hbm, 74, rfl⟩
abbrev main_call2_call0_v10 : Ref sig .tc := ⟨.hbm, 75, rfl⟩
abbrev main_call2_call0_cst_3 : Ref sig .tc := ⟨.hbm, 76, rfl⟩
abbrev main_call2_call0_v11 : Ref sig .tc := ⟨.hbm, 77, rfl⟩
abbrev main_call2_call0_cst_4 : Ref sig .tc := ⟨.hbm, 78, rfl⟩
abbrev main_call2_call0_call0_v0 : Ref sig .tc := ⟨.hbm, 79, rfl⟩
abbrev main_call2_v0 : Ref sig .tc := ⟨.hbm, 80, rfl⟩
abbrev main_v44 : Ref sig .tc := ⟨.hbm, 81, rfl⟩
abbrev main_cst_7 : Ref sig .tc := ⟨.hbm, 82, rfl⟩
abbrev main_v45 : Ref sig .tc := ⟨.hbm, 83, rfl⟩
abbrev main_cst_8 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]
-- ==== Proof.RunIRegion0.lean ====
/- Call 0 of the kernel program read over the extended reals: what its body leaves in its result windows, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev VO0_5 : View sig .tc .vmem S12320x16 .f32 := (Memref.whole cc0_stg5_0 : Memref sig .tc .vmem S12320x16 .f32).view
abbrev VO0_6 : View sig .tc .vmem S64x8 .f32 := (Memref.whole cc0_stg6_0 : Memref sig .tc .vmem S64x8 .f32).view
abbrev VO0_7 : View sig .tc .vmem S1x1 .f32 := (Memref.whole cc0_stg7_0 : Memref sig .tc .vmem S1x1 .f32).view
abbrev ms0_0 (t : Fin cfg0.N) : Memref sig .tc .vmem S12320x3 .f32 := win0_0.stage (cfg0.slots t 0)
abbrev hs0_0 (t : Fin cfg0.N) : (ms0_0 t).IsWhole := hstage0_0 0
abbrev ms0_1 (t : Fin cfg0.N) : Memref sig .tc .vmem S3x16 .f32 := win0_1.stage (cfg0.slots t 1)
abbrev hs0_1 (t : Fin cfg0.N) : (ms0_1 t).IsWhole := hstage0_1 0
abbrev ms0_2 (t : Fin cfg0.N) : Memref sig .tc .vmem S1x16 .f32 := win0_2.stage (cfg0.slots t 2)
abbrev hs0_2 (t : Fin cfg0.N) : (ms0_2 t).IsWhole := hstage0_2 0
abbrev ms0_3 (t : Fin cfg0.N) : Memref sig .tc .vmem S16x8 .f32 := win0_3.stage (cfg0.slots t 3)
abbrev hs0_3 (t : Fin cfg0.N) : (ms0_3 t).IsWhole := hstage0_3 0
abbrev ms0_4 (t : Fin cfg0.N) : Memref sig .tc .vmem S1x8 .f32 := win0_4.stage (cfg0.slots t 4)
abbrev hs0_4 (t : Fin cfg0.N) : (ms0_4 t).IsWhole := hstage0_4 0
abbrev ms0_5 (t : Fin cfg0.N) : Memref sig .tc .vmem S12320x16 .f32 := win0_5.stage (cfg0.slots t 5)
abbrev hs0_5 (t : Fin cfg0.N) : (ms0_5 t).IsWhole := hstage0_5 0
abbrev ms0_6 (t : Fin cfg0.N) : Memref sig .tc .vmem S64x8 .f32 := win0_6.stage (cfg0.slots t 6)
abbrev hs0_6 (t : Fin cfg0.N) : (ms0_6 t).IsWhole := hstage0_6 0
abbrev ms0_7 (t : Fin cfg0.N) : Memref sig .tc .vmem S1x1 .f32 := win0_7.stage (cfg0.slots t 7)
abbrev hs0_7 (t : Fin cfg0.N) : (ms0_7 t).IsWhole := hstage0_7 0

section Body
variable (c : Dev nD) (arg0 : Memref sig .tc .vmem S12320x3 .f32) (harg0 : arg0.IsWhole) (arg1 : Memref sig .tc .vmem S3x16 .f32) (harg1 : arg1.IsWhole) (arg2 : Memref sig .tc .vmem S1x16 .f32) (harg2 : arg2.IsWhole) (arg3 : Memref sig .tc .vmem S16x8 .f32) (harg3 : arg3.IsWhole) (arg4 : Memref sig .tc .vmem S1x8 .f32) (harg4 : arg4.IsWhole) (arg5 : Memref sig .tc .vmem S12320x16 .f32) (harg5 : arg5.IsWhole) (arg6 : Memref sig .tc .vmem S64x8 .f32) (harg6 : arg6.IsWhole) (arg7 : Memref sig .tc .vmem S1x1 .f32) (harg7 : arg7.IsWhole)
  (x0 : Vec F S12320x3 .f32) (x1 : Vec F S3x16 .f32) (x2 : Vec F S1x16 .f32) (x3 : Vec F S16x8 .f32) (x4 : Vec F S1x8 .f32)

set_option maxHeartbeats 1000000 in
noncomputable def kernelRun0_A :
    Σ' (L5 : List (View.Piece (Elt F) S12320x16 .f32)), Σ' (L6 : List (View.Piece (Elt F) S64x8 .f32)), { L7 : List (View.Piece (Elt F) S1x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__stem_body arg0 harg0 arg1 harg1 arg2 harg2 arg3 harg3 arg4 harg4 arg5 harg5 arg6 harg6 arg7 harg7) K } := by
  refine ⟨?_, ?_, ?_, fun E K => ?run⟩
  case run =>
    simp only [cc0__stem_body_eq_skeleton]; unfold cc0__stem_body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

theorem cover0_A_5 (y : S12320x16.Idx) :
    ∃ pc ∈ (kernelRun0_A c arg0 harg0 arg1 harg1 arg2 harg2 arg3 harg3 arg4 harg4 arg5 harg5 arg6 harg6 arg7 harg7 x0 x1 x2 x3 x4).1, y ∈ pc.1.set :=
  View.cover_of_tiledBy (kernelRun0_A c arg0 harg0 arg1 harg1 arg2 harg2 arg3 harg3 arg4 harg4 arg5 harg5 arg6 harg6 arg7 harg7 x0 x1 x2 x3 x4).1 ![16, 16] (by sl_kernel_rfl) y

def out0_A_5 : Vec F S12320x16 .f32 :=
  VO0_5.read (Elt F) (VO0_5.writes (Elt F) VO0_5.junk (kernelRun0_A c arg0 harg0 arg1 harg1 arg2 harg2 arg3 harg3 arg4 harg4 arg5 harg5 arg6 harg6 arg7 harg7 x0 x1 x2 x3 x4).1)

theorem cover0_A_6 (y : S64x8.Idx) :
    ∃ pc ∈ (kernelRun0_A c arg0 harg0 arg1 harg1 arg2 harg2 arg3 harg3 arg4 harg4 arg5 harg5 arg6 harg6 arg7 harg7 x0 x1 x2 x3 x4).2.1, y ∈ pc.1.set :=
  View.cover_of_tiledL (kernelRun0_A c arg0 harg0 arg1 harg1 arg2 harg2 arg3 harg3 arg4 harg4 arg5 harg5 arg6 harg6 arg7 harg7 x0 x1 x2 x3 x4).2.1 S64x8.size (by sl_kernel_rfl) y

def out0_A_6 : Vec F S64x8 .f32 :=
  VO0_6.read (Elt F) (VO0_6.writes (Elt F) VO0_6.junk (kernelRun0_A c arg0 harg0 arg1 harg1 arg2 harg2 arg3 harg3 arg4 harg4 arg5 harg5 arg6 harg6 arg7 harg7 x0 x1 x2 x3 x4).2.1)

theorem cover0_A_7 (y : S1x1.Idx) :
    ∃ pc ∈ (kernelRun0_A c arg0 harg0 arg1 harg1 arg2 harg2 arg3 harg3 arg4 harg4 arg5 harg5 arg6 harg6 arg7 harg7 x0 x1 x2 x3 x4).2.2.1, y ∈ pc.1.set :=
  View.cover_of_tiledL (kernelRun0_A c arg0 harg0 arg1 harg1 arg2 harg2 arg3 harg3 arg4 harg4 arg5 harg5 arg6 harg6 arg7 harg7 x0 x1 x2 x3 x4).2.2.1 S1x1.size (by sl_kernel_rfl) y

def out0_A_7 : Vec F S1x1 .f32 :=
  VO0_7.read (Elt F) (VO0_7.writes (Elt F) VO0_7.junk (kernelRun0_A c arg0 harg0 arg1 harg1 arg2 harg2 arg3 harg3 arg4 harg4 arg5 harg5 arg6 harg6 arg7 harg7 x0 x1 x2 x3 x4).2.2.1)

end Body

def outsAt0 (c : Dev nD) (t : Fin cfg0.N) : Vec F S12320x16 .f32 × Vec F S64x8 .f32 × Vec F S1x1 .f32 :=
  (out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outsAt0
  unfold out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.RunIRegion1.lean ====
/- Call 1 of the kernel program read over the extended reals: what its body leaves in its result windows, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S1x6176x64 .f32 := (Memref.whole cc1_stg5_0 : Memref sig .tc .vmem S1x6176x64 .f32).view
abbrev ms1_0 (t : Fin cfg1.N) : Memref sig .tc .vmem S12320x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x6176x64 .f32 := win1_5.stage (cfg1.slots t 5)
abbrev hs1_5 (t : Fin cfg1.N) : (ms1_5 t).IsWhole := hstage1_5 ((cfg1.slots t 5).cast nbuf1_5)

section Body
variable (c : Dev nD) (i : grid1.Coords) (arg1 : Memref sig .tc .vmem S12320x16 .f32) (harg1 : arg1.IsWhole) (arg2 : Memref sig .tc .vmem S1x3x16x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1x64 .f32) (harg5 : arg5.IsWhole) (arg6 : Memref sig .tc .vmem S1x6176x64 .f32) (harg6 : arg6.IsWhole)
  (x0 : Vec F S12320x16 .f32) (x1 : Vec F S1x3x16x64 .f32) (x2 : Vec F S1x1x64 .f32) (x3 : Vec F S1x1x64 .f32) (x4 : Vec F S1x1x64 .f32)

set_option maxHeartbeats 1000000 in
noncomputable def kernelRun1_A :
    { L5 : List (View.Piece (Elt F) S1x6176x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__layer_body i arg1 harg1 arg2 harg2 arg3 harg3 arg4 harg4 arg5 harg5 arg6 harg6) K } := by
  refine ⟨?_, fun E K => ?run⟩
  case run =>
    simp only [cc1__layer_body_eq_skeleton]; unfold cc1__layer_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover1_A_5 (y : S1x6176x64.Idx) :
    ∃ pc ∈ (kernelRun1_A c i arg1 harg1 arg2 harg2 arg3 harg3 arg4 harg4 arg5 harg5 arg6 harg6 x0 x1 x2 x3 x4).1, y ∈ pc.1.set :=
  View.cover_of_tiledBy (kernelRun1_A c i arg1 harg1 arg2 harg2 arg3 harg3 arg4 harg4 arg5 harg5 arg6 harg6 x0 x1 x2 x3 x4).1 ![1, 16, 64] (by sl_kernel_rfl) y

def out1_A_5 : Vec F S1x6176x64 .f32 :=
  VO1_5.read (Elt F) (VO1_5.writes (Elt F) VO1_5.junk (kernelRun1_A c i arg1 harg1 arg2 harg2 arg3 harg3 arg4 harg4 arg5 harg5 arg6 harg6 x0 x1 x2 x3 x4).1)

end Body

def outsAt1 (c : Dev nD) (t : Fin cfg1.N) : Vec F S1x6176x64 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunIRegion2.lean ====
/- Call 2 of the kernel program read over the extended reals: what its body leaves in its result windows, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S1x3104x128 .f32 := (Memref.whole cc2_stg5_0 : Memref sig .tc .vmem S1x3104x128 .f32).view
abbrev ms2_0 (t : Fin cfg2.N) : Memref sig .tc .vmem S1x6176x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x9x64x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x3104x128 .f32 := win2_5.stage (cfg2.slots t 5)
abbrev hs2_5 (t : Fin cfg2.N) : (ms2_5 t).IsWhole := hstage2_5 ((cfg2.slots t 5).cast nbuf2_5)

section Body
variable (c : Dev nD) (i : grid2.Coords) (arg1 : Memref sig .tc .vmem S1x6176x64 .f32) (harg1 : arg1.IsWhole) (arg2 : Memref sig .tc .vmem S1x9x64x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x3104x128 .f32) (harg6 : arg6.IsWhole)
  (x0 : Vec F S1x6176x64 .f32) (x1 : Vec F S1x9x64x128 .f32) (x2 : Vec F S1x1x128 .f32) (x3 : Vec F S1x1x128 .f32) (x4 : Vec F S1x1x128 .f32)

set_option maxHeartbeats 1000000 in
noncomputable def kernelRun2_A :
    { L5 : List (View.Piece (Elt F) S1x3104x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__layer_body i arg1 harg1 arg2 harg2 arg3 harg3 arg4 harg4 arg5 harg5 arg6 harg6) K } := by
  refine ⟨?_, fun E K => ?run⟩
  case run =>
    simp only [cc2__layer_body_eq_skeleton]; unfold cc2__layer_body_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover2_A_5 (y : S1x3104x128.Idx) :
    ∃ pc ∈ (kernelRun2_A c i arg1 harg1 arg2 harg2 arg3 harg3 arg4 harg4 arg5 harg5 arg6 harg6 x0 x1 x2 x3 x4).1, y ∈ pc.1.set :=
  View.cover_of_tiledBy (kernelRun2_A c i arg1 harg1 arg2 harg2 arg3 harg3 arg4 harg4 arg5 harg5 arg6 harg6 x0 x1 x2 x3 x4).1 ![1, 16, 128] (by sl_kernel_rfl) y

def out2_A_5 : Vec F S1x3104x128 .f32 :=
  VO2_5.read (Elt F) (VO2_5.writes (Elt F) VO2_5.junk (kernelRun2_A c i arg1 harg1 arg2 harg2 arg3 harg3 arg4 harg4 arg5 harg5 arg6 harg6 x0 x1 x2 x3 x4).1)

end Body

def outsAt2 (c : Dev nD) (t : Fin cfg2.N) : Vec F S1x3104x128 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.RunIRegion3.lean ====
/- Call 3 of the kernel program read over the extended reals: what its body leaves in its result windows, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev VO3_5 : View sig .tc .vmem S1x1568x256 .f32 := (Memref.whole cc3_stg5_0 : Memref sig .tc .vmem S1x1568x256 .f32).view
abbrev ms3_0 (t : Fin cfg3.N) : Memref sig .tc .vmem S1x3104x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x11x128x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1568x256 .f32 := win3_5.stage (cfg3.slots t 5)
abbrev hs3_5 (t : Fin cfg3.N) : (ms3_5 t).IsWhole := hstage3_5 ((cfg3.slots t 5).cast nbuf3_5)

section Body
variable (c : Dev nD) (i : grid3.Coords) (arg1 : Memref sig .tc .vmem S1x3104x128 .f32) (harg1 : arg1.IsWhole) (arg2 : Memref sig .tc .vmem S1x11x128x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1568x256 .f32) (harg6 : arg6.IsWhole)
  (x0 : Vec F S1x3104x128 .f32) (x1 : Vec F S1x11x128x256 .f32) (x2 : Vec F S1x1x256 .f32) (x3 : Vec F S1x1x256 .f32) (x4 : Vec F S1x1x256 .f32)

set_option maxHeartbeats 1000000 in
noncomputable def kernelRun3_A :
    { L5 : List (View.Piece (Elt F) S1x1568x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc3__layer_body i arg1 harg1 arg2 harg2 arg3 harg3 arg4 harg4 arg5 harg5 arg6 harg6) K } := by
  refine ⟨?_, fun E K => ?run⟩
  case run =>
    simp only [cc3__layer_body_eq_skeleton]; unfold cc3__layer_body_skel
    simp only [k3_part1_eq_skeleton, k3_part2_eq_skeleton, k3_part3_eq_skeleton, k3_part4_eq_skeleton, k3_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover3_A_5 (y : S1x1568x256.Idx) :
    ∃ pc ∈ (kernelRun3_A c i arg1 harg1 arg2 harg2 arg3 harg3 arg4 harg4 arg5 harg5 arg6 harg6 x0 x1 x2 x3 x4).1, y ∈ pc.1.set :=
  View.cover_of_tiledBy (kernelRun3_A c i arg1 harg1 arg2 harg2 arg3 harg3 arg4 harg4 arg5 harg5 arg6 harg6 x0 x1 x2 x3 x4).1 ![1, 16, 256] (by sl_kernel_rfl) y

def out3_A_5 : Vec F S1x1568x256 .f32 :=
  VO3_5.read (Elt F) (VO3_5.writes (Elt F) VO3_5.junk (kernelRun3_A c i arg1 harg1 arg2 harg2 arg3 harg3 arg4 harg4 arg5 harg5 arg6 harg6 x0 x1 x2 x3 x4).1)

end Body

def outsAt3 (c : Dev nD) (t : Fin cfg3.N) : Vec F S1x1568x256 .f32 :=
  out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_5
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t) (iblk3 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_A_5 c _ _ _ _ _ _ _ _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.RunIRegion4Runs.lean ====
/- Call 4 of the kernel program read over the extended reals: the runs of its body at its first grid point and at the later ones. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := k4_cond1 i = 1#1
theorem hcond4_0 : ∀ t : Fin cfg4.N, cond4_0 (grid4.coords t) ↔ t.val % 8 = 0 :=
  (fun t => by
    have ht : t.val < 8 := Nat.lt_of_lt_of_eq t.isLt N_4
    have e0 : (grid4.coords t 0).val = t.val / 1 % 8 := Pipeline.Grid.coords_val t 0 (by decide) rfl
    have e1 : (grid4.coords t 1).val = t.val / 1 % 1 := Pipeline.Grid.coords_val t 1 (by decide) rfl
    simp only [cond4_0, k4_cond1, e0, e1]
    word_cmp
   : ∀ t : Fin grid4.N, cond4_0 (grid4.coords t) ↔ t.val % 8 = 0)

abbrev cond4_1 (i : grid4.Coords) : Prop := k4_cond2 i = 1#1
theorem hcond4_1 : ∀ t : Fin cfg4.N, cond4_1 (grid4.coords t) ↔ 1 ≤ t.val :=
  (fun t => by
    have ht : t.val < 8 := Nat.lt_of_lt_of_eq t.isLt N_4
    have e0 : (grid4.coords t 0).val = t.val / 1 % 8 := Pipeline.Grid.coords_val t 0 (by decide) rfl
    have e1 : (grid4.coords t 1).val = t.val / 1 % 1 := Pipeline.Grid.coords_val t 1 (by decide) rfl
    simp only [cond4_1, k4_cond2, e0, e1]
    word_cmp
   : ∀ t : Fin grid4.N, cond4_1 (grid4.coords t) ↔ 1 ≤ t.val)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
def freshTab4_6 : ℕ → Bool
  | 0 => true
  | n + 1 => (0x80 : ℕ).testBit n
theorem freshTab4_6_step : ∀ t : Fin cfg4.N,
    freshTab4_6 (t.val + 1) = ((cfg4.win 6).flush t || (cfg4.idle 6 (cfg4.grid.coords t) && freshTab4_6 t.val)) := by decide +kernel
theorem fresh4_6_eq (t : Fin cfg4.N) : cfg4.fresh 6 t.val = freshTab4_6 t.val :=
  Pipeline.Cfg.fresh_tab cfg4 6 freshTab4_6 rfl freshTab4_6_step t.val (Nat.le_of_lt t.isLt)
theorem liveAt4_6_A : ∀ t : Fin cfg4.N, cond4_0 (grid4.coords t) → ¬cond4_1 (grid4.coords t) → cfg4.idle 6 (grid4.coords t) = false := by decide +kernel
theorem liveAt4_6_B : ∀ t : Fin cfg4.N, ¬cond4_0 (grid4.coords t) → cond4_1 (grid4.coords t) → cfg4.idle 6 (grid4.coords t) = false := by decide +kernel
theorem notFresh4_6_B : ∀ t : Fin cfg4.N, ¬cond4_0 (grid4.coords t) → cond4_1 (grid4.coords t) → cfg4.fresh 6 t.val = false := by
  intro t; rw [fresh4_6_eq t]; revert t; decide +kernel

abbrev VO4_6 : View sig .tc .vmem S64x512 .f32 := (Memref.whole cc4_stg6_0 : Memref sig .tc .vmem S64x512 .f32).view
abbrev ms4_0 (t : Fin cfg4.N) : Memref sig .tc .vmem S1x1568x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x25x256x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S64x8 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x512 .f32 := win4_6.stage (cfg4.slots t 6)
abbrev hs4_6 (t : Fin cfg4.N) : (ms4_6 t).IsWhole := hstage4_6 ((cfg4.slots t 6).cast nbuf4_6)

section Body
variable (c : Dev nD) (i : grid4.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole)

set_option maxHeartbeats 1000000 in
noncomputable def kernelRun4_A (hc0 : cond4_0 i) (hc1 : ¬cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) :
    { L6 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc4__layer4_body i arg2 harg2 arg3 harg3 arg4 harg4 arg5 harg5 arg6 harg6 arg7 harg7 arg8 harg8) K } := by
  refine ⟨?_, fun E K => ?run⟩
  case run =>
    simp only [cc4__layer4_body_eq_skeleton]; unfold cc4__layer4_body_skel
    simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
noncomputable def kernelRun4_B (hc0 : ¬cond4_0 i) (hc1 : cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) :
    { L6 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc4__layer4_body i arg2 harg2 arg3 harg3 arg4 harg4 arg5 harg5 arg6 harg6 arg7 harg7 arg8 harg8) K } := by
  refine ⟨?_, fun E K => ?run⟩
  case run =>
    simp only [cc4__layer4_body_eq_skeleton]; unfold cc4__layer4_body_skel
    simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Body

end Cert.KernelIdeal.Gen

end
-- ==== Proof.RunIRegion4.lean ====
/- Call 4 of the kernel program read over the extended reals: what its body leaves in its result window after each grid point, at any contents `V` found on entry. -/
module

public import proofs.«01_k».proof.Proof.RunIRegion4Runs
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem off4_zero (i : grid4.Coords) : k4_off1 i = (fun _ => 0) ∧ k4_off2 i = (fun _ => 0) := by
  have h : (i 1).val = 0 := by
    have h1 : (i 1).val < 1 := (i 1).isLt
    omega
  constructor <;> funext a <;> simp only [k4_off1, k4_off2, h] <;> fin_cases a <;> rfl

section Body
variable (c : Dev nD) (i : grid4.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole)

theorem cover4_A_6 (hc0 : cond4_0 i) (hc1 : ¬cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (y : S64x512.Idx) :
    ∃ pc ∈ (kernelRun4_A c i arg2 harg2 arg3 harg3 arg4 harg4 arg5 harg5 arg6 harg6 arg7 harg7 arg8 harg8 hc0 hc1 x0 x1 x2 x3 x4 x5).1, y ∈ pc.1.set :=
  ⟨_, List.mem_cons_self, View.mem_set_unit_zero (off4_zero i).1 (k4_off1_inb i hc0) y⟩

def out4_A_6 (hc0 : cond4_0 i) (hc1 : ¬cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) : Vec F S64x512 .f32 :=
  VO4_6.read (Elt F) (VO4_6.writes (Elt F) VO4_6.junk (kernelRun4_A c i arg2 harg2 arg3 harg3 arg4 harg4 arg5 harg5 arg6 harg6 arg7 harg7 arg8 harg8 hc0 hc1 x0 x1 x2 x3 x4 x5).1)

theorem cover4_B_6 (hc0 : ¬cond4_0 i) (hc1 : cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) (y : S64x512.Idx) :
    ∃ pc ∈ (kernelRun4_B c i arg2 harg2 arg3 harg3 arg4 harg4 arg5 harg5 arg6 harg6 arg7 harg7 arg8 harg8 hc0 hc1 x0 x1 x2 x3 x4 x5 xo6).1, y ∈ pc.1.set :=
  ⟨_, List.mem_cons_self, View.mem_set_unit_zero (off4_zero i).2 (k4_off2_inb i hc1) y⟩

def out4_B_6 (hc0 : ¬cond4_0 i) (hc1 : cond4_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) : Vec F S64x512 .f32 :=
  VO4_6.read (Elt F) (VO4_6.writes (Elt F) VO4_6.junk (kernelRun4_B c i arg2 harg2 arg3 harg3 arg4 harg4 arg5 harg5 arg6 harg6 arg7 harg7 arg8 harg8 hc0 hc1 x0 x1 x2 x3 x4 x5 xo6).1)

end Body

def outsAt4 (c : Dev nD) : (n : ℕ) → n < cfg4.N → Vec F S64x512 .f32
  | 0, hn => out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn =>
    if h0 : (n + 1) % 8 = 0 then
      if h1 : 1 ≤ (n + 1) then
        False.elim (by have hN : n + 1 < 8 := lt_of_lt_of_eq hn (show cfg4.N = 8 from N_4); omega)
      else
        out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)
    else
      if h1 : 1 ≤ (n + 1) then
        out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn))
      else
        False.elim (by have hN : n + 1 < 8 := lt_of_lt_of_eq hn (show cfg4.N = 8 from N_4); omega)

theorem outsAt4_A (c : Dev nD) (t : Fin cfg4.N) (h0 : t.val % 8 = 0) (h1 : ¬1 ≤ t.val) :
    outsAt4 V c t.val t.isLt = out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (fun h => h1 ((hcond4_1 t).mp h)) (iblk4 V c 0 t) (iblk4 V c 1 t) (iblk4 V c 2 t) (iblk4 V c 3 t) (iblk4 V c 4 t) (iblk4 V c 5 t) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : 1 ≤ t.val) :
    outsAt4 V c t.val t.isLt = out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

theorem hcarry4_6 (c : Dev nD) : ∀ (t : Fin cfg4.N) (_ : t.val ≠ 0), cfg4.idle 6 (grid4.coords t) = true → cfg4.fresh 6 t.val = false →
    (dat4 V c).after 6 t = (dat4 V c).after 6 ⟨t.val - 1, by omega⟩ := by
  intro t _ hi _
  have hN : t.val < 8 := lt_of_lt_of_eq t.isLt (show cfg4.N = 8 from N_4)
  rw [after4_6, after4_6]
  by_cases h0 : t.val % 8 = 0
  · by_cases h1 : 1 ≤ t.val
    · exfalso; omega
    · rw [liveAt4_6_A t ((hcond4_0 t).mpr h0) (fun h => h1 ((hcond4_1 t).mp h))] at hi
      exact absurd hi Bool.false_ne_true
  · by_cases h1 : 1 ≤ t.val
    · rw [liveAt4_6_B t (fun h => h0 ((hcond4_0 t).mp h)) ((hcond4_1 t).mpr h1)] at hi
      exact absurd hi Bool.false_ne_true
    · exfalso; omega
theorem before4_6_B (c : Dev nD) (t : Fin cfg4.N) (h0 : ¬t.val % 8 = 0) (h1 : 1 ≤ t.val) (d) :
    (dat4 V c).before 6 t d = (outsAt4 V c (t.val - 1) (Nat.lt_of_le_of_lt (Nat.sub_le _ _) t.isLt)) := by
  rw [Dat.before_out_traj _ 6 rfl (fun _ _ => rfl) (hcarry4_6 V c) t.val t rfl d,
    if_neg (by rw [notFresh4_6_B t (fun h => h0 ((hcond4_0 t).mp h)) ((hcond4_1 t).mpr h1)]; exact Bool.false_ne_true)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 8 := lt_of_lt_of_eq t.isLt (show cfg4.N = 8 from N_4)
  by_cases h0 : t.val % 8 = 0
  · by_cases h1 : 1 ≤ t.val
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_A t ((hcond4_0 t).mpr h0) (fun h => h1 ((hcond4_1 t).mp h))], after4_6]
      rw [outsAt4_A V c t h0 h1]
      unfold out4_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_A_6 c _ _ _ _ _ _ _ _ _ _ _ _ _ _ _ _ _ _ _ _ _ _ _)
  · by_cases h1 : 1 ≤ t.val
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6_B t (fun h => h0 ((hcond4_0 t).mp h)) ((hcond4_1 t).mpr h1)], after4_6]
      rw [outsAt4_B V c t h0 h1]
      simp only [before4_6_B V c t h0 h1]
      unfold out4_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover4_B_6 c _ _ _ _ _ _ _ _ _ _ _ _ _ _ _ _ _ _ _ _ _ _ _ _)
    · exfalso; omega

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Gen

end
-- ==== Proof.RunIRegion5.lean ====
/- Call 5 of the kernel program read over the extended reals: what its body leaves in its result windows, at any contents `V` found on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S64x512 := Rect.unit (s := S64x512) ![0, 0] S64x512.size inb_S64x512_S64x512_0_0
abbrev r5_1 : Rect S512x256 := Rect.unit (s := S512x256) ![0, 0] S512x256.size inb_S512x256_S512x256_0_0
abbrev r5_2 : Rect S1x256 := Rect.unit (s := S1x256) ![0, 0] S1x256.size inb_S1x256_S1x256_0_0
abbrev r5_3 : Rect S256x64 := Rect.unit (s := S256x64) ![0, 0] S256x64.size inb_S256x64_S256x64_0_0
abbrev r5_4 : Rect S1x64 := Rect.unit (s := S1x64) ![0, 0] S1x64.size inb_S1x64_S1x64_0_0
abbrev r5_5 : Rect S64x5 := Rect.unit (s := S64x5) ![0, 0] S64x5.size inb_S64x5_S64x5_0_0
abbrev r5_6 : Rect S1x5 := Rect.unit (s := S1x5) ![0, 0] S1x5.size inb_S1x5_S1x5_0_0

def out5_7 (x0 : Vec F S64x512 .f32) (x1 : Vec F S512x256 .f32) (x2 : Vec F S1x256 .f32) (x3 : Vec F S256x64 .f32) (x4 : Vec F S1x64 .f32) (x5 : Vec F S64x5 .f32) (x6 : Vec F S1x5 .f32) : Vec F S64x5 .f32 :=
  View.canon [⟨r5_5, k5_pay1 (View.ld x0 r5_0) (View.ld x1 r5_1) (View.ld x2 r5_2) (View.ld x3 r5_3) (View.ld x4 r5_4) (View.ld x5 r5_5) (View.ld x6 r5_6)⟩]

theorem cover5_7 (p0 : Vec F S64x5 .f32) (y : S64x5.Idx) :
    ∃ pc ∈ ([⟨r5_5, p0⟩] : List (View.Piece (Elt F) S64x5 .f32)), y ∈ pc.1.set :=
  View.cover_of_tiled [⟨r5_5, p0⟩] S64x5.size (by rfl) y

set_option maxHeartbeats 1000000 in
theorem sound_kernel5 (c : Dev nD) (E : Set ℕ) (arg0 : Memref sig .tc .vmem S64x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S64x5 .f32) (harg5 : arg5.IsWhole) (arg6 : Memref sig .tc .vmem S1x5 .f32) (harg6 : arg6.IsWhole) (arg7 : Memref sig .tc .vmem S64x5 .f32) (harg7 : arg7.IsWhole)
    (x0 : Vec F S64x512 .f32) (x1 : Vec F S512x256 .f32) (x2 : Vec F S1x256 .f32) (x3 : Vec F S256x64 .f32) (x4 : Vec F S1x64 .f32) (x5 : Vec F S64x5 .f32) (x6 : Vec F S1x5 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out5_7 x0 x1 x2 x3 x4 x5 x6)) -∗ K ⟨⟩))
      ⊢ wp frame (wpE (defs₀ (F := F)) Variants.none c none) E (cc5__head_body arg0 harg0 arg1 harg1 arg2 harg2 arg3 harg3 arg4 harg4 arg5 harg5 arg6 harg6 arg7 harg7) K := by
  simp only [cc5__head_body_eq_skeleton]; unfold cc5__head_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.RunIHosts.lean ====
/- Which arrays each stretch of host operations of the kernel program read over the extended reals writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

theorem hostOps0_fresh : (hostOps0 : List (HloOp τ sig (Elt F))).Forall fun op => op.fresh = ∅ := by
  simp only [List.Forall]; repeat' constructor
abbrev hostOps0_W : List (Ref sig .tc) := [main_v0, main_cst, main_v1, main_v2, main_v3, main_v4, main_v5, main_v6, main_v7, main_v8, main_v9, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v10]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v11, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v12]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v13, main_v14, main_v15, main_v16, main_v17, main_v18, main_v19, main_v20, main_v21]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v23, main_v24, main_v25]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v27, main_v28, main_v29]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v31, main_v32, main_v33]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v35, main_v36, main_v37]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v39, main_v40, main_v41, main_v42, main_v43, main_v44]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v46]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

end Cert.KernelIdeal.Gen

end
-- ==== Proof.RunIFold.lean ====
/- What every array of the kernel program read over the extended reals holds at each boundary between host operations and calls. -/
module

public import proofs.«01_k».proof.Proof.RunIRegion0
public import proofs.«01_k».proof.Proof.RunIRegion1
public import proofs.«01_k».proof.Proof.RunIRegion2
public import proofs.«01_k».proof.Proof.RunIRegion3
public import proofs.«01_k».proof.Proof.RunIRegion4
public import proofs.«01_k».proof.Proof.RunIRegion5
public import proofs.«01_k».proof.Proof.RunIHosts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
abbrev V9 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
theorem W12_of (c : Dev nD) (r : Ref sig .tc) (h : ∀ w : Fin cfg3.W, Pipeline.arrRef spec3 w = r → (cfg3.win w).isOut = false) :
    W12 m ρ c (Proc.devRef .tc r) = W11 m ρ c (Proc.devRef .tc r) := by
  by_cases hw : ∃ w : Fin cfg3.W, Pipeline.arrRef spec3 w = r
  · obtain ⟨w, rfl⟩ := hw
    exact (W12_arr m ρ c w).trans (((dat3 (V11 m ρ) c).arrAt_in w (h w rfl) _).trans (A_eq3 (V11 m ρ) c w))
  · exact W12_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn3 a ha)).trans (W11_args m ρ c a ha)
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps4 (W12 m ρ c)
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
theorem W13_args (c : Dev nD) : ∀ a ∈ argRefs, W13 m ρ c (Proc.devRef .tc a) = m ((c : Thread nD τ).loc a) :=
  fun a ha => (W13_of m ρ c a (hostOps4_args a ha)).trans (W12_args m ρ c a ha)
abbrev V13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (V13 m ρ) c).arrAt w cfg4.N
theorem W14_arr (c : Dev nD) (w : Fin cfg4.W) :
    W14 m ρ c (Proc.devRef .tc (Pipeline.arrRef spec4 w)) = (dat4 (V13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
theorem W14_of (c : Dev nD) (r : Ref sig .tc) (h : ∀ w : Fin cfg4.W, Pipeline.arrRef spec4 w = r → (cfg4.win w).isOut = false) :
    W14 m ρ c (Proc.devRef .tc r) = W13 m ρ c (Proc.devRef .tc r) := by
  by_cases hw : ∃ w : Fin cfg4.W, Pipeline.arrRef spec4 w = r
  · obtain ⟨w, rfl⟩ := hw
    exact (W14_arr m ρ c w).trans (((dat4 (V13 m ρ) c).arrAt_in w (h w rfl) _).trans (A_eq4 (V13 m ρ) c w))
  · exact W14_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn4 a ha)).trans (W13_args m ρ c a ha)
abbrev V14 : (c : Dev nD) → (b : Ref sig .tc) → Buf (Elt F) ((c : Thread nD τ).loc b) := fun c b => W14 m ρ c b
theorem hF4 (c : Dev nD) (w : Fin cfg4.W) : (dat4 (V13 m ρ) c).arrAt w cfg4.N = V14 m ρ c (Pipeline.arrRef spec4 w) :=
  (W14_arr m ρ c w).symm
theorem hrest4 (c : Dev nD) : ∀ b, b ∉ Finset.univ.image (Pipeline.arrRef spec4) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps5 (W14 m ρ c)
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h
theorem W15_args (c : Dev nD) : ∀ a ∈ argRefs, W15 m ρ c (Proc.devRef .tc a) = m ((c : Thread nD τ).loc a) :=
  fun a ha => (W15_of m ρ c a (hostOps5_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
theorem W16_of (c : Dev nD) (r : Ref sig .tc) (h : ∀ w : Fin cfg5.W, Pipeline.arrRef spec5 w = r → (cfg5.win w).isOut = false) :
    W16 m ρ c (Proc.devRef .tc r) = W15 m ρ c (Proc.devRef .tc r) := by
  by_cases hw : ∃ w : Fin cfg5.W, Pipeline.arrRef spec5 w = r
  · obtain ⟨w, rfl⟩ := hw
    exact (W16_arr m ρ c w).trans (((dat5 (V15 m ρ) c).arrAt_in w (h w rfl) _).trans (A_eq5 (V15 m ρ) c w))
  · exact W16_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn5 a ha)).trans (W15_args m ρ c a ha)
abbrev V16 : (c : Dev nD) → (b : Ref sig .tc) → Buf (Elt F) ((c : Thread nD τ).loc b) := fun c b => W16 m ρ c b
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps6 (W16 m ρ c)
theorem W17_of (c : Dev nD) (r : Ref sig .tc) (h : r ∉ hostOps6_W) : W17 m ρ c (Proc.devRef .tc r) = W16 m ρ c (Proc.devRef .tc r) :=
  StableHlo.after_of_writes_sub hostOps6 _ hostOps6_writes h
theorem W17_args (c : Dev nD) : ∀ a ∈ argRefs, W17 m ρ c (Proc.devRef .tc a) = m ((c : Thread nD τ).loc a) :=
  fun a ha => (W17_of m ρ c a (hostOps6_args a ha)).trans (W16_args m ρ c a ha)

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
theorem W17_main_arg7 (c : Dev nD) : W17 m ρ c (Proc.devRef .tc main_arg7) = m ((c : Thread nD τ).loc main_arg7) :=
  W17_args m ρ c main_arg7 (by decide)
theorem W17_main_arg8 (c : Dev nD) : W17 m ρ c (Proc.devRef .tc main_arg8) = m ((c : Thread nD τ).loc main_arg8) :=
  W17_args m ρ c main_arg8 (by decide)
theorem W17_main_arg9 (c : Dev nD) : W17 m ρ c (Proc.devRef .tc main_arg9) = m ((c : Thread nD τ).loc main_arg9) :=
  W17_args m ρ c main_arg9 (by decide)
theorem W17_main_arg10 (c : Dev nD) : W17 m ρ c (Proc.devRef .tc main_arg10) = m ((c : Thread nD τ).loc main_arg10) :=
  W17_args m ρ c main_arg10 (by decide)
theorem W17_main_arg11 (c : Dev nD) : W17 m ρ c (Proc.devRef .tc main_arg11) = m ((c : Thread nD τ).loc main_arg11) :=
  W17_args m ρ c main_arg11 (by decide)
theorem W17_main_arg12 (c : Dev nD) : W17 m ρ c (Proc.devRef .tc main_arg12) = m ((c : Thread nD τ).loc main_arg12) :=
  W17_args m ρ c main_arg12 (by decide)
theorem W17_main_arg13 (c : Dev nD) : W17 m ρ c (Proc.devRef .tc main_arg13) = m ((c : Thread nD τ).loc main_arg13) :=
  W17_args m ρ c main_arg13 (by decide)
theorem W17_main_arg14 (c : Dev nD) : W17 m ρ c (Proc.devRef .tc main_arg14) = m ((c : Thread nD τ).loc main_arg14) :=
  W17_args m ρ c main_arg14 (by decide)
theorem W17_main_arg15 (c : Dev nD) : W17 m ρ c (Proc.devRef .tc main_arg15) = m ((c : Thread nD τ).loc main_arg15) :=
  W17_args m ρ c main_arg15 (by decide)
theorem W17_main_arg16 (c : Dev nD) : W17 m ρ c (Proc.devRef .tc main_arg16) = m ((c : Thread nD τ).loc main_arg16) :=
  W17_args m ρ c main_arg16 (by decide)
theorem W17_main_arg17 (c : Dev nD) : W17 m ρ c (Proc.devRef .tc main_arg17) = m ((c : Thread nD τ).loc main_arg17) :=
  W17_args m ρ c main_arg17 (by decide)
theorem W17_main_arg18 (c : Dev nD) : W17 m ρ c (Proc.devRef .tc main_arg18) = m ((c : Thread nD τ).loc main_arg18) :=
  W17_args m ρ c main_arg18 (by decide)
theorem W17_main_arg19 (c : Dev nD) : W17 m ρ c (Proc.devRef .tc main_arg19) = m ((c : Thread nD τ).loc main_arg19) :=
  W17_args m ρ c main_arg19 (by decide)
theorem W17_main_arg20 (c : Dev nD) : W17 m ρ c (Proc.devRef .tc main_arg20) = m ((c : Thread nD τ).loc main_arg20) :=
  W17_args m ρ c main_arg20 (by decide)
theorem W17_main_arg21 (c : Dev nD) : W17 m ρ c (Proc.devRef .tc main_arg21) = m ((c : Thread nD τ).loc main_arg21) :=
  W17_args m ρ c main_arg21 (by decide)
theorem W17_main_arg22 (c : Dev nD) : W17 m ρ c (Proc.devRef .tc main_arg22) = m ((c : Thread nD τ).loc main_arg22) :=
  W17_args m ρ c main_arg22 (by decide)
theorem W17_main_arg23 (c : Dev nD) : W17 m ρ c (Proc.devRef .tc main_arg23) = m ((c : Thread nD τ).loc main_arg23) :=
  W17_args m ρ c main_arg23 (by decide)
theorem W17_main_arg24 (c : Dev nD) : W17 m ρ c (Proc.devRef .tc main_arg24) = m ((c : Thread nD τ).loc main_arg24) :=
  W17_args m ρ c main_arg24 (by decide)
theorem W17_main_arg25 (c : Dev nD) : W17 m ρ c (Proc.devRef .tc main_arg25) = m ((c : Thread nD τ).loc main_arg25) :=
  W17_args m ρ c main_arg25 (by decide)
theorem W17_main_arg26 (c : Dev nD) : W17 m ρ c (Proc.devRef .tc main_arg26) = m ((c : Thread nD τ).loc main_arg26) :=
  W17_args m ρ c main_arg26 (by decide)

end Cert.KernelIdeal.Gen

end
-- ==== Proof.RunIState.lean ====
/- The data of the six calls of the kernel program read over the extended reals and the state carried between them. -/
module

public import proofs.«01_k».proof.Proof.RunIFold

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
  | ⟨4, _⟩ => fun c => dat4 (V13 m ρ) c
  | ⟨5, _⟩ => fun c => dat5 (V15 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.KernelIdeal.Gen

end
-- ==== Proof.RunICalls.lean ====
/- Each of the six calls of the kernel program read over the extended reals as one step between boundaries. -/
module

public import proofs.«01_k».proof.Proof.RunIState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) (A_eq3 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V13 m ρ) c).loose
  hwaits := Pipeline.hwaits_of_owed_zero _ _ _ _ L lv 4 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec4 c (V13 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V13 m ρ c) (A_eq4 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V13 m ρ c) (V14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V15 m ρ c) (A_eq5 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunI.lean ====
/- The whole run of the kernel program read over the extended reals. -/
module

public import proofs.«01_k».proof.Proof.RunICalls

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)),
    .region (reg5 m ρ),
    .host (hseg hostOps6 hostOps6_sub hostOps6_fresh (W16 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with each array at the last boundary's contents and every semaphore counter at zero. -/
theorem ends : θ_run defs (onTc (τ := τ) (main (F := F))) ⟨m, fun _ => 0, ρ⟩ (fun r =>
    (∀ c : Dev nD, ∀ b ∈ Pipeline.ucRefs τ sig, r.2.mem (((c : Thread nD τ)).1, b) = W17 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨fun c b hb => h c b hb, funext fun g => hz g (.inr (no_unscoped g.2))⟩)

/-- The same, read at the arguments: each ends as it began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun r h => ⟨fun c => ⟨(h.1 c _ (mem_uc main_arg0 (by decide))).trans (W17_main_arg0 m ρ c),
      (h.1 c _ (mem_uc main_arg1 (by decide))).trans (W17_main_arg1 m ρ c),
      (h.1 c _ (mem_uc main_arg2 (by decide))).trans (W17_main_arg2 m ρ c),
      (h.1 c _ (mem_uc main_arg3 (by decide))).trans (W17_main_arg3 m ρ c),
      (h.1 c _ (mem_uc main_arg4 (by decide))).trans (W17_main_arg4 m ρ c),
      (h.1 c _ (mem_uc main_arg5 (by decide))).trans (W17_main_arg5 m ρ c),
      (h.1 c _ (mem_uc main_arg6 (by decide))).trans (W17_main_arg6 m ρ c),
      (h.1 c _ (mem_uc main_arg7 (by decide))).trans (W17_main_arg7 m ρ c),
      (h.1 c _ (mem_uc main_arg8 (by decide))).trans (W17_main_arg8 m ρ c),
      (h.1 c _ (mem_uc main_arg9 (by decide))).trans (W17_main_arg9 m ρ c),
      (h.1 c _ (mem_uc main_arg10 (by decide))).trans (W17_main_arg10 m ρ c),
      (h.1 c _ (mem_uc main_arg11 (by decide))).trans (W17_main_arg11 m ρ c),
      (h.1 c _ (mem_uc main_arg12 (by decide))).trans (W17_main_arg12 m ρ c),
      (h.1 c _ (mem_uc main_arg13 (by decide))).trans (W17_main_arg13 m ρ c),
      (h.1 c _ (mem_uc main_arg14 (by decide))).trans (W17_main_arg14 m ρ c),
      (h.1 c _ (mem_uc main_arg15 (by decide))).trans (W17_main_arg15 m ρ c),
      (h.1 c _ (mem_uc main_arg16 (by decide))).trans (W17_main_arg16 m ρ c),
      (h.1 c _ (mem_uc main_arg17 (by decide))).trans (W17_main_arg17 m ρ c),
      (h.1 c _ (mem_uc main_arg18 (by decide))).trans (W17_main_arg18 m ρ c),
      (h.1 c _ (mem_uc main_arg19 (by decide))).trans (W17_main_arg19 m ρ c),
      (h.1 c _ (mem_uc main_arg20 (by decide))).trans (W17_main_arg20 m ρ c),
      (h.1 c _ (mem_uc main_arg21 (by decide))).trans (W17_main_arg21 m ρ c),
      (h.1 c _ (mem_uc main_arg22 (by decide))).trans (W17_main_arg22 m ρ c),
      (h.1 c _ (mem_uc main_arg23 (by decide))).trans (W17_main_arg23 m ρ c),
      (h.1 c _ (mem_uc main_arg24 (by decide))).trans (W17_main_arg24 m ρ c),
      (h.1 c _ (mem_uc main_arg25 (by decide))).trans (W17_main_arg25 m ρ c),
      (h.1 c _ (mem_uc main_arg26 (by decide))).trans (W17_main_arg26 m ρ c)⟩, h.2⟩) (ends m ρ)

end Cert.KernelIdeal.Gen

end
-- ==== Proof.FourIBodyRuns.lean ====
/- Call 4 of the kernel program read over the extended reals: the runs of its body at its first grid point and at the later ones. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem found0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem found0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem found0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem found0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_0, k0_cond1, e0, e1]
    word_cmp
   : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ 1 ≤ t.val :=
  (fun t => by
    have ht : t.val < 8 := Nat.lt_of_lt_of_eq t.isLt N_0
    have e0 : (grid0.coords t 0).val = t.val / 1 % 8 := Pipeline.Grid.coords_val t 0 (by decide) rfl
    have e1 : (grid0.coords t 1).val = t.val / 1 % 1 := Pipeline.Grid.coords_val t 1 (by decide) rfl
    simp only [cond0_1, k0_cond2, e0, e1]
    word_cmp
   : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
def freshTab0_6 : ℕ → Bool
  | 0 => true
  | n + 1 => (0x80 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem liveAt0_6_A : ∀ t : Fin cfg0.N, cond0_0 (grid0.coords t) → ¬cond0_1 (grid0.coords t) → cfg0.idle 6 (grid0.coords t) = false := by decide +kernel
theorem liveAt0_6_B : ∀ t : Fin cfg0.N, ¬cond0_0 (grid0.coords t) → cond0_1 (grid0.coords t) → cfg0.idle 6 (grid0.coords t) = false := by decide +kernel
theorem notFresh0_6_B : ∀ t : Fin cfg0.N, ¬cond0_0 (grid0.coords t) → cond0_1 (grid0.coords t) → cfg0.fresh 6 t.val = false := by
  intro t; rw [fresh0_6_eq t]; revert t; decide +kernel

abbrev VO0_6 : View sig .tc .vmem S64x512 .f32 := (Memref.whole cc0_stg6_0 : Memref sig .tc .vmem S64x512 .f32).view
abbrev ms0_0 (t : Fin cfg0.N) : Memref sig .tc .vmem S1x1568x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x25x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x512 .f32 := win0_6.stage (cfg0.slots t 6)
abbrev hs0_6 (t : Fin cfg0.N) : (ms0_6 t).IsWhole := hstage0_6 ((cfg0.slots t 6).cast nbuf0_6)

section Body
variable (c : Dev nD) (i : grid0.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole)

set_option maxHeartbeats 1000000 in
noncomputable def kernelRun0_A (hc0 : cond0_0 i) (hc1 : ¬cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) :
    { L6 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__layer4_body i arg2 harg2 arg3 harg3 arg4 harg4 arg5 harg5 arg6 harg6 arg7 harg7 arg8 harg8) K } := by
  refine ⟨?_, fun E K => ?run⟩
  case run =>
    simp only [cc0__layer4_body_eq_skeleton]; unfold cc0__layer4_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
noncomputable def kernelRun0_B (hc0 : ¬cond0_0 i) (hc1 : cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) :
    { L6 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc0__layer4_body i arg2 harg2 arg3 harg3 arg4 harg4 arg5 harg5 arg6 harg6 arg7 harg7 arg8 harg8) K } := by
  refine ⟨?_, fun E K => ?run⟩
  case run =>
    simp only [cc0__layer4_body_eq_skeleton]; unfold cc0__layer4_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Body

end Cert.Kernel4Ideal.Gen

end
-- ==== Proof.FourIBody.lean ====
/- Call 4 of the kernel program read over the extended reals: what its body leaves in its result window after each grid point, at any contents `V` found on entry. -/
module

public import proofs.«01_k».proof.Proof.FourIBodyRuns
public import Idealize.ShloMosaic.Lib.Pipeline.Value

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem off0_zero (i : grid0.Coords) : k0_off1 i = (fun _ => 0) ∧ k0_off2 i = (fun _ => 0) := by
  have h : (i 1).val = 0 := by
    have h1 : (i 1).val < 1 := (i 1).isLt
    omega
  constructor <;> funext a <;> simp only [k0_off1, k0_off2, h] <;> fin_cases a <;> rfl

section Body
variable (c : Dev nD) (i : grid0.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole)

theorem cover0_A_6 (hc0 : cond0_0 i) (hc1 : ¬cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (y : S64x512.Idx) :
    ∃ pc ∈ (kernelRun0_A c i arg2 harg2 arg3 harg3 arg4 harg4 arg5 harg5 arg6 harg6 arg7 harg7 arg8 harg8 hc0 hc1 x0 x1 x2 x3 x4 x5).1, y ∈ pc.1.set :=
  ⟨_, List.mem_cons_self, View.mem_set_unit_zero (off0_zero i).1 (k0_off1_inb i hc0) y⟩

def out0_A_6 (hc0 : cond0_0 i) (hc1 : ¬cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) : Vec F S64x512 .f32 :=
  VO0_6.read (Elt F) (VO0_6.writes (Elt F) VO0_6.junk (kernelRun0_A c i arg2 harg2 arg3 harg3 arg4 harg4 arg5 harg5 arg6 harg6 arg7 harg7 arg8 harg8 hc0 hc1 x0 x1 x2 x3 x4 x5).1)

theorem cover0_B_6 (hc0 : ¬cond0_0 i) (hc1 : cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) (y : S64x512.Idx) :
    ∃ pc ∈ (kernelRun0_B c i arg2 harg2 arg3 harg3 arg4 harg4 arg5 harg5 arg6 harg6 arg7 harg7 arg8 harg8 hc0 hc1 x0 x1 x2 x3 x4 x5 xo6).1, y ∈ pc.1.set :=
  ⟨_, List.mem_cons_self, View.mem_set_unit_zero (off0_zero i).2 (k0_off2_inb i hc1) y⟩

def out0_B_6 (hc0 : ¬cond0_0 i) (hc1 : cond0_1 i)
    (x0 : Vec F S1x1568x256 .f32) (x1 : Vec F S1x25x256x512 .f32) (x2 : Vec F S1x1x512 .f32) (x3 : Vec F S1x1x512 .f32) (x4 : Vec F S1x1x512 .f32) (x5 : Vec F S64x8 .f32) (xo6 : Vec F S64x512 .f32) : Vec F S64x512 .f32 :=
  VO0_6.read (Elt F) (VO0_6.writes (Elt F) VO0_6.junk (kernelRun0_B c i arg2 harg2 arg3 harg3 arg4 harg4 arg5 harg5 arg6 harg6 arg7 harg7 arg8 harg8 hc0 hc1 x0 x1 x2 x3 x4 x5 xo6).1)

end Body

def outsAt0 (c : Dev nD) : (n : ℕ) → n < cfg0.N → Vec F S64x512 .f32
  | 0, hn => out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if h0 : (n + 1) % 8 = 0 then
      if h1 : 1 ≤ (n + 1) then
        False.elim (by have hN : n + 1 < 8 := lt_of_lt_of_eq hn (show cfg0.N = 8 from N_0); omega)
      else
        out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else
      if h1 : 1 ≤ (n + 1) then
        out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn))
      else
        False.elim (by have hN : n + 1 < 8 := lt_of_lt_of_eq hn (show cfg0.N = 8 from N_0); omega)

theorem outsAt0_A (c : Dev nD) (t : Fin cfg0.N) (h0 : t.val % 8 = 0) (h1 : ¬1 ≤ t.val) :
    outsAt0 V c t.val t.isLt = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : 1 ≤ t.val) :
    outsAt0 V c t.val t.isLt = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt) := by dsimp only [dat0]

theorem found0_0 (c : Dev nD) (t : Fin cfg0.N) (d) : (dat0 V c).before 0 t d = iblk0 V c 0 t :=
  found0_0_of V (dat0 V c) (A_eq0 V c 0) (after0_0 V c) t d
theorem found0_1 (c : Dev nD) (t : Fin cfg0.N) (d) : (dat0 V c).before 1 t d = iblk0 V c 1 t :=
  found0_1_of V (dat0 V c) (A_eq0 V c 1) (after0_1 V c) t d
theorem found0_2 (c : Dev nD) (t : Fin cfg0.N) (d) : (dat0 V c).before 2 t d = iblk0 V c 2 t :=
  found0_2_of V (dat0 V c) (A_eq0 V c 2) (after0_2 V c) t d
theorem found0_3 (c : Dev nD) (t : Fin cfg0.N) (d) : (dat0 V c).before 3 t d = iblk0 V c 3 t :=
  found0_3_of V (dat0 V c) (A_eq0 V c 3) (after0_3 V c) t d
theorem found0_4 (c : Dev nD) (t : Fin cfg0.N) (d) : (dat0 V c).before 4 t d = iblk0 V c 4 t :=
  found0_4_of V (dat0 V c) (A_eq0 V c 4) (after0_4 V c) t d
theorem found0_5 (c : Dev nD) (t : Fin cfg0.N) (d) : (dat0 V c).before 5 t d = iblk0 V c 5 t :=
  found0_5_of V (dat0 V c) (A_eq0 V c 5) (after0_5 V c) t d

theorem hcarry0_6 (c : Dev nD) : ∀ (t : Fin cfg0.N) (_ : t.val ≠ 0), cfg0.idle 6 (grid0.coords t) = true → cfg0.fresh 6 t.val = false →
    (dat0 V c).after 6 t = (dat0 V c).after 6 ⟨t.val - 1, by omega⟩ := by
  intro t _ hi _
  have hN : t.val < 8 := lt_of_lt_of_eq t.isLt (show cfg0.N = 8 from N_0)
  rw [after0_6, after0_6]
  by_cases h0 : t.val % 8 = 0
  · by_cases h1 : 1 ≤ t.val
    · exfalso; omega
    · rw [liveAt0_6_A t ((hcond0_0 t).mpr h0) (fun h => h1 ((hcond0_1 t).mp h))] at hi
      exact absurd hi Bool.false_ne_true
  · by_cases h1 : 1 ≤ t.val
    · rw [liveAt0_6_B t (fun h => h0 ((hcond0_0 t).mp h)) ((hcond0_1 t).mpr h1)] at hi
      exact absurd hi Bool.false_ne_true
    · exfalso; omega
theorem found0_6_B (c : Dev nD) (t : Fin cfg0.N) (h0 : ¬t.val % 8 = 0) (h1 : 1 ≤ t.val) (d) :
    (dat0 V c).before 6 t d = (outsAt0 V c (t.val - 1) (Nat.lt_of_le_of_lt (Nat.sub_le _ _) t.isLt)) := by
  rw [Dat.before_out_traj _ 6 rfl (fun _ _ => rfl) (hcarry0_6 V c) t.val t rfl d,
    if_neg (by rw [notFresh0_6_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2, found0_3, found0_4, found0_5]
  rw [show (dat0 V c).Φ t.succ = (dat0 V c).Φ t.castSucc from rfl,
    show (dat0 V c).owesAt () t.succ = (dat0 V c).owesAt () t.castSucc from rfl]
  have hN : t.val < 8 := lt_of_lt_of_eq t.isLt (show cfg0.N = 8 from N_0)
  by_cases h0 : t.val % 8 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_A t ((hcond0_0 t).mpr h0) (fun h => h1 ((hcond0_1 t).mp h))], after0_6]
      rw [outsAt0_A V c t h0 h1]
      unfold out0_A_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6_B t (fun h => h0 ((hcond0_0 t).mp h)) ((hcond0_1 t).mpr h1)], after0_6]
      rw [outsAt0_B V c t h0 h1]
      simp only [found0_6_B V c t h0 h1]
      unfold out0_B_6
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel4Ideal.Gen

end
-- ==== Proof.FourIRun.lean ====
/- The last layer's call as a program of its own, read over the extended reals: it runs, and where its arrays end. -/
module

public import proofs.«01_k».proof.Proof.FourIBody
public import proofs.«01_k».proof.Proof.Gen.Kernel4Ideal.Frame

@[expose] public section

noncomputable section

namespace Cert.Kernel4Ideal.Gen

open Idealize.ShloMosaic Idealize.ShloMosaic.TcCoe Idealize.SL.Sem
open Idealize.ShloMosaic.Pipeline (Dat)

variable {F : FTy → Type} [FloatOps F] [Named F]

variable (m : (ℓ : Loc nD τ sig) → Buf (Elt F) ℓ) (ρ : Dev nD → PrngReg)

/-- What is held at the call's grid points, from the arrays the host lines before it leave. -/
def held : (p : Fin 1) → (c : Dev nD) → Dat τ (Elt F) Unit ℕ (UR sig nD τ) ℕ (cfgs p) c
  | ⟨0, _⟩ => fun c => dat0 (V m) c

set_option backward.isDefEq.respectTransparency.types false in
/-- The program ends with every array as the call's last grid point leaves it, and all counters at zero. -/
theorem whole_run : θ_run defs (onTc (τ := τ) (main (F := F))) (s₀ m ρ)
    (fun r => Pipeline.FramePost cfgs (held m) 0 (V m) r ∧ r.2.sem = fun _ => 0) :=
  Pipeline.θ_run_frame (Q' := _) cfgs (held m) (0 : Fin 1) launch0 defs₀ Variants.none m ρ main
    (hbody := fun c => (body_obligation0 (V m) c).loose)
    (hshare := fun c => (held m 0 c).share_full fun _ => rfl)
    (howed := fun _ _ => rfl) (V := V m) (hmain := hmain m Variants.none)
    (hA := fun _ _ => rfl) (hΦ := fun _ _ => rfl)

/-- Its arguments end as they were. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (held m) fun _ _ => rfl) (whole_run m ρ)

end Cert.Kernel4Ideal.Gen
-- ==== Proof.Words.lean ====
/- Index words of the kernel's masks: the lowered remainder and quotient of an index, and the comparisons with a literal, as statements about natural numbers. -/
module

public import Idealize.ShloMosaic.Lib.Pointwise
public import Idealize.ShloMosaic.Lib.Tactic.WordOmega
public import Idealize.ShloMosaic.Lib.WordCmp

@[expose] public section

namespace Moe

open Idealize.ShloMosaic Idealize.ShloMosaic.WordCmp

theorem srem_nat (n d : ℕ) (hn : n < 2 ^ 31) (hd : d < 2 ^ 31) (hd0 : 0 < d) :
    IntOp.remsi .vector (BitVec.ofNat 32 n) (BitVec.ofNat 32 d) = BitVec.ofNat 32 (n % d) := by
  have h1 : ¬ IntOp.SDivCorner (BitVec.ofNat 32 n) (BitVec.ofNat 32 d) := by
    rintro (h | ⟨h, -⟩)
    · have := congrArg BitVec.toNat h
      simp at this
      omega
    · have := congrArg BitVec.toNat h
      simp [BitVec.toNat_intMin] at this
      omega
  rw [IntOp.remsi, if_neg h1, BitVec.srem_eq]
  have m1 : (BitVec.ofNat 32 n).msb = false := by
    rw [BitVec.msb_eq_false_iff_two_mul_lt]; simp; omega
  have m2 : (BitVec.ofNat 32 d).msb = false := by
    rw [BitVec.msb_eq_false_iff_two_mul_lt]; simp; omega
  rw [m1, m2]
  apply BitVec.eq_of_toNat_eq
  simp
  have : n % d < d := Nat.mod_lt _ hd0
  rw [Nat.mod_eq_of_lt (by omega : n < 4294967296), Nat.mod_eq_of_lt (by omega : d < 4294967296)]
  omega

theorem sdiv_nat (n d : ℕ) (hn : n < 2 ^ 31) (hd : d < 2 ^ 31) (hd0 : 0 < d) :
    IntOp.divsi .vector (BitVec.ofNat 32 n) (BitVec.ofNat 32 d) = BitVec.ofNat 32 (n / d) := by
  have h1 : ¬ IntOp.SDivCorner (BitVec.ofNat 32 n) (BitVec.ofNat 32 d) := by
    rintro (h | ⟨h, -⟩)
    · have := congrArg BitVec.toNat h
      simp at this
      omega
    · have := congrArg BitVec.toNat h
      simp [BitVec.toNat_intMin] at this
      omega
  rw [IntOp.divsi, if_neg h1, BitVec.sdiv_eq]
  have m1 : (BitVec.ofNat 32 n).msb = false := by
    rw [BitVec.msb_eq_false_iff_two_mul_lt]; simp; omega
  have m2 : (BitVec.ofNat 32 d).msb = false := by
    rw [BitVec.msb_eq_false_iff_two_mul_lt]; simp; omega
  rw [m1, m2]
  apply BitVec.eq_of_toNat_eq
  simp
  have : n / d ≤ n := Nat.div_le_self _ _
  rw [Nat.mod_eq_of_lt (by omega : n < 4294967296), Nat.mod_eq_of_lt (by omega : d < 4294967296),
    Nat.mod_eq_of_lt (by omega : n / d < 4294967296)]

theorem slt_nat (a b : ℕ) (ha : a < 2 ^ 31) (hb : b < 2 ^ 31) :
    IntOp.cmpi .slt (BitVec.ofNat 32 a) (BitVec.ofNat 32 b) = if a < b then 1#1 else 0#1 := by
  rw [cmpi_slt_ofNat (by simpa using ha) (by simpa using hb)]
  by_cases h : a < b <;> simp [h]

theorem eq_nat (a b : ℕ) (ha : a < 2 ^ 31) (hb : b < 2 ^ 31) :
    IntOp.cmpi .eq (BitVec.ofNat 32 a) (BitVec.ofNat 32 b) = if a = b then 1#1 else 0#1 := by
  rw [cmpi_eq_ofNat (by omega) (by omega)]
  by_cases h : a = b <;> simp [h]

/-- The lowered remainder by a positive literal. -/
theorem pymod {N : ℕ} (x : Fin N) (d : ℕ) (hN : N ≤ 2 ^ 31) (hd : d < 2 ^ 31) (hd0 : 0 < d) :
    Scalar.select
      (IntOp.andi
        (IntOp.xori (IntOp.cmpi .slt (IntOp.remsi .vector (BitVec.ofNat 32 x.val) (BitVec.ofNat 32 d)) 0#32)
          (Scalar.cmpi .slt (BitVec.ofNat 32 d) 0#32))
        (IntOp.cmpi .ne (IntOp.remsi .vector (BitVec.ofNat 32 x.val) (BitVec.ofNat 32 d)) 0#32))
      (IntOp.addi (IntOp.remsi .vector (BitVec.ofNat 32 x.val) (BitVec.ofNat 32 d)) (BitVec.ofNat 32 d))
      (IntOp.remsi .vector (BitVec.ofNat 32 x.val) (BitVec.ofNat 32 d)) = BitVec.ofNat 32 (x.val % d) := by
  have hx := x.isLt
  rw [srem_nat _ _ (by omega) hd hd0]
  have h1 := Nat.mod_le x.val d
  have e1 : IntOp.cmpi .slt (BitVec.ofNat 32 (x.val % d)) 0#32 = 0#1 := by
    rw [show (0#32) = BitVec.ofNat 32 0 from rfl, slt_nat _ _ (by omega) (by omega), if_neg (by omega)]
  have e2 : Scalar.cmpi .slt (BitVec.ofNat 32 d) 0#32 = 0#1 := by
    show IntOp.cmpi .slt (BitVec.ofNat 32 d) 0#32 = 0#1
    rw [show (0#32) = BitVec.ofNat 32 0 from rfl, slt_nat _ _ (by omega) (by omega), if_neg (by omega)]
  rw [e1, e2]
  have e3 : ∀ c : BitVec 1, IntOp.andi (IntOp.xori 0#1 0#1) c = 0#1 := by decide
  rw [e3]
  rfl

theorem sel_lit (d : ℕ) (hd : d < 2 ^ 31) (hd0 : 0 < d) :
    Scalar.select (Scalar.cmpi .eq (BitVec.ofNat 32 d) 0#32) 1#32 (BitVec.ofNat 32 d) = BitVec.ofNat 32 d := by
  have e : Scalar.cmpi .eq (BitVec.ofNat 32 d) 0#32 = 0#1 := by
    show IntOp.cmpi .eq (BitVec.ofNat 32 d) 0#32 = 0#1
    rw [show (0#32) = BitVec.ofNat 32 0 from rfl, eq_nat _ _ hd (by omega), if_neg (by omega)]
  rw [e]; rfl

theorem select_ite {α : Type} (p : Prop) [Decidable p] (a b : α) :
    Scalar.select (if p then 1#1 else 0#1) a b = if p then a else b := by
  by_cases h : p <;> simp [h, Scalar.select]

/-- A remainder below a literal bound. -/
theorem slt_mod {N : ℕ} (x : Fin N) (d v : ℕ) (hN : N ≤ 2 ^ 31) (hv : v < 2 ^ 31) :
    IntOp.cmpi .slt (BitVec.ofNat 32 (x.val % d)) (BitVec.ofNat 32 v) = if x.val % d < v then 1#1 else 0#1 := by
  have hx := x.isLt
  have := Nat.mod_le x.val d
  exact slt_nat _ _ (by omega) hv

/-- The one-sided form of the row mask of a shifted tap: the row's place within its sample, displaced by the word `w`,
compared without sign. -/
theorem ult_shift {N : ℕ} (x : Fin N) (d w v : ℕ) (hN : N ≤ 2 ^ 31) (hw : w < 2 ^ 32) (hv : v < 2 ^ 31) :
    IntOp.cmpi .ult (IntOp.addi (BitVec.ofNat 32 (x.val % d)) (BitVec.ofNat 32 w)) (BitVec.ofNat 32 v)
      = if (x.val % d + w) % 4294967296 < v then 1#1 else 0#1 := by
  have e : IntOp.addi (BitVec.ofNat 32 (x.val % d)) (BitVec.ofNat 32 w) = BitVec.ofNat 32 (x.val % d + w) := by
    show BitVec.ofNat 32 (x.val % d) + BitVec.ofNat 32 w = _
    exact (BitVec.ofNat_add ..).symm
  rw [e, cmpi_ult_eq]
  simp only [BitVec.toNat_ofNat]
  rw [Nat.mod_eq_of_lt (by omega : v < 2 ^ 32)]
  have h32 : (2 : ℕ) ^ 32 = 4294967296 := by norm_num
  rw [h32]
  by_cases h : (x.val % d + w) % 4294967296 < v
  · rw [if_pos h, decide_eq_true h]; rfl
  · rw [if_neg h, decide_eq_false h]; rfl

end Moe
-- ==== Proof.Layer.lean ====
/- The mathematics of one convolution layer over the real numbers, and the facts that carry it to extended reals: sums over a padded row axis, the two forms of the batch normalisation, the pooled maximum. -/
module

public import proofs.«01_k».proof.Proof.Words
public import Mathlib.Data.EReal.Basic
public import Mathlib.Data.EReal.Operations
public import Mathlib.Algebra.BigOperators.Fin
public import Idealize.ShloMosaic.Lib.Pointwise

@[expose] public section

noncomputable section

namespace Moe

open Idealize.ShloMosaic
open scoped BigOperators

/-! ## The real layer -/

/-- A convolution with `pad` zero positions on either side of `L`, at one output channel. -/
def conv {C K : ℕ} (L pad : ℕ) (x : Fin 64 → ℕ → Fin C → ℝ) (w : Fin C → Fin K → ℝ) (bias : ℝ) (b : Fin 64) (l : ℕ) : ℝ :=
  (∑ k : Fin K, ∑ c : Fin C, (if pad ≤ l + k.val ∧ l + k.val < L + pad then x b (l + k.val - pad) c else 0) * w c k) + bias

def mean (L : ℕ) (y : Fin 64 → ℕ → ℝ) : ℝ := (∑ b : Fin 64, ∑ l : Fin L, y b l.val) / (64 * L)

def var (L : ℕ) (y : Fin 64 → ℕ → ℝ) : ℝ := (∑ b : Fin 64, ∑ l : Fin L, (y b l.val - mean L y) ^ 2) / (64 * L)

/-- Batch normalisation over the samples and the positions. -/
def bn (eps : ℝ) (L : ℕ) (y : Fin 64 → ℕ → ℝ) (g be : ℝ) (b : Fin 64) (l : ℕ) : ℝ :=
  g * (y b l - mean L y) / Real.sqrt (var L y + eps) + be

/-- The rectified values, pooled in pairs. -/
def pool (u : Fin 64 → ℕ → ℝ) (b : Fin 64) (l : ℕ) : ℝ := max (max (u b (2 * l)) 0) (max (u b (2 * l + 1)) 0)

/-- One layer: convolution, normalisation, rectifier, pooling. -/
def layer {C K O : ℕ} (eps : ℝ) (L pad : ℕ) (x : Fin 64 → ℕ → Fin C → ℝ) (w : Fin O → Fin C → Fin K → ℝ)
    (bias g be : Fin O → ℝ) (b : Fin 64) (l : ℕ) (o : Fin O) : ℝ :=
  pool (bn eps L (conv L pad x (w o) (bias o)) (g o) (be o)) b l

theorem var_nonneg (L : ℕ) (y : Fin 64 → ℕ → ℝ) : 0 ≤ var L y := by
  unfold var; positivity

theorem var_eq (L : ℕ) (hL : 0 < L) (y : Fin 64 → ℕ → ℝ) :
    (∑ b : Fin 64, ∑ l : Fin L, y b l.val * y b l.val) * (1 / (64 * L)) - mean L y * mean L y = var L y := by
  have hn : (64 * (L : ℝ)) ≠ 0 := by positivity
  have e : ∑ b : Fin 64, ∑ l : Fin L, (y b l.val - mean L y) ^ 2
      = (∑ b : Fin 64, ∑ l : Fin L, y b l.val * y b l.val) - 2 * mean L y * (∑ b : Fin 64, ∑ l : Fin L, y b l.val)
        + 64 * L * (mean L y * mean L y) := by
    have : ∀ (b : Fin 64) (l : Fin L), (y b l.val - mean L y) ^ 2
        = y b l.val * y b l.val - 2 * mean L y * y b l.val + mean L y * mean L y := fun b l => by ring
    simp only [this, Finset.sum_add_distrib, Finset.sum_sub_distrib, ← Finset.mul_sum, Finset.sum_const, Finset.card_univ,
      Fintype.card_fin, nsmul_eq_mul]
    push_cast; ring
  have hm : (∑ b : Fin 64, ∑ l : Fin L, y b l.val) = mean L y * (64 * L) := by
    unfold mean; field_simp
  rw [var, e, hm]
  field_simp
  ring

/-! ## Coercions -/

theorem coe_sum {ι : Type} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

theorem coe_max (a b : ℝ) : ((max a b : ℝ) : EReal) = max (a : EReal) (b : EReal) :=
  (EReal.coe_strictMono.monotone).map_max

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem rsqrt_pos (a : ℝ) (ha : 0 < a) : Ideal.rsqrt (a : EReal) = (((Real.sqrt a)⁻¹ : ℝ) : EReal) := by
  rw [Ideal.rsqrt_coe, if_neg (not_lt.mpr ha.le), if_neg ha.ne']

theorem sqrt_nonneg' (a : ℝ) (ha : 0 ≤ a) : Ideal.sqrt (a : EReal) = ((Real.sqrt a : ℝ) : EReal) := by
  rw [Ideal.sqrt_coe, if_neg (not_lt.mpr ha)]

/-- A maximum over two entries. -/
theorem fold_two (i : EReal) (hi : i = ⊥) (f : Fin 2 → EReal) : Finset.univ.fold max i f = max (f 0) (f 1) := by
  have hu : (Finset.univ : Finset (Fin 2)) = {0, 1} := by decide
  rw [hu, Finset.fold_insert (by decide), Finset.fold_singleton, hi, max_bot_right]

/-! ## Sums over the padded rows -/

/-- A row of `S` per sample, seen as its sample and its place within. -/
theorem sum_rows {S N : ℕ} (hN : N = 64 * S) (f : Fin N → EReal) :
    ∑ r, f r = ∑ b : Fin 64, ∑ l : Fin S, f ⟨b.val * S + l.val, by
      have := b.isLt; have := l.isLt; subst hN; nlinarith⟩ := by
  subst hN
  rw [← finProdFinEquiv.sum_comp, Fintype.sum_prod_type]
  refine Finset.sum_congr rfl fun b _ => Finset.sum_congr rfl fun l _ => congrArg f (Fin.ext ?_)
  simp [finProdFinEquiv]; ring

theorem sum_masked {S N Lv : ℕ} (hN : N = 64 * S) (hL : Lv ≤ S) (f : Fin N → EReal) (g : Fin 64 → ℕ → ℝ)
    (hf : ∀ (r : Fin N) (b : Fin 64) (l : ℕ), l < Lv → r.val = b.val * S + l → f r = (g b l : ℝ)) :
    ∑ r : Fin N, (if r.val % S < Lv then f r else 0) = ((∑ b : Fin 64, ∑ l : Fin Lv, g b l.val : ℝ) : EReal) := by
  rw [sum_rows hN, coe_sum]
  refine Finset.sum_congr rfl fun b _ => ?_
  rw [coe_sum]
  obtain ⟨d, rfl⟩ := Nat.exists_eq_add_of_le hL
  rw [Fin.sum_univ_add]
  have z : ∀ l : Fin d, (if (⟨b.val * (Lv + d) + (Fin.natAdd Lv l).val, by
      have := b.isLt; have := l.isLt; subst hN; simp; nlinarith⟩ : Fin N).val % (Lv + d) < Lv then
        f ⟨b.val * (Lv + d) + (Fin.natAdd Lv l).val, by
      have := b.isLt; have := l.isLt; subst hN; simp; nlinarith⟩ else 0) = 0 := fun l => by
    have := l.isLt
    rw [if_neg]
    simp only [Fin.val_natAdd]
    rw [Nat.mul_comm, Nat.mul_add_mod, Nat.mod_eq_of_lt (by omega)]
    omega
  rw [Finset.sum_eq_zero (fun l _ => z l), add_zero]
  refine Finset.sum_congr rfl fun l _ => ?_
  have := l.isLt
  rw [if_pos]
  · exact hf _ b l.val l.isLt rfl
  · simp only [Fin.val_castAdd]
    rw [Nat.mul_comm, Nat.mul_add_mod, Nat.mod_eq_of_lt (by omega)]
    omega

/-! ## The kernel's normalisation -/

/-- The kernel's scale-and-shift form of the normalisation, with the variance as the mean square less the square of the
mean, is the normalisation. -/
theorem kernel_bn {Lv : ℕ} (hL : 0 < Lv) (eps : ℝ) (he : 0 < eps) (s1 s2 c : EReal) (y : Fin 64 → ℕ → ℝ) (g be : ℝ)
    (h1 : s1 = ((∑ b : Fin 64, ∑ l : Fin Lv, y b l.val : ℝ) : EReal))
    (h2 : s2 = ((∑ b : Fin 64, ∑ l : Fin Lv, y b l.val * y b l.val : ℝ) : EReal))
    (hc : c = ((1 / (64 * Lv) : ℝ) : EReal)) (b : Fin 64) (l : ℕ) :
    (y b l : EReal) * ((g : EReal) * Ideal.rsqrt (s2 * c - s1 * c * (s1 * c) + (eps : EReal)))
      + ((be : EReal) - s1 * c * ((g : EReal) * Ideal.rsqrt (s2 * c - s1 * c * (s1 * c) + (eps : EReal))))
      = ((bn eps Lv y g be b l : ℝ) : EReal) := by
  have m : s1 * c = ((mean Lv y : ℝ) : EReal) := by
    rw [h1, hc, ← EReal.coe_mul, mean, mul_one_div]
  have v : s2 * c - s1 * c * (s1 * c) = ((var Lv y : ℝ) : EReal) := by
    rw [m, h2, hc, ← EReal.coe_mul, ← EReal.coe_mul, ← EReal.coe_sub, var_eq _ hL]
  have hv := var_nonneg Lv y
  have hp : 0 < var Lv y + eps := by linarith
  rw [v, m, ← EReal.coe_add, rsqrt_pos _ hp]
  simp only [← EReal.coe_mul, ← EReal.coe_sub, ← EReal.coe_add]
  congr 1
  unfold bn
  have : Real.sqrt (var Lv y + eps) ≠ 0 := (Real.sqrt_pos.mpr hp).ne'
  field_simp
  ring

/-- The normalisation as the reference states it. -/
theorem ref_bn {Lv : ℕ} (eps : ℝ) (he : 0 < eps) (m v : EReal) (y : Fin 64 → ℕ → ℝ) (g be : ℝ)
    (hm : m = ((mean Lv y : ℝ) : EReal)) (hv : v = ((var Lv y : ℝ) : EReal)) (b : Fin 64) (l : ℕ) :
    Ideal.div ((g : EReal) * ((y b l : EReal) - m)) (Ideal.sqrt (v + (eps : EReal))) + (be : EReal)
      = ((bn eps Lv y g be b l : ℝ) : EReal) := by
  have hv0 := var_nonneg Lv y
  have hp : 0 < var Lv y + eps := by linarith
  have hs : Real.sqrt (var Lv y + eps) ≠ 0 := (Real.sqrt_pos.mpr hp).ne'
  rw [hm, hv, ← EReal.coe_add, sqrt_nonneg' _ hp.le, ← EReal.coe_sub, ← EReal.coe_mul, div_coe _ _ hs, ← EReal.coe_add]
  rfl

theorem pool_coe (u : Fin 64 → ℕ → ℝ) (b : Fin 64) (l : ℕ) :
    ((pool u b l : ℝ) : EReal) = max (max ((u b (2 * l) : ℝ) : EReal) 0) (max ((u b (2 * l + 1) : ℝ) : EReal) 0) := by
  rw [pool, coe_max, coe_max, coe_max, EReal.coe_zero]

/-- The small number under the square root: the f32 number nearest 1e-5. -/
def epsR : ℝ := (2 ^ 23 + 2606508 : ℕ) * (2 : ℝ) ^ (-40 : ℤ)

theorem eps_pos : 0 < epsR := by unfold epsR; positivity

theorem eps_coe : Ideal.ofBits .f32 0x3727C5AC#32 = (epsR : EReal) := by
  simp [Ideal.ofBits, Ideal.ieee, epsR]

/-! ## The padded rows -/

/-- What a padded stack of rows holds: 16 zero rows, then for each sample `S` rows of which the first `L` hold the
sample's positions and the others zero, then zero rows. -/
def padded (S L : ℕ) {C : ℕ} (x : Fin 64 → ℕ → Fin C → ℝ) (r : ℕ) (c : Fin C) : ℝ :=
  if 16 ≤ r ∧ (r - 16) / S < 64 ∧ (r - 16) % S < L then x (Fin.ofNat 64 ((r - 16) / S)) ((r - 16) % S) c else 0

theorem ofNat_val (b : Fin 64) : Fin.ofNat 64 b.val = b := Fin.ext (Nat.mod_eq_of_lt b.isLt)

/-- A tap read from the padded rows, no mask: the displacement is within the gap between two samples. -/
theorem tap_gap {S L C : ℕ} (hS : 0 < S) (hL : L ≤ S) (x : Fin 64 → ℕ → Fin C → ℝ) (pad k : ℕ) (hp : pad ≤ 16)
    (h1 : pad ≤ k + (S - L)) (h2 : k ≤ pad + (S - L)) (b : Fin 64) (l : ℕ) (hl : l < L) (c : Fin C) :
    padded S L x (16 - pad + k + (b.val * S + l)) c
      = if pad ≤ l + k ∧ l + k < L + pad then x b (l + k - pad) c else 0 := by
  have hb := b.isLt
  unfold padded
  by_cases hlo : pad ≤ l + k
  · have e : 16 - pad + k + (b.val * S + l) - 16 = S * b.val + (l + k - pad) := by
      rw [Nat.mul_comm]; omega
    have hlt : l + k - pad < S := by omega
    rw [e, Nat.mul_add_div hS, Nat.mul_add_mod, Nat.mod_eq_of_lt hlt, Nat.div_eq_of_lt hlt]
    simp only [add_zero]
    by_cases hhi : l + k < L + pad
    · rw [if_pos ⟨by omega, hb, by omega⟩, if_pos ⟨hlo, hhi⟩, ofNat_val]
    · rw [if_neg (by omega), if_neg (by omega)]
  · have hr : (if pad ≤ l + k ∧ l + k < L + pad then x b (l + k - pad) c else 0) = 0 := if_neg (by omega)
    rw [hr]
    rcases Nat.eq_zero_or_pos b.val with h0 | h0
    · rw [if_neg]
      rw [h0]; simp; omega
    · obtain ⟨b', hb'⟩ : ∃ b', b.val = b' + 1 := ⟨b.val - 1, by omega⟩
      have e : 16 - pad + k + (b.val * S + l) - 16 = S * b' + (S + l + k - pad) := by
        rw [hb', Nat.add_mul, Nat.mul_comm]; omega
      have hlt : S + l + k - pad < S := by omega
      rw [e, Nat.mul_add_div hS, Nat.mul_add_mod, Nat.mod_eq_of_lt hlt, Nat.div_eq_of_lt hlt]
      rw [if_neg (by omega)]

/-- A tap read from the padded rows where its position is inside the sample. -/
theorem tap_mask {S L C : ℕ} (hS : 0 < S) (hL : L ≤ S) (x : Fin 64 → ℕ → Fin C → ℝ) (pad k : ℕ) (hp : pad ≤ 16)
    (b : Fin 64) (l : ℕ) (c : Fin C) (P : Prop) [Decidable P] (hP : P ↔ pad ≤ l + k ∧ l + k < L + pad) :
    (if P then ((padded S L x (16 - pad + k + (b.val * S + l)) c : ℝ) : EReal) else 0)
      = ((if pad ≤ l + k ∧ l + k < L + pad then x b (l + k - pad) c else 0 : ℝ) : EReal) := by
  have hb := b.isLt
  by_cases h : P
  · have h' := hP.mp h
    rw [if_pos h, if_pos h']
    unfold padded
    have e : 16 - pad + k + (b.val * S + l) - 16 = S * b.val + (l + k - pad) := by
      rw [Nat.mul_comm]; omega
    have hlt : l + k - pad < S := by omega
    rw [e, Nat.mul_add_div hS, Nat.mul_add_mod, Nat.mod_eq_of_lt hlt, Nat.div_eq_of_lt hlt]
    simp only [add_zero]
    rw [if_pos ⟨by omega, hb, by omega⟩, ofNat_val]
  · rw [if_neg h, if_neg (fun h' => h (hP.mpr h')), EReal.coe_zero]

theorem add2 {a b : EReal} {x y : ℝ} (ha : a = (x : EReal)) (hb : b = (y : EReal)) : a + b = ((x + y : ℝ) : EReal) := by
  rw [ha, hb, EReal.coe_add]

/-- One tap without a mask, as a sum of products. -/
theorem tapsum_gap {S L C K N P : ℕ} (hS : 0 < S) (hL : L ≤ S) (x : Fin 64 → ℕ → Fin C → ℝ) (pad : ℕ) (hp : pad ≤ 16)
    (X : Fin P → Fin C → EReal) (hX : ∀ r c, 16 - (S - L) ≤ r.val → r.val < 16 + 64 * S → X r c = (padded S L x r.val c : EReal))
    (W : Fin K → Fin C → EReal) (w : Fin C → Fin K → ℝ) (hW : ∀ k c, W k c = (w c k : EReal))
    (b : Fin 64) (l : ℕ) (hl : l < L) (r : Fin N) (hr : r.val = b.val * S + l) (k : Fin K)
    (h1 : pad ≤ k.val + (S - L)) (h2 : k.val ≤ pad + (S - L)) (hN : 16 - pad + k.val + r.val < P) :
    ∑ c : Fin C, X ⟨16 - pad + k.val + r.val, hN⟩ c * W k c
      = ((∑ c : Fin C, (if pad ≤ l + k.val ∧ l + k.val < L + pad then x b (l + k.val - pad) c else 0) * w c k : ℝ) : EReal) := by
  rw [coe_sum]
  refine Finset.sum_congr rfl fun c _ => ?_
  have hb : b.val * S + S ≤ 64 * S := by have := b.isLt; nlinarith
  rw [hX _ _ (by simp only; omega) (by simp only; omega), hW, EReal.coe_mul]
  congr 2
  show padded S L x (16 - pad + k.val + r.val) c = _
  rw [hr]
  exact tap_gap hS hL x pad k.val hp h1 h2 b l hl c

/-- One tap under its mask, as a sum of products. -/
theorem tapsum_mask {S L C K N P : ℕ} (hS : 0 < S) (hS' : S < 2147483648) (hL : L ≤ S) (x : Fin 64 → ℕ → Fin C → ℝ) (pad : ℕ) (hp : pad ≤ 16)
    (X : Fin P → Fin C → EReal) (hX : ∀ r c, 16 - (S - L) ≤ r.val → r.val < 16 + 64 * S → X r c = (padded S L x r.val c : EReal))
    (W : Fin K → Fin C → EReal) (w : Fin C → Fin K → ℝ) (hW : ∀ k c, W k c = (w c k : EReal))
    (b : Fin 64) (l : ℕ) (hl : l < L) (r : Fin N) (hr : r.val = b.val * S + l) (k : Fin K) (hK : K < 2147483648)
    (hN : 16 - pad + k.val + r.val < P) :
    ∑ c : Fin C, (if (r.val % S + (4294967296 - pad + k.val) % 4294967296) % 4294967296 < L then X ⟨16 - pad + k.val + r.val, hN⟩ c else 0) * W k c
      = ((∑ c : Fin C, (if pad ≤ l + k.val ∧ l + k.val < L + pad then x b (l + k.val - pad) c else 0) * w c k : ℝ) : EReal) := by
  rw [coe_sum]
  refine Finset.sum_congr rfl fun c _ => ?_
  rw [hW, EReal.coe_mul]
  congr 1
  have hk := k.isLt
  have hm : r.val % S = l := by
    rw [hr, Nat.mul_comm, Nat.mul_add_mod, Nat.mod_eq_of_lt (by omega)]
  have e : (⟨16 - pad + k.val + r.val, hN⟩ : Fin P).val = 16 - pad + k.val + (b.val * S + l) := by rw [← hr]
  have hb : b.val * S + S ≤ 64 * S := by have := b.isLt; nlinarith
  have hin : (r.val % S + (4294967296 - pad + k.val) % 4294967296) % 4294967296 < L ↔ pad ≤ l + k.val ∧ l + k.val < L + pad := by
    rw [hm]; omega
  rw [ite_congr rfl (fun h => hX _ c (by have := hin.mp h; simp only; omega) (by have := hin.mp h; simp only; omega)) (fun _ => rfl), e]
  exact tap_mask hS hL x pad k.val hp b l c _ hin

theorem neg_inf : Ideal.ofBits .f32 0xFF800000#32 = ⊥ := by
  simp [Ideal.ofBits, Ideal.ieee]

/-- The kernel's normalised, rectified and pooled value at one pooled row. -/
theorem kernel_pool {S2 Lv N M : ℕ} (hN : N = 64 * (2 * S2)) (hL0 : 0 < Lv) (hL : Lv ≤ 2 * S2) (Y : Fin N → EReal) (y : Fin 64 → ℕ → ℝ)
    (hY : ∀ (r : Fin N) (b : Fin 64) (l : ℕ), l < Lv → r.val = b.val * (2 * S2) + l → Y r = (y b l : EReal))
    (G B c : EReal) (g be : ℝ) (hG : G = (g : EReal)) (hB : B = (be : EReal)) (hc : c = ((1 / (64 * Lv) : ℝ) : EReal))
    (r : Fin M) (b : Fin 64) (l : ℕ) (hl : 2 * l + 1 < Lv) (hr : r.val = b.val * S2 + l) (h2 : ∀ x : Fin 2, r.val * 2 + x.val < N) :
    Finset.fold max (Ideal.ofBits .f32 0xFF800000#32)
      (fun x : Fin 2 => max (Y ⟨r.val * 2 + x.val, h2 x⟩ * (G * Ideal.rsqrt ((∑ x : Fin N, if x.val % (2 * S2) < Lv then Y x * Y x else 0) * c
          - (∑ x : Fin N, if x.val % (2 * S2) < Lv then Y x else 0) * c * ((∑ x : Fin N, if x.val % (2 * S2) < Lv then Y x else 0) * c)
          + Ideal.ofBits .f32 0x3727C5AC#32))
        + (B - (∑ x : Fin N, if x.val % (2 * S2) < Lv then Y x else 0) * c * (G * Ideal.rsqrt ((∑ x : Fin N, if x.val % (2 * S2) < Lv then Y x * Y x else 0) * c
          - (∑ x : Fin N, if x.val % (2 * S2) < Lv then Y x else 0) * c * ((∑ x : Fin N, if x.val % (2 * S2) < Lv then Y x else 0) * c)
          + Ideal.ofBits .f32 0x3727C5AC#32)))) 0) Finset.univ
      = ((pool (bn epsR Lv y g be) b l : ℝ) : EReal) := by
  have h1 := sum_masked hN hL Y y hY
  have h2' := sum_masked hN hL (fun r => Y r * Y r) (fun b l => y b l * y b l) (fun r b l hl hr => by
    rw [hY r b l hl hr, EReal.coe_mul])
  rw [fold_two _ neg_inf, pool_coe, eps_coe, hG, hB]
  rw [hY ⟨r.val * 2 + (0 : Fin 2).val, h2 0⟩ b (2 * l) (by omega) (by simp [hr]; ring),
    hY ⟨r.val * 2 + (1 : Fin 2).val, h2 1⟩ b (2 * l + 1) (by omega) (by simp [hr]; ring),
    kernel_bn hL0 epsR eps_pos _ _ c y g be h1 h2' hc b (2 * l), kernel_bn hL0 epsR eps_pos _ _ c y g be h1 h2' hc b (2 * l + 1)]

/-- The contribution of tap `k` at row `l` of sample `b`. -/
def tapR {C K : ℕ} (L pad : ℕ) (x : Fin 64 → ℕ → Fin C → ℝ) (w : Fin C → Fin K → ℝ) (b : Fin 64) (l k : ℕ) : ℝ :=
  ∑ c : Fin C, (if pad ≤ l + k ∧ l + k < L + pad then x b (l + k - pad) c else 0) * (if h : k < K then w c ⟨k, h⟩ else 0)

theorem tapR_of {C K : ℕ} (L pad : ℕ) (x : Fin 64 → ℕ → Fin C → ℝ) (w : Fin C → Fin K → ℝ) (b : Fin 64) (l k : ℕ) (hk : k < K) :
    ∑ c : Fin C, (if pad ≤ l + k ∧ l + k < L + pad then x b (l + k - pad) c else 0) * w c ⟨k, hk⟩ = tapR L pad x w b l k := by
  unfold tapR
  simp only [dif_pos hk]

theorem conv_eq {C K : ℕ} (L pad : ℕ) (x : Fin 64 → ℕ → Fin C → ℝ) (w : Fin C → Fin K → ℝ) (bias : ℝ) (b : Fin 64) (l : ℕ) :
    (∑ k ∈ Finset.range K, tapR L pad x w b l k) + bias = conv L pad x w bias b l := by
  unfold conv
  rw [Finset.sum_range]
  congr 1
  exact Finset.sum_congr rfl fun k _ => (tapR_of L pad x w b l k.val k.isLt).symm

theorem tap_start {t : EReal} {T : ℕ → ℝ} (h : t = (T 0 : EReal)) : t = ((∑ k ∈ Finset.range 1, T k : ℝ) : EReal) := by
  rw [h, Finset.sum_range_one]

theorem tap_step {a t : EReal} {T : ℕ → ℝ} {m : ℕ} (ha : a = ((∑ k ∈ Finset.range m, T k : ℝ) : EReal)) (h : t = (T m : EReal)) :
    a + t = ((∑ k ∈ Finset.range (m + 1), T k : ℝ) : EReal) := by
  rw [ha, h, Finset.sum_range_succ, EReal.coe_add]

/-- A tap without a mask, its row offset and its number given as numbers. -/
theorem gap_at {S L C K N P : ℕ} (hS : 0 < S) (hL : L ≤ S) (x : Fin 64 → ℕ → Fin C → ℝ) (pad : ℕ) (hp : pad ≤ 16)
    (X : Fin P → Fin C → EReal) (hX : ∀ r c, 16 - (S - L) ≤ r.val → r.val < 16 + 64 * S → X r c = (padded S L x r.val c : EReal))
    (W : Fin K → Fin C → EReal) (w : Fin C → Fin K → ℝ) (hW : ∀ k c, W k c = (w c k : EReal))
    (b : Fin 64) (l : ℕ) (hl : l < L) (r : Fin N) (hr : r.val = b.val * S + l) (k q : ℕ) (hk : k < K) (hq : q = 16 - pad + k)
    (h1 : pad ≤ k + (S - L)) (h2 : k ≤ pad + (S - L)) (hN : q + r.val < P) :
    ∑ c : Fin C, X ⟨q + r.val, hN⟩ c * W ⟨k, hk⟩ c = (tapR L pad x w b l k : EReal) := by
  subst hq
  rw [tapsum_gap hS hL x pad hp X hX W w hW b l hl r hr ⟨k, hk⟩ h1 h2 hN, tapR_of]

/-- A masked tap, its row offset, its displacement word and its number given as numbers. -/
theorem mask_at {S L C K N P : ℕ} (hS : 0 < S) (hS' : S < 2147483648) (hL : L ≤ S) (x : Fin 64 → ℕ → Fin C → ℝ) (pad : ℕ) (hp : pad ≤ 16)
    (X : Fin P → Fin C → EReal) (hX : ∀ r c, 16 - (S - L) ≤ r.val → r.val < 16 + 64 * S → X r c = (padded S L x r.val c : EReal))
    (W : Fin K → Fin C → EReal) (w : Fin C → Fin K → ℝ) (hW : ∀ k c, W k c = (w c k : EReal)) (hK : K < 2147483648)
    (b : Fin 64) (l : ℕ) (hl : l < L) (r : Fin N) (hr : r.val = b.val * S + l) (k q d : ℕ) (hk : k < K) (hq : q = 16 - pad + k)
    (hd : d = (4294967296 - pad + k) % 4294967296) (hN : q + r.val < P) :
    ∑ c : Fin C, (if (r.val % S + d) % 4294967296 < L then X ⟨q + r.val, hN⟩ c else 0) * W ⟨k, hk⟩ c = (tapR L pad x w b l k : EReal) := by
  subst hq hd
  rw [tapsum_mask hS hS' hL x pad hp X hX W w hW b l hl r hr ⟨k, hk⟩ hK hN, tapR_of]

/-- A sum of two vectors at an index. -/
theorem add_at {s : Shape} {φ : FTy} (A B : FVec Ideal s φ) (i : s.Idx) : addf A B i = (A i + B i : EReal) := by
  rw [addf_apply, Ideal.addf_def]

end Moe
-- ==== Proof.FourRead.lean ====
/- The last layer's operations at an index: rows, taps, reads of the windows, and the pooled value of a convolved one. -/
module

public import proofs.«01_k».proof.Proof.FourIBodyRuns
public import proofs.«01_k».proof.Proof.Layer
public import Idealize.ShloMosaic.Lib.Pointwise
public import Idealize.ShloMosaic.Lib.WholeRead
public import Idealize.ShloMosaic.Lib.WritesUnit
public import Idealize.ShloMosaic.Lib.Pipeline.Value
public import Idealize.ShloMosaic.PureOps.IdealRules

@[expose] public section

noncomputable section

namespace Cert.Kernel4Ideal.Gen

open Cert.Kernel4Ideal Idealize.ShloMosaic Idealize.ShloMosaic.TcCoe Idealize.SL.Sem Moe

theorem mod4 (r : Fin 1536) (o : Fin 256) : k0_pay4 (ix2 r o) = BitVec.ofNat 32 (r.val % 24) := by
  pointwise [k0_pay4]
  simp only [sel_lit 24 (by norm_num) (by norm_num), pymod (N := 1536) _ 24 (by norm_num) (by norm_num) (by norm_num)]

theorem mm4 (X : FVec Ideal S1536x256 .f32) (W : FVec Ideal S256x512 .f32) (r : Fin 1536) (o : Fin 512) :
    matmul dot_S1536x256_S256x512_S1536x512_1_0_0_1_n_n none X W (constant S1536x512 .f32 0x00000000#32) (ix2 r o) = ∑ c : Fin 256, X (ix2 r c) * W (ix2 c o) := by
  pointwise

theorem sel4 (X : FVec Ideal S1536x256 .f32) (w v : BitVec 32) (r : Fin 1536) (c : Fin 256) :
    select (cmpi .ult (addi k0_pay4 (broadcast S1536x256 w)) (broadcast S1536x256 v)) X (broadcast S1536x256 (FloatOps.ofBits (F := Ideal) .f32 0x00000000#32)) (ix2 r c)
      = Scalar.select (IntOp.cmpi .ult (IntOp.addi (BitVec.ofNat 32 (r.val % 24)) w) v) (X (ix2 r c)) 0 := by
  pointwise [mod4]

theorem wc4 (W : FVec Ideal S1x1x256x512 .f32) (c : Fin 256) (o : Fin 512) :
    shapeCast S256x512 W shapeCasts_S1x1x256x512_S256x512 (ix2 c o) = W (ix4 0 0 c o) := by
  pointwise

theorem bi4 (B : FVec Ideal S1x1x512 .f32) (r : Fin 1536) (o : Fin 512) :
    broadcastTo S1536x512 (shapeCast S1x512 B shapeCasts_S1x1x512_S1x512) broadcasts_S1x512_S1536x512 (ix2 r o) = B (ix3 0 0 o) := by
  pointwise

theorem sl4_4 (V : Vec Ideal S1x1568x256 .f32) (r : Fin 1536) (c : Fin 256) :
    extractStridedSlice S1536x256 ![4, 0] (k0_pay3 V) slices_S1568x256_o4_0_S1536x256 (ix2 r c) = V (ix3 0 ⟨4 + r.val, by have := r.isLt; omega⟩ c) := by
  pointwise [k0_pay3]

theorem sl4_5 (V : Vec Ideal S1x1568x256 .f32) (r : Fin 1536) (c : Fin 256) :
    extractStridedSlice S1536x256 ![5, 0] (k0_pay3 V) slices_S1568x256_o5_0_S1536x256 (ix2 r c) = V (ix3 0 ⟨5 + r.val, by have := r.isLt; omega⟩ c) := by
  pointwise [k0_pay3]

theorem sl4_6 (V : Vec Ideal S1x1568x256 .f32) (r : Fin 1536) (c : Fin 256) :
    extractStridedSlice S1536x256 ![6, 0] (k0_pay3 V) slices_S1568x256_o6_0_S1536x256 (ix2 r c) = V (ix3 0 ⟨6 + r.val, by have := r.isLt; omega⟩ c) := by
  pointwise [k0_pay3]

theorem sl4_7 (V : Vec Ideal S1x1568x256 .f32) (r : Fin 1536) (c : Fin 256) :
    extractStridedSlice S1536x256 ![7, 0] (k0_pay3 V) slices_S1568x256_o7_0_S1536x256 (ix2 r c) = V (ix3 0 ⟨7 + r.val, by have := r.isLt; omega⟩ c) := by
  pointwise [k0_pay3]

theorem sl4_8 (V : Vec Ideal S1x1568x256 .f32) (r : Fin 1536) (c : Fin 256) :
    extractStridedSlice S1536x256 ![8, 0] (k0_pay3 V) slices_S1568x256_o8_0_S1536x256 (ix2 r c) = V (ix3 0 ⟨8 + r.val, by have := r.isLt; omega⟩ c) := by
  pointwise [k0_pay3]

theorem sl4_9 (V : Vec Ideal S1x1568x256 .f32) (r : Fin 1536) (c : Fin 256) :
    extractStridedSlice S1536x256 ![9, 0] (k0_pay3 V) slices_S1568x256_o9_0_S1536x256 (ix2 r c) = V (ix3 0 ⟨9 + r.val, by have := r.isLt; omega⟩ c) := by
  pointwise [k0_pay3]

theorem sl4_10 (V : Vec Ideal S1x1568x256 .f32) (r : Fin 1536) (c : Fin 256) :
    extractStridedSlice S1536x256 ![10, 0] (k0_pay3 V) slices_S1568x256_o10_0_S1536x256 (ix2 r c) = V (ix3 0 ⟨10 + r.val, by have := r.isLt; omega⟩ c) := by
  pointwise [k0_pay3]

theorem sl4_11 (V : Vec Ideal S1x1568x256 .f32) (r : Fin 1536) (c : Fin 256) :
    extractStridedSlice S1536x256 ![11, 0] (k0_pay3 V) slices_S1568x256_o11_0_S1536x256 (ix2 r c) = V (ix3 0 ⟨11 + r.val, by have := r.isLt; omega⟩ c) := by
  pointwise [k0_pay3]

theorem sl4_12 (V : Vec Ideal S1x1568x256 .f32) (r : Fin 1536) (c : Fin 256) :
    extractStridedSlice S1536x256 ![12, 0] (k0_pay3 V) slices_S1568x256_o12_0_S1536x256 (ix2 r c) = V (ix3 0 ⟨12 + r.val, by have := r.isLt; omega⟩ c) := by
  pointwise [k0_pay3]

theorem sl4_13 (V : Vec Ideal S1x1568x256 .f32) (r : Fin 1536) (c : Fin 256) :
    extractStridedSlice S1536x256 ![13, 0] (k0_pay3 V) slices_S1568x256_o13_0_S1536x256 (ix2 r c) = V (ix3 0 ⟨13 + r.val, by have := r.isLt; omega⟩ c) := by
  pointwise [k0_pay3]

theorem sl4_14 (V : Vec Ideal S1x1568x256 .f32) (r : Fin 1536) (c : Fin 256) :
    extractStridedSlice S1536x256 ![14, 0] (k0_pay3 V) slices_S1568x256_o14_0_S1536x256 (ix2 r c) = V (ix3 0 ⟨14 + r.val, by have := r.isLt; omega⟩ c) := by
  pointwise [k0_pay3]

theorem sl4_15 (V : Vec Ideal S1x1568x256 .f32) (r : Fin 1536) (c : Fin 256) :
    extractStridedSlice S1536x256 ![15, 0] (k0_pay3 V) slices_S1568x256_o15_0_S1536x256 (ix2 r c) = V (ix3 0 ⟨15 + r.val, by have := r.isLt; omega⟩ c) := by
  pointwise [k0_pay3]

theorem sl4_16 (V : Vec Ideal S1x1568x256 .f32) (r : Fin 1536) (c : Fin 256) :
    extractStridedSlice S1536x256 ![16, 0] (k0_pay3 V) slices_S1568x256_o16_0_S1536x256 (ix2 r c) = V (ix3 0 ⟨16 + r.val, by have := r.isLt; omega⟩ c) := by
  pointwise [k0_pay3]

theorem sl4_17 (V : Vec Ideal S1x1568x256 .f32) (r : Fin 1536) (c : Fin 256) :
    extractStridedSlice S1536x256 ![17, 0] (k0_pay3 V) slices_S1568x256_o17_0_S1536x256 (ix2 r c) = V (ix3 0 ⟨17 + r.val, by have := r.isLt; omega⟩ c) := by
  pointwise [k0_pay3]

theorem sl4_18 (V : Vec Ideal S1x1568x256 .f32) (r : Fin 1536) (c : Fin 256) :
    extractStridedSlice S1536x256 ![18, 0] (k0_pay3 V) slices_S1568x256_o18_0_S1536x256 (ix2 r c) = V (ix3 0 ⟨18 + r.val, by have := r.isLt; omega⟩ c) := by
  pointwise [k0_pay3]

theorem sl4_19 (V : Vec Ideal S1x1568x256 .f32) (r : Fin 1536) (c : Fin 256) :
    extractStridedSlice S1536x256 ![19, 0] (k0_pay3 V) slices_S1568x256_o19_0_S1536x256 (ix2 r c) = V (ix3 0 ⟨19 + r.val, by have := r.isLt; omega⟩ c) := by
  pointwise [k0_pay3]

theorem sl4_20 (V : Vec Ideal S1x1568x256 .f32) (r : Fin 1536) (c : Fin 256) :
    extractStridedSlice S1536x256 ![20, 0] (k0_pay3 V) slices_S1568x256_o20_0_S1536x256 (ix2 r c) = V (ix3 0 ⟨20 + r.val, by have := r.isLt; omega⟩ c) := by
  pointwise [k0_pay3]

theorem sl4_21 (V : Vec Ideal S1x1568x256 .f32) (r : Fin 1536) (c : Fin 256) :
    extractStridedSlice S1536x256 ![21, 0] (k0_pay3 V) slices_S1568x256_o21_0_S1536x256 (ix2 r c) = V (ix3 0 ⟨21 + r.val, by have := r.isLt; omega⟩ c) := by
  pointwise [k0_pay3]

theorem sl4_22 (V : Vec Ideal S1x1568x256 .f32) (r : Fin 1536) (c : Fin 256) :
    extractStridedSlice S1536x256 ![22, 0] (k0_pay3 V) slices_S1568x256_o22_0_S1536x256 (ix2 r c) = V (ix3 0 ⟨22 + r.val, by have := r.isLt; omega⟩ c) := by
  pointwise [k0_pay3]

theorem sl4_23 (V : Vec Ideal S1x1568x256 .f32) (r : Fin 1536) (c : Fin 256) :
    extractStridedSlice S1536x256 ![23, 0] (k0_pay3 V) slices_S1568x256_o23_0_S1536x256 (ix2 r c) = V (ix3 0 ⟨23 + r.val, by have := r.isLt; omega⟩ c) := by
  pointwise [k0_pay3]

theorem sl4_24 (V : Vec Ideal S1x1568x256 .f32) (r : Fin 1536) (c : Fin 256) :
    extractStridedSlice S1536x256 ![24, 0] (k0_pay3 V) slices_S1568x256_o24_0_S1536x256 (ix2 r c) = V (ix3 0 ⟨24 + r.val, by have := r.isLt; omega⟩ c) := by
  pointwise [k0_pay3]

theorem sl4_25 (V : Vec Ideal S1x1568x256 .f32) (r : Fin 1536) (c : Fin 256) :
    extractStridedSlice S1536x256 ![25, 0] (k0_pay3 V) slices_S1568x256_o25_0_S1536x256 (ix2 r c) = V (ix3 0 ⟨25 + r.val, by have := r.isLt; omega⟩ c) := by
  pointwise [k0_pay3]

theorem sl4_26 (V : Vec Ideal S1x1568x256 .f32) (r : Fin 1536) (c : Fin 256) :
    extractStridedSlice S1536x256 ![26, 0] (k0_pay3 V) slices_S1568x256_o26_0_S1536x256 (ix2 r c) = V (ix3 0 ⟨26 + r.val, by have := r.isLt; omega⟩ c) := by
  pointwise [k0_pay3]

theorem sl4_27 (V : Vec Ideal S1x1568x256 .f32) (r : Fin 1536) (c : Fin 256) :
    extractStridedSlice S1536x256 ![27, 0] (k0_pay3 V) slices_S1568x256_o27_0_S1536x256 (ix2 r c) = V (ix3 0 ⟨27 + r.val, by have := r.isLt; omega⟩ c) := by
  pointwise [k0_pay3]

theorem sl4_28 (V : Vec Ideal S1x1568x256 .f32) (r : Fin 1536) (c : Fin 256) :
    extractStridedSlice S1536x256 ![28, 0] (k0_pay3 V) slices_S1568x256_o28_0_S1536x256 (ix2 r c) = V (ix3 0 ⟨28 + r.val, by have := r.isLt; omega⟩ c) := by
  pointwise [k0_pay3]

theorem rdX4 (m : Memref sig .tc .vmem S1x1568x256 .f32) (hm : m.IsWhole) (X : Vec Ideal S1x1568x256 .f32) (r : Fin 1568) (c : Fin 256) :
    View.readAt (Elt Ideal) m.view (Rect.unit (s := S1x1568x256) ![0, 0, 0] ![1, 1568, 256] inb_S1x1568x256_S1x1568x256_0_0_0).toLoadRect (hm.unread X) (ix3 0 r c) = X (ix3 0 r c) := by
  pointwise [Memref.IsWhole.readAt_unread]

theorem rdB4 (m : Memref sig .tc .vmem S1x1x512 .f32) (hm : m.IsWhole) (X : Vec Ideal S1x1x512 .f32) (o : Fin 512) :
    View.readAt (Elt Ideal) m.view (Rect.unit (s := S1x1x512) ![0, 0, 0] ![1, 1, 512] inb_S1x1x512_S1x1x512_0_0_0).toLoadRect (hm.unread X) (ix3 0 0 o) = X (ix3 0 0 o) := by
  pointwise [Memref.IsWhole.readAt_unread]

theorem rdG4 (m : Memref sig .tc .vmem S64x8 .f32) (hm : m.IsWhole) (X : Vec Ideal S64x8 .f32) (b : Fin 64) (e : Fin 8) :
    View.readAt (Elt Ideal) m.view (Rect.unit (s := S64x8) ![0, 0] ![64, 8] inb_S64x8_S64x8_0_0).toLoadRect (hm.unread X) (ix2 b e) = X (ix2 b e) := by
  pointwise [Memref.IsWhole.readAt_unread]

theorem rdW4_0 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 0, 0, 0] ![1, 1, 256, 512] inb_S1x25x256x512_S1x1x256x512_0_0_0_0).toLoadRect (hm.unread X) (ix4 0 0 c o) = X (ix4 0 0 c o) := by
  pointwise [Memref.IsWhole.readAt_unread]

theorem rdW4_1 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 1, 0, 0] ![1, 1, 256, 512] inb_S1x25x256x512_S1x1x256x512_0_1_0_0).toLoadRect (hm.unread X) (ix4 0 0 c o) = X (ix4 0 1 c o) := by
  pointwise [Memref.IsWhole.readAt_unread]

theorem rdW4_2 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 2, 0, 0] ![1, 1, 256, 512] inb_S1x25x256x512_S1x1x256x512_0_2_0_0).toLoadRect (hm.unread X) (ix4 0 0 c o) = X (ix4 0 2 c o) := by
  pointwise [Memref.IsWhole.readAt_unread]

theorem rdW4_3 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 3, 0, 0] ![1, 1, 256, 512] inb_S1x25x256x512_S1x1x256x512_0_3_0_0).toLoadRect (hm.unread X) (ix4 0 0 c o) = X (ix4 0 3 c o) := by
  pointwise [Memref.IsWhole.readAt_unread]

theorem rdW4_4 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 4, 0, 0] ![1, 1, 256, 512] inb_S1x25x256x512_S1x1x256x512_0_4_0_0).toLoadRect (hm.unread X) (ix4 0 0 c o) = X (ix4 0 4 c o) := by
  pointwise [Memref.IsWhole.readAt_unread]

theorem rdW4_5 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 5, 0, 0] ![1, 1, 256, 512] inb_S1x25x256x512_S1x1x256x512_0_5_0_0).toLoadRect (hm.unread X) (ix4 0 0 c o) = X (ix4 0 5 c o) := by
  pointwise [Memref.IsWhole.readAt_unread]

theorem rdW4_6 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 6, 0, 0] ![1, 1, 256, 512] inb_S1x25x256x512_S1x1x256x512_0_6_0_0).toLoadRect (hm.unread X) (ix4 0 0 c o) = X (ix4 0 6 c o) := by
  pointwise [Memref.IsWhole.readAt_unread]

theorem rdW4_7 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 7, 0, 0] ![1, 1, 256, 512] inb_S1x25x256x512_S1x1x256x512_0_7_0_0).toLoadRect (hm.unread X) (ix4 0 0 c o) = X (ix4 0 7 c o) := by
  pointwise [Memref.IsWhole.readAt_unread]

theorem rdW4_8 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 8, 0, 0] ![1, 1, 256, 512] inb_S1x25x256x512_S1x1x256x512_0_8_0_0).toLoadRect (hm.unread X) (ix4 0 0 c o) = X (ix4 0 8 c o) := by
  pointwise [Memref.IsWhole.readAt_unread]

theorem rdW4_9 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 9, 0, 0] ![1, 1, 256, 512] inb_S1x25x256x512_S1x1x256x512_0_9_0_0).toLoadRect (hm.unread X) (ix4 0 0 c o) = X (ix4 0 9 c o) := by
  pointwise [Memref.IsWhole.readAt_unread]

theorem rdW4_10 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 10, 0, 0] ![1, 1, 256, 512] inb_S1x25x256x512_S1x1x256x512_0_10_0_0).toLoadRect (hm.unread X) (ix4 0 0 c o) = X (ix4 0 10 c o) := by
  pointwise [Memref.IsWhole.readAt_unread]

theorem rdW4_11 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 11, 0, 0] ![1, 1, 256, 512] inb_S1x25x256x512_S1x1x256x512_0_11_0_0).toLoadRect (hm.unread X) (ix4 0 0 c o) = X (ix4 0 11 c o) := by
  pointwise [Memref.IsWhole.readAt_unread]

theorem rdW4_12 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 12, 0, 0] ![1, 1, 256, 512] inb_S1x25x256x512_S1x1x256x512_0_12_0_0).toLoadRect (hm.unread X) (ix4 0 0 c o) = X (ix4 0 12 c o) := by
  pointwise [Memref.IsWhole.readAt_unread]

theorem rdW4_13 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 13, 0, 0] ![1, 1, 256, 512] inb_S1x25x256x512_S1x1x256x512_0_13_0_0).toLoadRect (hm.unread X) (ix4 0 0 c o) = X (ix4 0 13 c o) := by
  pointwise [Memref.IsWhole.readAt_unread]

theorem rdW4_14 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 14, 0, 0] ![1, 1, 256, 512] inb_S1x25x256x512_S1x1x256x512_0_14_0_0).toLoadRect (hm.unread X) (ix4 0 0 c o) = X (ix4 0 14 c o) := by
  pointwise [Memref.IsWhole.readAt_unread]

theorem rdW4_15 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 15, 0, 0] ![1, 1, 256, 512] inb_S1x25x256x512_S1x1x256x512_0_15_0_0).toLoadRect (hm.unread X) (ix4 0 0 c o) = X (ix4 0 15 c o) := by
  pointwise [Memref.IsWhole.readAt_unread]

theorem rdW4_16 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 16, 0, 0] ![1, 1, 256, 512] inb_S1x25x256x512_S1x1x256x512_0_16_0_0).toLoadRect (hm.unread X) (ix4 0 0 c o) = X (ix4 0 16 c o) := by
  pointwise [Memref.IsWhole.readAt_unread]

theorem rdW4_17 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 17, 0, 0] ![1, 1, 256, 512] inb_S1x25x256x512_S1x1x256x512_0_17_0_0).toLoadRect (hm.unread X) (ix4 0 0 c o) = X (ix4 0 17 c o) := by
  pointwise [Memref.IsWhole.readAt_unread]

theorem rdW4_18 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 18, 0, 0] ![1, 1, 256, 512] inb_S1x25x256x512_S1x1x256x512_0_18_0_0).toLoadRect (hm.unread X) (ix4 0 0 c o) = X (ix4 0 18 c o) := by
  pointwise [Memref.IsWhole.readAt_unread]

theorem rdW4_19 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 19, 0, 0] ![1, 1, 256, 512] inb_S1x25x256x512_S1x1x256x512_0_19_0_0).toLoadRect (hm.unread X) (ix4 0 0 c o) = X (ix4 0 19 c o) := by
  pointwise [Memref.IsWhole.readAt_unread]

theorem rdW4_20 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 20, 0, 0] ![1, 1, 256, 512] inb_S1x25x256x512_S1x1x256x512_0_20_0_0).toLoadRect (hm.unread X) (ix4 0 0 c o) = X (ix4 0 20 c o) := by
  pointwise [Memref.IsWhole.readAt_unread]

theorem rdW4_21 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 21, 0, 0] ![1, 1, 256, 512] inb_S1x25x256x512_S1x1x256x512_0_21_0_0).toLoadRect (hm.unread X) (ix4 0 0 c o) = X (ix4 0 21 c o) := by
  pointwise [Memref.IsWhole.readAt_unread]

theorem rdW4_22 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 22, 0, 0] ![1, 1, 256, 512] inb_S1x25x256x512_S1x1x256x512_0_22_0_0).toLoadRect (hm.unread X) (ix4 0 0 c o) = X (ix4 0 22 c o) := by
  pointwise [Memref.IsWhole.readAt_unread]

theorem rdW4_23 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 23, 0, 0] ![1, 1, 256, 512] inb_S1x25x256x512_S1x1x256x512_0_23_0_0).toLoadRect (hm.unread X) (ix4 0 0 c o) = X (ix4 0 23 c o) := by
  pointwise [Memref.IsWhole.readAt_unread]

theorem rdW4_24 (m : Memref sig .tc .vmem S1x25x256x512 .f32) (hm : m.IsWhole) (X : Vec Ideal S1x25x256x512 .f32) (c : Fin 256) (o : Fin 512) :
    View.readAt (Elt Ideal) m.view (Rect.unit (s := S1x25x256x512) ![0, 24, 0, 0] ![1, 1, 256, 512] inb_S1x25x256x512_S1x1x256x512_0_24_0_0).toLoadRect (hm.unread X) (ix4 0 0 c o) = X (ix4 0 24 c o) := by
  pointwise [Memref.IsWhole.readAt_unread]

theorem pool4_read (A : FVec Ideal S1536x512 .f32) (v275 G B : Vec Ideal S1x1x512 .f32) (o : Fin 512) (y : Fin 64 → ℕ → ℝ) (g be : ℝ)
    (hY : ∀ (r : Fin 1536) (b : Fin 64) (l : ℕ), l < 23 → r.val = b.val * 24 + l → k0_pay20 A v275 (ix2 r o) = (y b l : EReal))
    (hG : G (ix3 0 0 o) = (g : EReal)) (hB : B (ix3 0 0 o) = (be : EReal))
    (r : Fin 768) (b : Fin 64) (l : ℕ) (hl : l < 11) (hr : r.val = b.val * 12 + l) :
    k0_pay24 (k0_pay20 A v275) (k0_pay22 A v275) (k0_pay23 A v275 G) B (ix2 r o) = ((pool (bn epsR 23 y g be) b l : ℝ) : EReal) := by
  unfold k0_pay23 k0_pay22 k0_pay21
  generalize k0_pay20 A v275 = Y at hY ⊢
  pointwise [k0_pay24]
  simp only [sel_lit 24 (by norm_num) (by norm_num), pymod (N := 1536) _ 24 (by norm_num) (by norm_num) (by norm_num),
    slt_mod (N := 1536) _ 24 23 (by norm_num) (by norm_num), select_ite]
  have hlt := r.isLt
  exact kernel_pool (S2 := 12) (Lv := 23) (N := 1536) (by norm_num) (by norm_num) (by norm_num) (fun r => Y (ix2 r o))
    y (fun r b l hl hr => hY r b l hl hr) _ _ _ g be hG hB
    ((IdealRules.named_const.ideal_named_scalar _ _ _ _ rfl).trans (by norm_num)) r b l (by omega) hr (fun x => by have := x.isLt; omega)

end Cert.Kernel4Ideal.Gen
-- ==== Proof.FourRows.lean ====
/- The rows that the last layer's body pools: the layer's, from its windows. -/
module

public import proofs.«01_k».proof.Proof.FourRead
public import proofs.«01_k».proof.Proof.Layer
public import Idealize.ShloMosaic.Lib.Pointwise
public import Idealize.ShloMosaic.Lib.WholeRead
public import Idealize.ShloMosaic.Lib.WritesUnit
public import Idealize.ShloMosaic.Lib.Pipeline.Value
public import Idealize.ShloMosaic.PureOps.IdealRules

@[expose] public section

noncomputable section

namespace Cert.Kernel4Ideal.Gen

open Cert.Kernel4Ideal Idealize.ShloMosaic Idealize.ShloMosaic.TcCoe Idealize.SL.Sem Moe

theorem y4_read (c : Dev nD) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole)
    (x0 : Vec Ideal S1x1568x256 .f32) (x1 : Vec Ideal S1x25x256x512 .f32) (x2 : Vec Ideal S1x1x512 .f32)
    (x : Fin 64 → ℕ → Fin 256 → ℝ) (w : Fin 512 → Fin 256 → Fin 25 → ℝ) (bias : Fin 512 → ℝ)
    (hx0 : ∀ (r : Fin 1568) c, 16 - (24 - 23) ≤ r.val → r.val < 16 + 64 * 24 → x0 (ix3 0 r c) = (padded 24 23 x r.val c : EReal))
    (hx1 : ∀ k c o, x1 (ix4 0 k c o) = (w o c k : EReal))
    (hx2 : ∀ o, x2 (ix3 0 0 o) = (bias o : EReal))
    (r : Fin 1536) (o : Fin 512) (b : Fin 64) (l : ℕ) (hl : l < 23) (hr : r.val = b.val * 24 + l) :
    kernelRun0_A.sl.r_17 c arg2 harg2 arg3 harg3 arg4 harg4 x0 x1 x2 (ix2 r o)
      = ((conv 23 12 x (w o) (bias o) b l : ℝ) : EReal) := by
  unfold kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  unfold k0_pay20 k0_pay19 k0_pay18 k0_pay17 k0_pay16 k0_pay15 k0_pay14 k0_pay13 k0_pay12 k0_pay11 k0_pay10 k0_pay9 k0_pay8 k0_pay7 k0_pay6 k0_pay5
  simp only [add_at, mm4, sel4, wc4, bi4, sl4_4, sl4_5, sl4_6, sl4_7, sl4_8, sl4_9, sl4_10, sl4_11, sl4_12, sl4_13, sl4_14, sl4_15, sl4_16, sl4_17, sl4_18, sl4_19, sl4_20, sl4_21, sl4_22, sl4_23, sl4_24, sl4_25, sl4_26, sl4_27, sl4_28,
    rdX4, rdW4_0, rdW4_1, rdW4_2, rdW4_3, rdW4_4, rdW4_5, rdW4_6, rdW4_7, rdW4_8, rdW4_9, rdW4_10, rdW4_11, rdW4_12, rdW4_13, rdW4_14, rdW4_15, rdW4_16, rdW4_17, rdW4_18, rdW4_19, rdW4_20, rdW4_21, rdW4_22, rdW4_23, rdW4_24, rdB4, ult_shift (N := 1536) _ 24 2 23 (by norm_num) (by norm_num) (by norm_num), ult_shift (N := 1536) _ 24 3 23 (by norm_num) (by norm_num) (by norm_num), ult_shift (N := 1536) _ 24 4 23 (by norm_num) (by norm_num) (by norm_num), ult_shift (N := 1536) _ 24 5 23 (by norm_num) (by norm_num) (by norm_num), ult_shift (N := 1536) _ 24 6 23 (by norm_num) (by norm_num) (by norm_num), ult_shift (N := 1536) _ 24 7 23 (by norm_num) (by norm_num) (by norm_num), ult_shift (N := 1536) _ 24 8 23 (by norm_num) (by norm_num) (by norm_num), ult_shift (N := 1536) _ 24 9 23 (by norm_num) (by norm_num) (by norm_num), ult_shift (N := 1536) _ 24 10 23 (by norm_num) (by norm_num) (by norm_num), ult_shift (N := 1536) _ 24 11 23 (by norm_num) (by norm_num) (by norm_num), ult_shift (N := 1536) _ 24 12 23 (by norm_num) (by norm_num) (by norm_num), ult_shift (N := 1536) _ 24 4294967284 23 (by norm_num) (by norm_num) (by norm_num), ult_shift (N := 1536) _ 24 4294967285 23 (by norm_num) (by norm_num) (by norm_num), ult_shift (N := 1536) _ 24 4294967286 23 (by norm_num) (by norm_num) (by norm_num), ult_shift (N := 1536) _ 24 4294967287 23 (by norm_num) (by norm_num) (by norm_num), ult_shift (N := 1536) _ 24 4294967288 23 (by norm_num) (by norm_num) (by norm_num), ult_shift (N := 1536) _ 24 4294967289 23 (by norm_num) (by norm_num) (by norm_num), ult_shift (N := 1536) _ 24 4294967290 23 (by norm_num) (by norm_num) (by norm_num), ult_shift (N := 1536) _ 24 4294967291 23 (by norm_num) (by norm_num) (by norm_num), ult_shift (N := 1536) _ 24 4294967292 23 (by norm_num) (by norm_num) (by norm_num), ult_shift (N := 1536) _ 24 4294967293 23 (by norm_num) (by norm_num) (by norm_num), ult_shift (N := 1536) _ 24 4294967294 23 (by norm_num) (by norm_num) (by norm_num), select_ite]
  have t := gap_at (S := 24) (L := 23) (N := 1536) (P := 1568) (by norm_num) (by norm_num) x 12 (by norm_num)
    (fun r c => x0 (ix3 0 r c)) hx0 (fun k c => x1 (ix4 0 k c o)) (w o) (fun k c => hx1 k c o) b l hl r hr
  have u := mask_at (S := 24) (L := 23) (N := 1536) (P := 1568) (by norm_num) (by norm_num) (by norm_num) x 12 (by norm_num)
    (fun r c => x0 (ix3 0 r c)) hx0 (fun k c => x1 (ix4 0 k c o)) (w o) (fun k c => hx1 k c o) (by norm_num) b l hl r hr
  have hlt := r.isLt
  refine (add2 (tap_step (tap_step (tap_step (tap_step (tap_step (tap_step (tap_step (tap_step (tap_step (tap_step (tap_step (tap_step (tap_step (tap_step (tap_step (tap_step (tap_step (tap_step (tap_step (tap_step (tap_step (tap_step (tap_step (tap_step (tap_start (u 0 4 4294967284 (by norm_num) (by norm_num) (by norm_num) (by omega))) (u 1 5 4294967285 (by norm_num) (by norm_num) (by norm_num) (by omega))) (u 2 6 4294967286 (by norm_num) (by norm_num) (by norm_num) (by omega))) (u 3 7 4294967287 (by norm_num) (by norm_num) (by norm_num) (by omega))) (u 4 8 4294967288 (by norm_num) (by norm_num) (by norm_num) (by omega))) (u 5 9 4294967289 (by norm_num) (by norm_num) (by norm_num) (by omega))) (u 6 10 4294967290 (by norm_num) (by norm_num) (by norm_num) (by omega))) (u 7 11 4294967291 (by norm_num) (by norm_num) (by norm_num) (by omega))) (u 8 12 4294967292 (by norm_num) (by norm_num) (by norm_num) (by omega))) (u 9 13 4294967293 (by norm_num) (by norm_num) (by norm_num) (by omega))) (u 10 14 4294967294 (by norm_num) (by norm_num) (by norm_num) (by omega))) (t 11 15 (by norm_num) (by norm_num) (by norm_num) (by norm_num) (by omega))) (t 12 16 (by norm_num) (by norm_num) (by norm_num) (by norm_num) (by omega))) (t 13 17 (by norm_num) (by norm_num) (by norm_num) (by norm_num) (by omega))) (u 14 18 2 (by norm_num) (by norm_num) (by norm_num) (by omega))) (u 15 19 3 (by norm_num) (by norm_num) (by norm_num) (by omega))) (u 16 20 4 (by norm_num) (by norm_num) (by norm_num) (by omega))) (u 17 21 5 (by norm_num) (by norm_num) (by norm_num) (by omega))) (u 18 22 6 (by norm_num) (by norm_num) (by norm_num) (by omega))) (u 19 23 7 (by norm_num) (by norm_num) (by norm_num) (by omega))) (u 20 24 8 (by norm_num) (by norm_num) (by norm_num) (by omega))) (u 21 25 9 (by norm_num) (by norm_num) (by norm_num) (by omega))) (u 22 26 10 (by norm_num) (by norm_num) (by norm_num) (by omega))) (u 23 27 11 (by norm_num) (by norm_num) (by norm_num) (by omega))) (u 24 28 12 (by norm_num) (by norm_num) (by norm_num) (by omega))) (hx2 o)).trans ?_
  rw [conv_eq]

/-- The pooled rows that the body forms from its windows. -/
theorem p4_read (c : Dev nD) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole)
    (x0 : Vec Ideal S1x1568x256 .f32) (x1 : Vec Ideal S1x25x256x512 .f32) (x2 x3 x4 : Vec Ideal S1x1x512 .f32)
    (x : Fin 64 → ℕ → Fin 256 → ℝ) (w : Fin 512 → Fin 256 → Fin 25 → ℝ) (bias g be : Fin 512 → ℝ)
    (hx0 : ∀ (r : Fin 1568) c, 16 - (24 - 23) ≤ r.val → r.val < 16 + 64 * 24 → x0 (ix3 0 r c) = (padded 24 23 x r.val c : EReal))
    (hx1 : ∀ k c o, x1 (ix4 0 k c o) = (w o c k : EReal))
    (hx2 : ∀ o, x2 (ix3 0 0 o) = (bias o : EReal)) (hx3 : ∀ o, x3 (ix3 0 0 o) = (g o : EReal)) (hx4 : ∀ o, x4 (ix3 0 0 o) = (be o : EReal))
    (r : Fin 768) (o : Fin 512) (b : Fin 64) (l : ℕ) (hl : l < 11) (hr : r.val = b.val * 12 + l) :
    kernelRun0_A.sl.r_20 c arg2 harg2 arg3 harg3 arg4 harg4 arg5 harg5 arg6 harg6 x0 x1 x2 x3 x4 (ix2 r o)
      = ((layer epsR 23 12 x w bias g be b l o : ℝ) : EReal) := by
  have hY := fun r => y4_read c arg2 harg2 arg3 harg3 arg4 harg4 x0 x1 x2 x w bias hx0 hx1 hx2 r o
  unfold kernelRun0_A.sl.r_17 at hY
  unfold kernelRun0_A.sl.r_20 kernelRun0_A.sl.r_19 kernelRun0_A.sl.r_18 kernelRun0_A.sl.r_17
  exact pool4_read _ _ _ _ o (conv 23 12 x (w o) (bias o)) (g o) (be o) (fun r b l hl hr => hY r b l hl hr)
    ((rdB4 _ _ _ _).trans (hx3 o)) ((rdB4 _ _ _ _).trans (hx4 o)) r b l hl hr

/-- The later grid points form the same rows. -/
theorem p4_later (c : Dev nD) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole)
    (x0 : Vec Ideal S1x1568x256 .f32) (x1 : Vec Ideal S1x25x256x512 .f32) (x2 x3 x4 : Vec Ideal S1x1x512 .f32) :
    kernelRun0_B.sl.r_20 c arg2 harg2 arg3 harg3 arg4 harg4 arg5 harg5 arg6 harg6 x0 x1 x2 x3 x4 = kernelRun0_A.sl.r_20 c arg2 harg2 arg3 harg3 arg4 harg4 arg5 harg5 arg6 harg6 x0 x1 x2 x3 x4 := rfl

end Cert.Kernel4Ideal.Gen
-- ==== Proof.FourSum.lean ====
/- The last store of the call's body: the pooled rows summed per sample, divided, and weighted by the expert's gate. -/
module

public import proofs.«01_k».proof.Proof.FourRows

@[expose] public section

noncomputable section

namespace Cert.Kernel4Ideal.Gen

open Cert.Kernel4Ideal Idealize.ShloMosaic Idealize.ShloMosaic.TcCoe Idealize.SL.Sem Moe

theorem rowdiv : ∀ x : Fin 768, (Scalar.select
                      (IntOp.andi
                        (IntOp.cmpi CmpIPredicate.ne
                          (IntOp.subi (BitVec.setWidth 32 (IntOp.cmpi CmpIPredicate.sgt (BitVec.ofNat 32 x.val) 0#32))
                            (BitVec.setWidth 32 (IntOp.cmpi CmpIPredicate.slt (BitVec.ofNat 32 x.val) 0#32)))
                          (Scalar.subi (Scalar.extui (Scalar.cmpi CmpIPredicate.sgt 12#32 0#32))
                            (Scalar.extui (Scalar.cmpi CmpIPredicate.slt 12#32 0#32))))
                        (IntOp.cmpi CmpIPredicate.ne (IntOp.remsi ArithUnit.vector (BitVec.ofNat 32 x.val) 12#32) 0#32))
                      (IntOp.subi (IntOp.divsi ArithUnit.vector (BitVec.ofNat 32 x.val) 12#32) 1#32)
                      (IntOp.divsi ArithUnit.vector (BitVec.ofNat 32 x.val) 12#32)) = BitVec.ofNat 32 (x.val / 12) := by
  decide +kernel

theorem rowrem : ∀ x : Fin 768, (IntOp.cmpi CmpIPredicate.slt
                    (Scalar.select
                      (IntOp.andi
                        (IntOp.xori
                          (IntOp.cmpi CmpIPredicate.slt
                            (IntOp.remsi ArithUnit.vector (BitVec.ofNat 32 x.val)
                              (Scalar.select (Scalar.cmpi CmpIPredicate.eq 12#32 0#32) 1#32 12#32))
                            0#32)
                          (Scalar.cmpi CmpIPredicate.slt 12#32 0#32))
                        (IntOp.cmpi CmpIPredicate.ne
                          (IntOp.remsi ArithUnit.vector (BitVec.ofNat 32 x.val)
                            (Scalar.select (Scalar.cmpi CmpIPredicate.eq 12#32 0#32) 1#32 12#32))
                          0#32))
                      (IntOp.addi
                        (IntOp.remsi ArithUnit.vector (BitVec.ofNat 32 x.val)
                          (Scalar.select (Scalar.cmpi CmpIPredicate.eq 12#32 0#32) 1#32 12#32))
                        12#32)
                      (IntOp.remsi ArithUnit.vector (BitVec.ofNat 32 x.val)
                        (Scalar.select (Scalar.cmpi CmpIPredicate.eq 12#32 0#32) 1#32 12#32)))
                    11#32) = if x.val % 12 < 11 then 1#1 else 0#1 := by
  decide +kernel

theorem bit_one : (FloatOps.sitofp .f32 (BitVec.setWidth 32 (IntOp.andi 1#1 1#1)) : Ideal .f32) = (1 : EReal) := by
  rw [show BitVec.setWidth 32 (IntOp.andi 1#1 1#1) = 1#32 from by decide]
  show (((1#32).toInt : ℝ) : EReal) = 1
  rw [show (1#32).toInt = 1 from by decide]
  norm_num

theorem bit_zero (p q : BitVec 1) (h : p = 0#1 ∨ q = 0#1) : (FloatOps.sitofp .f32 (BitVec.setWidth 32 (IntOp.andi p q)) : Ideal .f32) = (0 : EReal) := by
  have e : IntOp.andi p q = 0#1 := by
    rcases h with h | h <;> subst h
    · revert q; decide
    · revert p; decide
  rw [e, show BitVec.setWidth 32 (0#1) = 0#32 from by decide]
  show (((0#32).toInt : ℝ) : EReal) = 0
  rw [show (0#32).toInt = 0 from by decide]
  norm_num

/-- One entry of the selection matrix times a row. -/
theorem sel_mul (x : Fin 768) (b : Fin 64) (P : EReal) :
    (FloatOps.sitofp .f32 (BitVec.setWidth 32 (IntOp.andi (if x.val / 12 = b.val then 1#1 else 0#1) (if x.val % 12 < 11 then 1#1 else 0#1))) : Ideal .f32) * P
      = (if x.val % 12 < 11 then (if x.val / 12 = b.val then P else 0) else 0 : EReal) := by
  by_cases h1 : x.val / 12 = b.val <;> by_cases h2 : x.val % 12 < 11
  · rw [if_pos h1, if_pos h2, if_pos h2, if_pos h1, bit_one]; exact one_mul P
  · rw [if_neg h2, if_neg h2, bit_zero _ _ (Or.inr rfl)]; exact zero_mul P
  · rw [if_neg h1, if_pos h2, if_pos h2, if_neg h1, bit_zero _ _ (Or.inl rfl)]; exact zero_mul P
  · rw [if_neg h2, if_neg h2, bit_zero _ _ (Or.inr rfl)]; exact zero_mul P

/-- What a grid point adds at sample `b`, channel `o`. -/
theorem tail4_read (e : Fin 8) (P : FVec Ideal S768x512 .f32) (G : Vec Ideal S64x8 .f32) (b : Fin 64) (o : Fin 512)
    (H : Fin 64 → ℕ → ℝ) (w : ℝ) (hP : ∀ (r : Fin 768) (b : Fin 64) (l : ℕ), l < 11 → r.val = b.val * 12 + l → P (ix2 r o) = (H b l : EReal))
    (hG : G (ix2 b e) = (w : EReal)) :
    k0_pay1 (BitVec.ofNat 32 e.val) P k0_pay25 12#32 k0_pay26 k0_pay27 0#32 G (ix2 b o) = (((∑ l : Fin 11, H b l.val) * (1 / 11) * w : ℝ) : EReal) := by
  pointwise [k0_pay1, k0_pay25, k0_pay26, k0_pay27]
  simp only [rowdiv, rowrem]
  have hb := b.isLt
  have he := e.isLt
  have hq : ∀ x : Fin 768, IntOp.cmpi .eq (BitVec.ofNat 32 (x.val / 12)) (BitVec.ofNat 32 b.val) = if x.val / 12 = b.val then 1#1 else 0#1 := fun x => by
    have hx := x.isLt
    exact eq_nat (x.val / 12) b.val (by omega) (by omega)
  have hg : ∀ x : Fin 8, IntOp.cmpi .eq (BitVec.ofNat 32 x.val) (BitVec.ofNat 32 e.val) = if x.val = e.val then 1#1 else 0#1 := fun x => by
    have hx := x.isLt
    exact eq_nat x.val e.val (by omega) (by omega)
  simp only [hq, hg, sel_mul, select_ite]
  rw [sum_masked (S := 12) (Lv := 11) (by norm_num) (by norm_num) (fun x : Fin 768 => if x.val / 12 = b.val then P (ix2 x o) else 0)
    (fun b' l => if b' = b then H b' l else 0) (fun r b' l hl hr => by
      have h1 : r.val / 12 = b'.val := by omega
      by_cases hb' : b' = b
      · subst hb'; rw [if_pos h1, if_pos rfl]; exact hP r _ l hl hr
      · have : ¬ r.val / 12 = b.val := fun h => hb' (Fin.ext (h1.symm.trans h))
        rw [if_neg this, if_neg hb']; rfl)]
  have hs : (∑ b' : Fin 64, ∑ l : Fin 11, (if b' = b then H b' l.val else 0)) = ∑ l : Fin 11, H b l.val := by
    rw [Finset.sum_eq_single b (fun b' _ h => by simp [h]) (fun h => absurd (Finset.mem_univ b) h)]
    simp
  rw [hs]
  rw [Finset.sum_eq_single e (fun x _ h => if_neg (fun h' => h (Fin.ext h'))) (fun h => absurd (Finset.mem_univ e) h), if_pos rfl, hG]
  rw [show (Named.named κ "inv_out" 1035611788#32 : Ideal .f32) = ((1 / 11 : ℝ) : EReal) from
    (IdealRules.named_const.ideal_named_scalar _ _ _ _ rfl).trans (by norm_num)]
  rw [EReal.coe_mul, EReal.coe_mul]

/-- The later points' store: what was there, plus the same. -/
theorem later4_read (a : BitVec 32) (P : FVec Ideal S768x512 .f32) (G : Vec Ideal S64x8 .f32) (X : Vec Ideal S64x512 .f32) (b : Fin 64) (o : Fin 512) :
    k0_pay2 a P k0_pay25 12#32 k0_pay26 k0_pay27 0#32 G X (ix2 b o) = (X (ix2 b o) + k0_pay1 a P k0_pay25 12#32 k0_pay26 k0_pay27 0#32 G (ix2 b o) : EReal) := by
  unfold k0_pay2
  rw [add_at]
  generalize k0_pay1 a P k0_pay25 12#32 k0_pay26 k0_pay27 0#32 G = Z
  pointwise

end Cert.Kernel4Ideal.Gen
-- ==== Proof.FourOut.lean ====
/- What the last layer's call holds in its result's staging buffer after each grid point: the sum of the experts' shares up to it. -/
module

public import proofs.«01_k».proof.Proof.FourSum
public import proofs.«01_k».proof.Proof.FourIRun

@[expose] public section

noncomputable section

namespace Cert.Kernel4Ideal.Gen

open Cert.Kernel4Ideal Idealize.ShloMosaic Idealize.ShloMosaic.TcCoe Idealize.SL.Sem Moe

/-- The first point leaves its expert's share. -/
theorem first4 (c : Dev nD) (i : grid0.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole) (hc0 : cond0_0 i) (hc1 : ¬cond0_1 i)
    (x0 : Vec Ideal S1x1568x256 .f32) (x1 : Vec Ideal S1x25x256x512 .f32) (x2 x3 x4 : Vec Ideal S1x1x512 .f32) (x5 : Vec Ideal S64x8 .f32)
    (e : Fin 8) (hi : (i 0).val = e.val) (x : Fin 64 → ℕ → Fin 256 → ℝ) (w : Fin 512 → Fin 256 → Fin 25 → ℝ) (bias g be : Fin 512 → ℝ) (wt : ℝ)
    (hx0 : ∀ (r : Fin 1568) c, 16 - (24 - 23) ≤ r.val → r.val < 16 + 64 * 24 → x0 (ix3 0 r c) = (padded 24 23 x r.val c : EReal))
    (hx1 : ∀ k c o, x1 (ix4 0 k c o) = (w o c k : EReal))
    (hx2 : ∀ o, x2 (ix3 0 0 o) = (bias o : EReal)) (hx3 : ∀ o, x3 (ix3 0 0 o) = (g o : EReal)) (hx4 : ∀ o, x4 (ix3 0 0 o) = (be o : EReal))
    (b : Fin 64) (o : Fin 512) (hx5 : x5 (ix2 b e) = (wt : EReal)) :
    out0_A_6 c i arg2 harg2 arg3 harg3 arg4 harg4 arg5 harg5 arg6 harg6 arg7 harg7 arg8 harg8 hc0 hc1 x0 x1 x2 x3 x4 x5 (ix2 b o) = ((((∑ l : Fin 11, layer epsR 23 12 x w bias g be b l.val o) * (1 / 11) * wt : ℝ) : EReal)) := by
  unfold out0_A_6
  rw [View.read_writes_eq_canon _ _ _ (cover0_A_6 c i arg2 harg2 arg3 harg3 arg4 harg4 arg5 harg5 arg6 harg6 arg7 harg7 arg8 harg8 hc0 hc1 x0 x1 x2 x3 x4 x5)]
  unfold kernelRun0_A
  dsimp only
  rw [View.canon_unit_zero (off0_zero i).1, hi]
  exact tail4_read e _ _ b o (fun b l => layer epsR 23 12 x w bias g be b l o) wt
    (fun r b l hl hr => p4_read c arg2 harg2 arg3 harg3 arg4 harg4 arg5 harg5 arg6 harg6 x0 x1 x2 x3 x4 x w bias g be hx0 hx1 hx2 hx3 hx4 r o b l hl hr)
    ((rdG4 _ _ _ _ _).trans hx5)

/-- A later point adds its expert's share to what was there. -/
theorem later4 (c : Dev nD) (i : grid0.Coords) (arg2 : Memref sig .tc .vmem S1x1568x256 .f32) (harg2 : arg2.IsWhole) (arg3 : Memref sig .tc .vmem S1x25x256x512 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S64x8 .f32) (harg7 : arg7.IsWhole) (arg8 : Memref sig .tc .vmem S64x512 .f32) (harg8 : arg8.IsWhole) (hc0 : ¬cond0_0 i) (hc1 : cond0_1 i)
    (x0 : Vec Ideal S1x1568x256 .f32) (x1 : Vec Ideal S1x25x256x512 .f32) (x2 x3 x4 : Vec Ideal S1x1x512 .f32) (x5 : Vec Ideal S64x8 .f32) (xo : Vec Ideal S64x512 .f32)
    (e : Fin 8) (hi : (i 0).val = e.val) (x : Fin 64 → ℕ → Fin 256 → ℝ) (w : Fin 512 → Fin 256 → Fin 25 → ℝ) (bias g be : Fin 512 → ℝ) (wt : ℝ)
    (hx0 : ∀ (r : Fin 1568) c, 16 - (24 - 23) ≤ r.val → r.val < 16 + 64 * 24 → x0 (ix3 0 r c) = (padded 24 23 x r.val c : EReal))
    (hx1 : ∀ k c o, x1 (ix4 0 k c o) = (w o c k : EReal))
    (hx2 : ∀ o, x2 (ix3 0 0 o) = (bias o : EReal)) (hx3 : ∀ o, x3 (ix3 0 0 o) = (g o : EReal)) (hx4 : ∀ o, x4 (ix3 0 0 o) = (be o : EReal))
    (b : Fin 64) (o : Fin 512) (hx5 : x5 (ix2 b e) = (wt : EReal)) :
    out0_B_6 c i arg2 harg2 arg3 harg3 arg4 harg4 arg5 harg5 arg6 harg6 arg7 harg7 arg8 harg8 hc0 hc1 x0 x1 x2 x3 x4 x5 xo (ix2 b o) = (xo (ix2 b o) + ((((∑ l : Fin 11, layer epsR 23 12 x w bias g be b l.val o) * (1 / 11) * wt : ℝ) : EReal)) : EReal) := by
  unfold out0_B_6
  rw [View.read_writes_eq_canon _ _ _ (cover0_B_6 c i arg2 harg2 arg3 harg3 arg4 harg4 arg5 harg5 arg6 harg6 arg7 harg7 arg8 harg8 hc0 hc1 x0 x1 x2 x3 x4 x5 xo)]
  unfold kernelRun0_B
  dsimp only
  rw [View.canon_unit_zero (off0_zero i).2, hi]
  unfold kernelRun0_B.sl.v398
  refine (later4_read _ _ _ _ b o).trans (congrArg₂ (· + ·) ?_ ?_)
  · rw [View.readAt_eq_ld, harg8.read_unread, View.ld_unit_zero (S := S64x512) (off0_zero i).2]
  · rw [p4_later]
    exact tail4_read e _ _ b o (fun b l => layer epsR 23 12 x w bias g be b l o) wt
      (fun r b l hl hr => p4_read c arg2 harg2 arg3 harg3 arg4 harg4 arg5 harg5 arg6 harg6 x0 x1 x2 x3 x4 x w bias g be hx0 hx1 hx2 hx3 hx4 r o b l hl hr)
      ((rdG4 _ _ _ _ _).trans hx5)

theorem coord4 : ∀ t : Fin cfg0.N, (grid0.coords t 0).val = t.val := by decide

end Cert.Kernel4Ideal.Gen
-- ==== Proof.FourFinal.lean ====
/- The last layer's call: each window's block at a grid point as the arguments' elements, and the result array at the end. -/
module

public import proofs.«01_k».proof.Proof.FourOut
public import Idealize.ShloMosaic.Lib.StableHlo.ReadAt

@[expose] public section

noncomputable section

namespace Cert.Kernel4Ideal.Gen

open Cert.Kernel4Ideal Idealize.ShloMosaic Idealize.ShloMosaic.TcCoe Idealize.SL.Sem Moe
open Idealize.ShloMosaic.Pipeline (Dat)

variable (m : (ℓ : Loc nD τ sig) → Buf (Elt Ideal) ℓ)

theorem V_taps (c : Dev nD) (e : Fin 8) (k : Fin 25) (i : Fin 256) (o : Fin 512) :
    (V m c main_v0 : Vec Ideal S8x25x256x512 .f32) (ix4 e k i o) = (m ((c : Thread nD τ).loc main_arg1) : Vec Ideal S8x512x256x25 .f32) (ix4 e o i k) := by
  unfold V hostOps0
  after_reads_at

theorem V_row1 (c : Dev nD) (e : Fin 8) (o : Fin 512) :
    (V m c main_v1 : Vec Ideal S8x1x512 .f32) (ix3 e 0 o) = (m ((c : Thread nD τ).loc main_arg2) : Vec Ideal S8x512 .f32) (ix2 e o) := by
  unfold V hostOps0
  after_reads_at

theorem V_row2 (c : Dev nD) (e : Fin 8) (o : Fin 512) :
    (V m c main_v2 : Vec Ideal S8x1x512 .f32) (ix3 e 0 o) = (m ((c : Thread nD τ).loc main_arg3) : Vec Ideal S8x512 .f32) (ix2 e o) := by
  unfold V hostOps0
  after_reads_at

theorem V_row3 (c : Dev nD) (e : Fin 8) (o : Fin 512) :
    (V m c main_v3 : Vec Ideal S8x1x512 .f32) (ix3 e 0 o) = (m ((c : Thread nD τ).loc main_arg4) : Vec Ideal S8x512 .f32) (ix2 e o) := by
  unfold V hostOps0
  after_reads_at

theorem blk0 (c : Dev nD) (t : Fin cfg0.N) (r : Fin 1568) (i : Fin 256) :
    (iblk0 (V m) c 0 t : Vec Ideal S1x1568x256 .f32) (ix3 0 r i) = (m ((c : Thread nD τ).loc main_arg0) : Vec Ideal S8x1568x256 .f32) (ix3 ⟨t.val, lt_of_lt_of_eq t.isLt N_0⟩ r i) := by
  have hi : win0_0.index t 0 = t.val ∧ win0_0.index t 1 = 0 ∧ win0_0.index t 2 = 0 := by
    revert t; decide
  unfold iblk0
  rw [View.read_apply]
  refine Eq.trans (congrArg (V m c main_arg0) (?_ : _ = (ix3 ⟨t.val, lt_of_lt_of_eq t.isLt N_0⟩ r i : S8x1568x256.Idx))) ?_
  · funext a
    apply Fin.ext
    match a with
    | ⟨0, _⟩ => show win0_0.index t 0 * 1 + 1 * 0 = t.val; rw [hi.1]; omega
    | ⟨1, _⟩ => show win0_0.index t 1 * 1568 + 1 * r.val = r.val; rw [hi.2.1]; omega
    | ⟨2, _⟩ => show win0_0.index t 2 * 256 + 1 * i.val = i.val; rw [hi.2.2]; omega
  · exact congrFun (V_main_arg0 m c) _

theorem blk1 (c : Dev nD) (t : Fin cfg0.N) (k : Fin 25) (i : Fin 256) (o : Fin 512) :
    (iblk0 (V m) c 1 t : Vec Ideal S1x25x256x512 .f32) (ix4 0 k i o) = (m ((c : Thread nD τ).loc main_arg1) : Vec Ideal S8x512x256x25 .f32) (ix4 ⟨t.val, lt_of_lt_of_eq t.isLt N_0⟩ o i k) := by
  have hi : win0_1.index t 0 = t.val ∧ win0_1.index t 1 = 0 ∧ win0_1.index t 2 = 0 ∧ win0_1.index t 3 = 0 := by
    revert t; decide
  unfold iblk0
  rw [View.read_apply]
  refine Eq.trans (congrArg (V m c main_v0) (?_ : _ = (ix4 ⟨t.val, lt_of_lt_of_eq t.isLt N_0⟩ k i o : S8x25x256x512.Idx))) ?_
  · funext a
    apply Fin.ext
    match a with
    | ⟨0, _⟩ => show win0_1.index t 0 * 1 + 1 * 0 = t.val; rw [hi.1]; omega
    | ⟨1, _⟩ => show win0_1.index t 1 * 25 + 1 * k.val = k.val; rw [hi.2.1]; omega
    | ⟨2, _⟩ => show win0_1.index t 2 * 256 + 1 * i.val = i.val; rw [hi.2.2.1]; omega
    | ⟨3, _⟩ => show win0_1.index t 3 * 512 + 1 * o.val = o.val; rw [hi.2.2.2]; omega
  · exact V_taps m c _ k i o

theorem blk2 (c : Dev nD) (t : Fin cfg0.N) (o : Fin 512) :
    (iblk0 (V m) c 2 t : Vec Ideal S1x1x512 .f32) (ix3 0 0 o) = (m ((c : Thread nD τ).loc main_arg2) : Vec Ideal S8x512 .f32) (ix2 ⟨t.val, lt_of_lt_of_eq t.isLt N_0⟩ o) := by
  have hi : win0_2.index t 0 = t.val ∧ win0_2.index t 1 = 0 ∧ win0_2.index t 2 = 0 := by
    revert t; decide
  unfold iblk0
  rw [View.read_apply]
  refine Eq.trans (congrArg (V m c main_v1) (?_ : _ = (ix3 ⟨t.val, lt_of_lt_of_eq t.isLt N_0⟩ 0 o : S8x1x512.Idx))) ?_
  · funext a
    apply Fin.ext
    match a with
    | ⟨0, _⟩ => show win0_2.index t 0 * 1 + 1 * 0 = t.val; rw [hi.1]; omega
    | ⟨1, _⟩ => show win0_2.index t 1 * 1 + 1 * 0 = 0; rw [hi.2.1]
    | ⟨2, _⟩ => show win0_2.index t 2 * 512 + 1 * o.val = o.val; rw [hi.2.2]; omega
  · exact V_row1 m c _ o

theorem blk3 (c : Dev nD) (t : Fin cfg0.N) (o : Fin 512) :
    (iblk0 (V m) c 3 t : Vec Ideal S1x1x512 .f32) (ix3 0 0 o) = (m ((c : Thread nD τ).loc main_arg3) : Vec Ideal S8x512 .f32) (ix2 ⟨t.val, lt_of_lt_of_eq t.isLt N_0⟩ o) := by
  have hi : win0_3.index t 0 = t.val ∧ win0_3.index t 1 = 0 ∧ win0_3.index t 2 = 0 := by
    revert t; decide
  unfold iblk0
  rw [View.read_apply]
  refine Eq.trans (congrArg (V m c main_v2) (?_ : _ = (ix3 ⟨t.val, lt_of_lt_of_eq t.isLt N_0⟩ 0 o : S8x1x512.Idx))) ?_
  · funext a
    apply Fin.ext
    match a with
    | ⟨0, _⟩ => show win0_3.index t 0 * 1 + 1 * 0 = t.val; rw [hi.1]; omega
    | ⟨1, _⟩ => show win0_3.index t 1 * 1 + 1 * 0 = 0; rw [hi.2.1]
    | ⟨2, _⟩ => show win0_3.index t 2 * 512 + 1 * o.val = o.val; rw [hi.2.2]; omega
  · exact V_row2 m c _ o

theorem blk4 (c : Dev nD) (t : Fin cfg0.N) (o : Fin 512) :
    (iblk0 (V m) c 4 t : Vec Ideal S1x1x512 .f32) (ix3 0 0 o) = (m ((c : Thread nD τ).loc main_arg4) : Vec Ideal S8x512 .f32) (ix2 ⟨t.val, lt_of_lt_of_eq t.isLt N_0⟩ o) := by
  have hi : win0_4.index t 0 = t.val ∧ win0_4.index t 1 = 0 ∧ win0_4.index t 2 = 0 := by
    revert t; decide
  unfold iblk0
  rw [View.read_apply]
  refine Eq.trans (congrArg (V m c main_v3) (?_ : _ = (ix3 ⟨t.val, lt_of_lt_of_eq t.isLt N_0⟩ 0 o : S8x1x512.Idx))) ?_
  · funext a
    apply Fin.ext
    match a with
    | ⟨0, _⟩ => show win0_4.index t 0 * 1 + 1 * 0 = t.val; rw [hi.1]; omega
    | ⟨1, _⟩ => show win0_4.index t 1 * 1 + 1 * 0 = 0; rw [hi.2.1]
    | ⟨2, _⟩ => show win0_4.index t 2 * 512 + 1 * o.val = o.val; rw [hi.2.2]; omega
  · exact V_row3 m c _ o

theorem blk5 (c : Dev nD) (t : Fin cfg0.N) (b : Fin 64) (e : Fin 8) :
    (iblk0 (V m) c 5 t : Vec Ideal S64x8 .f32) (ix2 b e) = (m ((c : Thread nD τ).loc main_arg5) : Vec Ideal S64x8 .f32) (ix2 b e) := by
  have hi : win0_5.index t 0 = 0 ∧ win0_5.index t 1 = 0 := by
    revert t; decide
  unfold iblk0
  rw [View.read_apply]
  refine Eq.trans (congrArg (V m c main_arg5) (?_ : _ = (ix2 b e : S64x8.Idx))) ?_
  · funext a
    apply Fin.ext
    match a with
    | ⟨0, _⟩ => show win0_5.index t 0 * 64 + 1 * b.val = b.val; rw [hi.1]; omega
    | ⟨1, _⟩ => show win0_5.index t 1 * 8 + 1 * e.val = e.val; rw [hi.2]; omega
  · exact congrFun (V_main_arg5 m c) _

/-- Expert `e`'s share of sample `b`'s sum: its gate times the mean over the eleven positions of its last layer. -/
def share (x : Fin 8 → Fin 64 → ℕ → Fin 256 → ℝ) (w : Fin 8 → Fin 512 → Fin 256 → Fin 25 → ℝ) (bias g be : Fin 8 → Fin 512 → ℝ) (wt : Fin 64 → Fin 8 → ℝ)
    (b : Fin 64) (o : Fin 512) (e : Fin 8) : ℝ :=
  (∑ l : Fin 11, layer epsR 23 12 (x e) (w e) (bias e) (g e) (be e) b l.val o) * (1 / 11) * wt b e

/-- The result array at the end. -/
abbrev last (c : Dev nD) : Buf (Elt Ideal) ((c : Thread nD τ).loc main_v4) := outsAt0 (V m) c 7 (by rw [show cfg0.N = 8 from N_0]; decide)

section
variable (c : Dev nD) (x : Fin 8 → Fin 64 → ℕ → Fin 256 → ℝ) (w : Fin 8 → Fin 512 → Fin 256 → Fin 25 → ℝ) (bias g be : Fin 8 → Fin 512 → ℝ) (wt : Fin 64 → Fin 8 → ℝ)
  (h0 : ∀ (e : Fin 8) (r : Fin 1568) i, 16 - (24 - 23) ≤ r.val → r.val < 16 + 64 * 24 →
    (m ((c : Thread nD τ).loc main_arg0) : Vec Ideal S8x1568x256 .f32) (ix3 e r i) = (padded 24 23 (x e) r.val i : EReal))
  (h1 : ∀ (e : Fin 8) o i k, (m ((c : Thread nD τ).loc main_arg1) : Vec Ideal S8x512x256x25 .f32) (ix4 e o i k) = (w e o i k : EReal))
  (h2 : ∀ (e : Fin 8) o, (m ((c : Thread nD τ).loc main_arg2) : Vec Ideal S8x512 .f32) (ix2 e o) = (bias e o : EReal))
  (h3 : ∀ (e : Fin 8) o, (m ((c : Thread nD τ).loc main_arg3) : Vec Ideal S8x512 .f32) (ix2 e o) = (g e o : EReal))
  (h4 : ∀ (e : Fin 8) o, (m ((c : Thread nD τ).loc main_arg4) : Vec Ideal S8x512 .f32) (ix2 e o) = (be e o : EReal))
  (h5 : ∀ b (e : Fin 8), (m ((c : Thread nD τ).loc main_arg5) : Vec Ideal S64x8 .f32) (ix2 b e) = (wt b e : EReal))

include h0 h1 h2 h3 h4 h5 in
/-- After point `n`: the shares of the experts up to `n`. -/
theorem outs_at (b : Fin 64) (o : Fin 512) : ∀ (n : ℕ) (hn : n < cfg0.N),
    (outsAt0 (V m) c n hn : Vec Ideal S64x512 .f32) (ix2 b o)
      = ((∑ e ∈ Finset.univ.filter (fun e : Fin 8 => e.val ≤ n), share x w bias g be wt b o e : ℝ) : EReal)
  | 0, hn => by
    refine (congrFun (outsAt0_A (V m) c ⟨0, hn⟩ rfl (Nat.not_succ_le_zero 0)) _).trans ?_
    have e0 : Finset.univ.filter (fun e : Fin 8 => e.val ≤ 0) = {0} := by decide
    rw [e0, Finset.sum_singleton]
    exact first4 c _ _ _ _ _ _ _ _ _ _ _ _ _ _ _ _ _ _ _ _ _ _ _ 0 (coord4 _) (x 0) (w 0) (bias 0) (g 0) (be 0) (wt b 0)
      (fun r i hr hr' => (blk0 m c _ r i).trans (h0 _ r i hr hr')) (fun k i o => (blk1 m c _ k i o).trans (h1 _ o i k))
      (fun o => (blk2 m c _ o).trans (h2 _ o)) (fun o => (blk3 m c _ o).trans (h3 _ o)) (fun o => (blk4 m c _ o).trans (h4 _ o))
      b o ((blk5 m c _ b 0).trans (h5 b 0))
  | n + 1, hn => by
    have hN : n + 1 < 8 := lt_of_lt_of_eq hn (show cfg0.N = 8 from N_0)
    refine (congrFun (outsAt0_B (V m) c ⟨n + 1, hn⟩ (by dsimp only; omega) (by dsimp only; omega)) _).trans ?_
    refine (later4 c _ _ _ _ _ _ _ _ _ _ _ _ _ _ _ _ _ _ _ _ _ _ _ _ ⟨n + 1, hN⟩ (coord4 _) (x _) (w _) (bias _) (g _) (be _) (wt b ⟨n + 1, hN⟩)
      (fun r i hr hr' => (blk0 m c _ r i).trans (h0 _ r i hr hr')) (fun k i o => (blk1 m c _ k i o).trans (h1 _ o i k))
      (fun o => (blk2 m c _ o).trans (h2 _ o)) (fun o => (blk3 m c _ o).trans (h3 _ o)) (fun o => (blk4 m c _ o).trans (h4 _ o))
      b o ((blk5 m c _ b ⟨n + 1, hN⟩).trans (h5 b _))).trans ?_
    refine (add2 (outs_at b o n (Nat.lt_of_succ_lt hn)) rfl).trans ?_
    have e1 : Finset.univ.filter (fun e : Fin 8 => e.val ≤ n + 1) = insert ⟨n + 1, hN⟩ (Finset.univ.filter (fun e : Fin 8 => e.val ≤ n)) := by
      ext e
      simp only [Finset.mem_filter, Finset.mem_univ, true_and, Finset.mem_insert, Fin.ext_iff]
      omega
    have e2 : (⟨n + 1, hN⟩ : Fin 8) ∉ Finset.univ.filter (fun e : Fin 8 => e.val ≤ n) := by simp
    rw [e1, Finset.sum_insert e2, add_comm]
    rfl

include h0 h1 h2 h3 h4 h5 in
/-- The result at sample `b`, channel `o`: the sum of all experts' shares. -/
theorem last_at (b : Fin 64) (o : Fin 512) :
    (last m c : Vec Ideal S64x512 .f32) (ix2 b o) = ((∑ e : Fin 8, share x w bias g be wt b o e : ℝ) : EReal) := by
  refine (outs_at m c x w bias g be wt h0 h1 h2 h3 h4 h5 b o 7 _).trans ?_
  have e : Finset.univ.filter (fun e : Fin 8 => e.val ≤ 7) = Finset.univ := by decide
  rw [e]
end

/-- The last grid point. -/
abbrev t7 : Fin grid0.N := ⟨7, by rw [show grid0.N = 8 from N_0]; decide⟩

/-- The one write-back, at the last point, writes it. -/
theorem flushed4 (c : Dev nD) (t : Fin cfg0.N) (hf : (cfg0.win 6).flush t = true) :
    (held m 0 c).flushed 6 t = ((cfg0.win 6).blk t).view.read (Elt Ideal) (last m c) := by
  have hN : cfg0.N = 8 := N_0
  have h7 : t.val = 7 := by have := (flush0_6 t).mp hf; have := t.isLt; omega
  have ht : t = ⟨7, by rw [hN]; decide⟩ := Fin.ext h7
  subst ht
  show (cfg0.win 6).cut (grid0.coords _) ((dat0 (V m) c).after 6 _) = _
  rw [after0_6]
  have hz : (fun a => win0_6.index t7 a * main_v4.ty.shape.size a) = fun _ => 0 :=
    funext fun a => by fin_cases a <;> decide
  exact (Memref.read_access_unit_zero (Elt Ideal) main_v4 hz (fun a => by rw [congrFun hz a]; simp) (last m c)).symm

/-- So the result array ends holding it. -/
theorem final4 (c : Dev nD) : (held m 0 c).arrAt 6 cfg0.N = last m c :=
  (held m 0 c).arrAt_eq_of_cover 6 (last m c) (flushed4 m c) fun i =>
    ⟨t7, (flush0_6 t7).mpr rfl, by
      have hi : ∀ t : Fin cfg0.N, win0_6.index t 0 * win0_6.size 0 = 0 ∧ win0_6.index t 1 * win0_6.size 1 = 0 := by decide +kernel
      have hx : ∀ t : Fin cfg0.N, win0_6.xsize (grid0.coords t) 0 = 64 ∧ win0_6.xsize (grid0.coords t) 1 = 512 := by decide +kernel
      show i ∈ ((View.whole main_v4).slice (win0_6.rect t7)).set
      rw [View.set_slice_whole, Rect.mem_set_unit]
      intro a
      have h0 : (i 0 : Nat) < 64 := (i 0).isLt
      have h1 : (i 1 : Nat) < 512 := (i 1).isLt
      match a with
      | ⟨0, _⟩ => show win0_6.index t7 0 * win0_6.size 0 ≤ (i 0 : Nat) ∧ (i 0 : Nat) < win0_6.index t7 0 * win0_6.size 0 + win0_6.xsize (grid0.coords t7) 0
                  rw [(hi _).1, (hx _).1]; omega
      | ⟨1, _⟩ => show win0_6.index t7 1 * win0_6.size 1 ≤ (i 1 : Nat) ∧ (i 1 : Nat) < win0_6.index t7 1 * win0_6.size 1 + win0_6.xsize (grid0.coords t7) 1
                  rw [(hi _).2, (hx _).2]; omega⟩

end Cert.Kernel4Ideal.Gen
-- ==== Proof.RefTaps.lean ====
/- The reference's last layer read as real numbers: the taps' sum, the normalisation, the pooling, and the weighted mean. -/
module

public import proofs.«01_k».proof.Proof.Gen.Reference4Ideal.Read
public import proofs.«01_k».proof.Proof.Layer

@[expose] public section

noncomputable section

namespace Cert.Reference4Ideal.Read

open Cert.Reference4Ideal Cert.Reference4Ideal.Gen Idealize.ShloMosaic Idealize.ShloMosaic.TcCoe Idealize.SL.Sem Moe

variable (x0 : FVec Ideal S8x1568x256 .f32) (x1 : FVec Ideal S8x512x256x25 .f32) (x2 x3 x4 : FVec Ideal S8x512 .f32) (x5 : FVec Ideal S64x8 .f32)
  (x : Fin 8 → Fin 64 → ℕ → Fin 256 → ℝ) (w : Fin 8 → Fin 512 → Fin 256 → Fin 25 → ℝ) (bias g be : Fin 8 → Fin 512 → ℝ) (wt : Fin 64 → Fin 8 → ℝ)

/-- One sample's positions with twelve zeros on either side. -/
theorem padded4 (hx0 : ∀ (e : Fin 8) (b : Fin 64) (l : ℕ) (r : Fin 1568) i, l < 23 → r.val = 16 + b.val * 24 + l → x0 (ix3 e r i) = (x e b l i : EReal))
    (e : Fin 8) (b : Fin 64) (l : Fin 47) (i : Fin 256) :
    val_main_v3 (F := Ideal) x0 (ix4 e b l i) = ((if 12 ≤ l.val ∧ l.val < 23 + 12 then x e b (l.val - 12) i else 0 : ℝ) : EReal) := by
  have hin : ∀ (e : Fin 8) (b : Fin 64) (l : Fin 23) (i : Fin 256), val_main_v2 (F := Ideal) x0 (ix4 e b l i) = (x e b l.val i : EReal) := by
    intro e b l i
    pointwise [val_main_v2, val_main_v1, val_main_v0]
    exact hx0 e b l.val _ i l.isLt (by show 16 + (b.val * 24 + l.val) = _; omega)
  unfold val_main_v3
  generalize val_main_v2 (F := Ideal) x0 = y at hin ⊢
  pointwise [val_main_call0_v0, val_main_c]
  by_cases h : 12 ≤ l.val ∧ l.val - 12 < 23
  · rw [dif_pos h, if_pos (by omega)]
    exact hin e b _ i
  · rw [dif_neg h, if_neg (by omega)]
    show (((0#32).toInt : ℝ) : EReal) = _
    norm_num

/-- One tap's sum over the channels. -/
theorem tapsum (y : FVec Ideal S8x64x47x256 .f32)
    (hy : ∀ (e : Fin 8) (b : Fin 64) (l : Fin 47) (i : Fin 256), y (ix4 e b l i) = ((if 12 ≤ l.val ∧ l.val < 23 + 12 then x e b (l.val - 12) i else 0 : ℝ) : EReal))
    (hx1 : ∀ e o i k, x1 (ix4 e o i k) = (w e o i k : EReal)) (e : Fin 8) (b : Fin 64) (l : Fin 23) (o : Fin 512) (k : Fin 25) (r : Fin 47) (hr : r.val = l.val + k.val) :
    (∑ i : Fin 256, y (ix4 e b r i) * x1 (ix4 e o i k) : EReal) = ((tapR 23 12 (x e) (w e o) b l.val k.val : ℝ) : EReal) := by
  rw [← tapR_of 23 12 (x e) (w e o) b l.val k.val k.isLt, coe_sum]
  refine Finset.sum_congr rfl fun i _ => ?_
  rw [hy, hx1, hr, EReal.coe_mul]

section
variable (hx0 : ∀ (e : Fin 8) (b : Fin 64) (l : ℕ) (r : Fin 1568) i, l < 23 → r.val = 16 + b.val * 24 + l → x0 (ix3 e r i) = (x e b l i : EReal))
  (hx1 : ∀ e o i k, x1 (ix4 e o i k) = (w e o i k : EReal))
include hx0 hx1

theorem tap0 (e : Fin 8) (b : Fin 64) (l : Fin 23) (o : Fin 512) :
    val_main_v7 (F := Ideal) x0 x1 (ix4 e b l o) = ((tapR 23 12 (x e) (w e o) b l.val 0 : ℝ) : EReal) := by
  have hy := padded4 x0 x hx0
  unfold val_main_v7 val_main_v4 val_main_v6 val_main_v5
  generalize val_main_v3 (F := Ideal) x0 = y at hy ⊢
  pointwise
  exact tapsum x1 x w y hy hx1 e b l o 0 _ (by show _ = l.val + 0; simp [Nat.add_comm])

theorem tap1 (e : Fin 8) (b : Fin 64) (l : Fin 23) (o : Fin 512) :
    val_main_v11 (F := Ideal) x0 x1 (ix4 e b l o) = ((tapR 23 12 (x e) (w e o) b l.val 1 : ℝ) : EReal) := by
  have hy := padded4 x0 x hx0
  unfold val_main_v11 val_main_v8 val_main_v10 val_main_v9
  generalize val_main_v3 (F := Ideal) x0 = y at hy ⊢
  pointwise
  exact tapsum x1 x w y hy hx1 e b l o 1 _ (by show _ = l.val + 1; simp [Nat.add_comm])

theorem tap2 (e : Fin 8) (b : Fin 64) (l : Fin 23) (o : Fin 512) :
    val_main_v16 (F := Ideal) x0 x1 (ix4 e b l o) = ((tapR 23 12 (x e) (w e o) b l.val 2 : ℝ) : EReal) := by
  have hy := padded4 x0 x hx0
  unfold val_main_v16 val_main_v13 val_main_v15 val_main_v14
  generalize val_main_v3 (F := Ideal) x0 = y at hy ⊢
  pointwise
  exact tapsum x1 x w y hy hx1 e b l o 2 _ (by show _ = l.val + 2; simp [Nat.add_comm])

theorem tap3 (e : Fin 8) (b : Fin 64) (l : Fin 23) (o : Fin 512) :
    val_main_v21 (F := Ideal) x0 x1 (ix4 e b l o) = ((tapR 23 12 (x e) (w e o) b l.val 3 : ℝ) : EReal) := by
  have hy := padded4 x0 x hx0
  unfold val_main_v21 val_main_v18 val_main_v20 val_main_v19
  generalize val_main_v3 (F := Ideal) x0 = y at hy ⊢
  pointwise
  exact tapsum x1 x w y hy hx1 e b l o 3 _ (by show _ = l.val + 3; simp [Nat.add_comm])

theorem tap4 (e : Fin 8) (b : Fin 64) (l : Fin 23) (o : Fin 512) :
    val_main_v26 (F := Ideal) x0 x1 (ix4 e b l o) = ((tapR 23 12 (x e) (w e o) b l.val 4 : ℝ) : EReal) := by
  have hy := padded4 x0 x hx0
  unfold val_main_v26 val_main_v23 val_main_v25 val_main_v24
  generalize val_main_v3 (F := Ideal) x0 = y at hy ⊢
  pointwise
  exact tapsum x1 x w y hy hx1 e b l o 4 _ (by show _ = l.val + 4; simp [Nat.add_comm])

theorem tap5 (e : Fin 8) (b : Fin 64) (l : Fin 23) (o : Fin 512) :
    val_main_v31 (F := Ideal) x0 x1 (ix4 e b l o) = ((tapR 23 12 (x e) (w e o) b l.val 5 : ℝ) : EReal) := by
  have hy := padded4 x0 x hx0
  unfold val_main_v31 val_main_v28 val_main_v30 val_main_v29
  generalize val_main_v3 (F := Ideal) x0 = y at hy ⊢
  pointwise
  exact tapsum x1 x w y hy hx1 e b l o 5 _ (by show _ = l.val + 5; simp [Nat.add_comm])

theorem tap6 (e : Fin 8) (b : Fin 64) (l : Fin 23) (o : Fin 512) :
    val_main_v36 (F := Ideal) x0 x1 (ix4 e b l o) = ((tapR 23 12 (x e) (w e o) b l.val 6 : ℝ) : EReal) := by
  have hy := padded4 x0 x hx0
  unfold val_main_v36 val_main_v33 val_main_v35 val_main_v34
  generalize val_main_v3 (F := Ideal) x0 = y at hy ⊢
  pointwise
  exact tapsum x1 x w y hy hx1 e b l o 6 _ (by show _ = l.val + 6; simp [Nat.add_comm])

theorem tap7 (e : Fin 8) (b : Fin 64) (l : Fin 23) (o : Fin 512) :
    val_main_v41 (F := Ideal) x0 x1 (ix4 e b l o) = ((tapR 23 12 (x e) (w e o) b l.val 7 : ℝ) : EReal) := by
  have hy := padded4 x0 x hx0
  unfold val_main_v41 val_main_v38 val_main_v40 val_main_v39
  generalize val_main_v3 (F := Ideal) x0 = y at hy ⊢
  pointwise
  exact tapsum x1 x w y hy hx1 e b l o 7 _ (by show _ = l.val + 7; simp [Nat.add_comm])

theorem tap8 (e : Fin 8) (b : Fin 64) (l : Fin 23) (o : Fin 512) :
    val_main_v46 (F := Ideal) x0 x1 (ix4 e b l o) = ((tapR 23 12 (x e) (w e o) b l.val 8 : ℝ) : EReal) := by
  have hy := padded4 x0 x hx0
  unfold val_main_v46 val_main_v43 val_main_v45 val_main_v44
  generalize val_main_v3 (F := Ideal) x0 = y at hy ⊢
  pointwise
  exact tapsum x1 x w y hy hx1 e b l o 8 _ (by show _ = l.val + 8; simp [Nat.add_comm])

theorem tap9 (e : Fin 8) (b : Fin 64) (l : Fin 23) (o : Fin 512) :
    val_main_v51 (F := Ideal) x0 x1 (ix4 e b l o) = ((tapR 23 12 (x e) (w e o) b l.val 9 : ℝ) : EReal) := by
  have hy := padded4 x0 x hx0
  unfold val_main_v51 val_main_v48 val_main_v50 val_main_v49
  generalize val_main_v3 (F := Ideal) x0 = y at hy ⊢
  pointwise
  exact tapsum x1 x w y hy hx1 e b l o 9 _ (by show _ = l.val + 9; simp [Nat.add_comm])

theorem tap10 (e : Fin 8) (b : Fin 64) (l : Fin 23) (o : Fin 512) :
    val_main_v56 (F := Ideal) x0 x1 (ix4 e b l o) = ((tapR 23 12 (x e) (w e o) b l.val 10 : ℝ) : EReal) := by
  have hy := padded4 x0 x hx0
  unfold val_main_v56 val_main_v53 val_main_v55 val_main_v54
  generalize val_main_v3 (F := Ideal) x0 = y at hy ⊢
  pointwise
  exact tapsum x1 x w y hy hx1 e b l o 10 _ (by show _ = l.val + 10; simp [Nat.add_comm])

theorem tap11 (e : Fin 8) (b : Fin 64) (l : Fin 23) (o : Fin 512) :
    val_main_v61 (F := Ideal) x0 x1 (ix4 e b l o) = ((tapR 23 12 (x e) (w e o) b l.val 11 : ℝ) : EReal) := by
  have hy := padded4 x0 x hx0
  unfold val_main_v61 val_main_v58 val_main_v60 val_main_v59
  generalize val_main_v3 (F := Ideal) x0 = y at hy ⊢
  pointwise
  exact tapsum x1 x w y hy hx1 e b l o 11 _ (by show _ = l.val + 11; simp [Nat.add_comm])

theorem tap12 (e : Fin 8) (b : Fin 64) (l : Fin 23) (o : Fin 512) :
    val_main_v66 (F := Ideal) x0 x1 (ix4 e b l o) = ((tapR 23 12 (x e) (w e o) b l.val 12 : ℝ) : EReal) := by
  have hy := padded4 x0 x hx0
  unfold val_main_v66 val_main_v63 val_main_v65 val_main_v64
  generalize val_main_v3 (F := Ideal) x0 = y at hy ⊢
  pointwise
  exact tapsum x1 x w y hy hx1 e b l o 12 _ (by show _ = l.val + 12; simp [Nat.add_comm])

theorem tap13 (e : Fin 8) (b : Fin 64) (l : Fin 23) (o : Fin 512) :
    val_main_v71 (F := Ideal) x0 x1 (ix4 e b l o) = ((tapR 23 12 (x e) (w e o) b l.val 13 : ℝ) : EReal) := by
  have hy := padded4 x0 x hx0
  unfold val_main_v71 val_main_v68 val_main_v70 val_main_v69
  generalize val_main_v3 (F := Ideal) x0 = y at hy ⊢
  pointwise
  exact tapsum x1 x w y hy hx1 e b l o 13 _ (by show _ = l.val + 13; simp [Nat.add_comm])

theorem tap14 (e : Fin 8) (b : Fin 64) (l : Fin 23) (o : Fin 512) :
    val_main_v76 (F := Ideal) x0 x1 (ix4 e b l o) = ((tapR 23 12 (x e) (w e o) b l.val 14 : ℝ) : EReal) := by
  have hy := padded4 x0 x hx0
  unfold val_main_v76 val_main_v73 val_main_v75 val_main_v74
  generalize val_main_v3 (F := Ideal) x0 = y at hy ⊢
  pointwise
  exact tapsum x1 x w y hy hx1 e b l o 14 _ (by show _ = l.val + 14; simp [Nat.add_comm])

theorem tap15 (e : Fin 8) (b : Fin 64) (l : Fin 23) (o : Fin 512) :
    val_main_v81 (F := Ideal) x0 x1 (ix4 e b l o) = ((tapR 23 12 (x e) (w e o) b l.val 15 : ℝ) : EReal) := by
  have hy := padded4 x0 x hx0
  unfold val_main_v81 val_main_v78 val_main_v80 val_main_v79
  generalize val_main_v3 (F := Ideal) x0 = y at hy ⊢
  pointwise
  exact tapsum x1 x w y hy hx1 e b l o 15 _ (by show _ = l.val + 15; simp [Nat.add_comm])

theorem tap16 (e : Fin 8) (b : Fin 64) (l : Fin 23) (o : Fin 512) :
    val_main_v86 (F := Ideal) x0 x1 (ix4 e b l o) = ((tapR 23 12 (x e) (w e o) b l.val 16 : ℝ) : EReal) := by
  have hy := padded4 x0 x hx0
  unfold val_main_v86 val_main_v83 val_main_v85 val_main_v84
  generalize val_main_v3 (F := Ideal) x0 = y at hy ⊢
  pointwise
  exact tapsum x1 x w y hy hx1 e b l o 16 _ (by show _ = l.val + 16; simp [Nat.add_comm])

theorem tap17 (e : Fin 8) (b : Fin 64) (l : Fin 23) (o : Fin 512) :
    val_main_v91 (F := Ideal) x0 x1 (ix4 e b l o) = ((tapR 23 12 (x e) (w e o) b l.val 17 : ℝ) : EReal) := by
  have hy := padded4 x0 x hx0
  unfold val_main_v91 val_main_v88 val_main_v90 val_main_v89
  generalize val_main_v3 (F := Ideal) x0 = y at hy ⊢
  pointwise
  exact tapsum x1 x w y hy hx1 e b l o 17 _ (by show _ = l.val + 17; simp [Nat.add_comm])

theorem tap18 (e : Fin 8) (b : Fin 64) (l : Fin 23) (o : Fin 512) :
    val_main_v96 (F := Ideal) x0 x1 (ix4 e b l o) = ((tapR 23 12 (x e) (w e o) b l.val 18 : ℝ) : EReal) := by
  have hy := padded4 x0 x hx0
  unfold val_main_v96 val_main_v93 val_main_v95 val_main_v94
  generalize val_main_v3 (F := Ideal) x0 = y at hy ⊢
  pointwise
  exact tapsum x1 x w y hy hx1 e b l o 18 _ (by show _ = l.val + 18; simp [Nat.add_comm])

theorem tap19 (e : Fin 8) (b : Fin 64) (l : Fin 23) (o : Fin 512) :
    val_main_v101 (F := Ideal) x0 x1 (ix4 e b l o) = ((tapR 23 12 (x e) (w e o) b l.val 19 : ℝ) : EReal) := by
  have hy := padded4 x0 x hx0
  unfold val_main_v101 val_main_v98 val_main_v100 val_main_v99
  generalize val_main_v3 (F := Ideal) x0 = y at hy ⊢
  pointwise
  exact tapsum x1 x w y hy hx1 e b l o 19 _ (by show _ = l.val + 19; simp [Nat.add_comm])

theorem tap20 (e : Fin 8) (b : Fin 64) (l : Fin 23) (o : Fin 512) :
    val_main_v106 (F := Ideal) x0 x1 (ix4 e b l o) = ((tapR 23 12 (x e) (w e o) b l.val 20 : ℝ) : EReal) := by
  have hy := padded4 x0 x hx0
  unfold val_main_v106 val_main_v103 val_main_v105 val_main_v104
  generalize val_main_v3 (F := Ideal) x0 = y at hy ⊢
  pointwise
  exact tapsum x1 x w y hy hx1 e b l o 20 _ (by show _ = l.val + 20; simp [Nat.add_comm])

theorem tap21 (e : Fin 8) (b : Fin 64) (l : Fin 23) (o : Fin 512) :
    val_main_v111 (F := Ideal) x0 x1 (ix4 e b l o) = ((tapR 23 12 (x e) (w e o) b l.val 21 : ℝ) : EReal) := by
  have hy := padded4 x0 x hx0
  unfold val_main_v111 val_main_v108 val_main_v110 val_main_v109
  generalize val_main_v3 (F := Ideal) x0 = y at hy ⊢
  pointwise
  exact tapsum x1 x w y hy hx1 e b l o 21 _ (by show _ = l.val + 21; simp [Nat.add_comm])

theorem tap22 (e : Fin 8) (b : Fin 64) (l : Fin 23) (o : Fin 512) :
    val_main_v116 (F := Ideal) x0 x1 (ix4 e b l o) = ((tapR 23 12 (x e) (w e o) b l.val 22 : ℝ) : EReal) := by
  have hy := padded4 x0 x hx0
  unfold val_main_v116 val_main_v113 val_main_v115 val_main_v114
  generalize val_main_v3 (F := Ideal) x0 = y at hy ⊢
  pointwise
  exact tapsum x1 x w y hy hx1 e b l o 22 _ (by show _ = l.val + 22; simp [Nat.add_comm])

theorem tap23 (e : Fin 8) (b : Fin 64) (l : Fin 23) (o : Fin 512) :
    val_main_v121 (F := Ideal) x0 x1 (ix4 e b l o) = ((tapR 23 12 (x e) (w e o) b l.val 23 : ℝ) : EReal) := by
  have hy := padded4 x0 x hx0
  unfold val_main_v121 val_main_v118 val_main_v120 val_main_v119
  generalize val_main_v3 (F := Ideal) x0 = y at hy ⊢
  pointwise
  exact tapsum x1 x w y hy hx1 e b l o 23 _ (by show _ = l.val + 23; simp [Nat.add_comm])

theorem tap24 (e : Fin 8) (b : Fin 64) (l : Fin 23) (o : Fin 512) :
    val_main_v126 (F := Ideal) x0 x1 (ix4 e b l o) = ((tapR 23 12 (x e) (w e o) b l.val 24 : ℝ) : EReal) := by
  have hy := padded4 x0 x hx0
  unfold val_main_v126 val_main_v123 val_main_v125 val_main_v124
  generalize val_main_v3 (F := Ideal) x0 = y at hy ⊢
  pointwise
  exact tapsum x1 x w y hy hx1 e b l o 24 _ (by show _ = l.val + 24; simp [Nat.add_comm])

/-- The convolution's value. -/
theorem conv4 (hx2 : ∀ e o, x2 (ix2 e o) = (bias e o : EReal)) (e : Fin 8) (b : Fin 64) (l : Fin 23) (o : Fin 512) :
    val_main_v130 (F := Ideal) x0 x1 x2 (ix4 e b l o) = ((conv 23 12 (x e) (w e o) (bias e o) b l.val : ℝ) : EReal) := by
  have hb : val_main_v129 (F := Ideal) x2 (ix4 e b l o) = (bias e o : EReal) := by
    pointwise [val_main_v129, val_main_v128]
    exact hx2 e o
  let T := tapR 23 12 (x e) (w e o) b l.val
  have ht : val_main_v127 (F := Ideal) x0 x1 (ix4 e b l o) = ((∑ k ∈ Finset.range 25, T k : ℝ) : EReal) :=
    (val_main_v127_apply (F := Ideal) x0 x1 _).trans (tap_step (T := T) ((val_main_v122_apply (F := Ideal) x0 x1 _).trans (tap_step (T := T) ((val_main_v117_apply (F := Ideal) x0 x1 _).trans (tap_step (T := T) ((val_main_v112_apply (F := Ideal) x0 x1 _).trans (tap_step (T := T) ((val_main_v107_apply (F := Ideal) x0 x1 _).trans (tap_step (T := T) ((val_main_v102_apply (F := Ideal) x0 x1 _).trans (tap_step (T := T) ((val_main_v97_apply (F := Ideal) x0 x1 _).trans (tap_step (T := T) ((val_main_v92_apply (F := Ideal) x0 x1 _).trans (tap_step (T := T) ((val_main_v87_apply (F := Ideal) x0 x1 _).trans (tap_step (T := T) ((val_main_v82_apply (F := Ideal) x0 x1 _).trans (tap_step (T := T) ((val_main_v77_apply (F := Ideal) x0 x1 _).trans (tap_step (T := T) ((val_main_v72_apply (F := Ideal) x0 x1 _).trans (tap_step (T := T) ((val_main_v67_apply (F := Ideal) x0 x1 _).trans (tap_step (T := T) ((val_main_v62_apply (F := Ideal) x0 x1 _).trans (tap_step (T := T) ((val_main_v57_apply (F := Ideal) x0 x1 _).trans (tap_step (T := T) ((val_main_v52_apply (F := Ideal) x0 x1 _).trans (tap_step (T := T) ((val_main_v47_apply (F := Ideal) x0 x1 _).trans (tap_step (T := T) ((val_main_v42_apply (F := Ideal) x0 x1 _).trans (tap_step (T := T) ((val_main_v37_apply (F := Ideal) x0 x1 _).trans (tap_step (T := T) ((val_main_v32_apply (F := Ideal) x0 x1 _).trans (tap_step (T := T) ((val_main_v27_apply (F := Ideal) x0 x1 _).trans (tap_step (T := T) ((val_main_v22_apply (F := Ideal) x0 x1 _).trans (tap_step (T := T) ((val_main_v17_apply (F := Ideal) x0 x1 _).trans (tap_step (T := T) ((val_main_v12_apply (F := Ideal) x0 x1 _).trans (tap_step (T := T) (tap_start (T := T) (tap0 x0 x1 x w hx0 hx1 e b l o)) (tap1 x0 x1 x w hx0 hx1 e b l o))) (tap2 x0 x1 x w hx0 hx1 e b l o))) (tap3 x0 x1 x w hx0 hx1 e b l o))) (tap4 x0 x1 x w hx0 hx1 e b l o))) (tap5 x0 x1 x w hx0 hx1 e b l o))) (tap6 x0 x1 x w hx0 hx1 e b l o))) (tap7 x0 x1 x w hx0 hx1 e b l o))) (tap8 x0 x1 x w hx0 hx1 e b l o))) (tap9 x0 x1 x w hx0 hx1 e b l o))) (tap10 x0 x1 x w hx0 hx1 e b l o))) (tap11 x0 x1 x w hx0 hx1 e b l o))) (tap12 x0 x1 x w hx0 hx1 e b l o))) (tap13 x0 x1 x w hx0 hx1 e b l o))) (tap14 x0 x1 x w hx0 hx1 e b l o))) (tap15 x0 x1 x w hx0 hx1 e b l o))) (tap16 x0 x1 x w hx0 hx1 e b l o))) (tap17 x0 x1 x w hx0 hx1 e b l o))) (tap18 x0 x1 x w hx0 hx1 e b l o))) (tap19 x0 x1 x w hx0 hx1 e b l o))) (tap20 x0 x1 x w hx0 hx1 e b l o))) (tap21 x0 x1 x w hx0 hx1 e b l o))) (tap22 x0 x1 x w hx0 hx1 e b l o))) (tap23 x0 x1 x w hx0 hx1 e b l o))) (tap24 x0 x1 x w hx0 hx1 e b l o))
  refine (val_main_v130_apply (F := Ideal) x0 x1 x2 _).trans ((add2 ht hb).trans ?_)
  rw [conv_eq]
end

end Cert.Reference4Ideal.Read
-- ==== Proof.RefPool.lean ====
/- The reference's normalisation, pooling and weighted mean, from its convolution's values. -/
module

public import proofs.«01_k».proof.Proof.RefTaps

@[expose] public section

noncomputable section

namespace Cert.Reference4Ideal.Read

open Cert.Reference4Ideal Cert.Reference4Ideal.Gen Idealize.ShloMosaic Idealize.ShloMosaic.TcCoe Idealize.SL.Sem Moe

variable (x0 : FVec Ideal S8x1568x256 .f32) (x1 : FVec Ideal S8x512x256x25 .f32) (x2 x3 x4 : FVec Ideal S8x512 .f32) (x5 : FVec Ideal S64x8 .f32)

theorem count_rows : Ideal.ofBits .f32 0x44B80000#32 = ((64 * (23 : ℕ) : ℝ) : EReal) := by
  simp [Ideal.ofBits, Ideal.ieee, -EReal.coe_mul]
  norm_num

/-- A pair of sums over the positions and the samples, divided by their number. -/
theorem div_count (Y : Fin 64 → Fin 23 → EReal) (f : Fin 64 → ℕ → ℝ) (h : ∀ b (l : Fin 23), Y b l = (f b l.val : EReal)) :
    Ideal.div (∑ b : Fin 64, ∑ l : Fin 23, Y b l) (Ideal.ofBits .f32 0x44B80000#32)
      = (((∑ b : Fin 64, ∑ l : Fin 23, f b l.val) / (64 * (23 : ℕ)) : ℝ) : EReal) := by
  rw [count_rows, ← div_coe _ _ (by norm_num), coe_sum]
  congr 1
  refine Finset.sum_congr rfl fun b _ => ?_
  rw [coe_sum]
  exact Finset.sum_congr rfl fun l _ => h b l

theorem mean4 (y : Fin 8 → Fin 512 → Fin 64 → ℕ → ℝ)
    (hY : ∀ (e : Fin 8) (b : Fin 64) (l : Fin 23) (o : Fin 512), val_main_v130 (F := Ideal) x0 x1 x2 (ix4 e b l o) = (y e o b l.val : EReal))
    (e : Fin 8) (o : Fin 512) :
    val_main_v135 (F := Ideal) x0 x1 x2 (ix4 e 0 0 o) = ((mean 23 (y e o) : ℝ) : EReal) := by
  unfold val_main_v135 val_main_v133 val_main_v132 val_main_v131 val_main_v134 val_main_cst val_main_cst_0 val_main_cst_1
  generalize val_main_v130 (F := Ideal) x0 x1 x2 = Y at hY ⊢
  pointwise
  exact div_count _ (y e o) fun b l => hY e b l o

theorem var4 (y : Fin 8 → Fin 512 → Fin 64 → ℕ → ℝ)
    (hY : ∀ (e : Fin 8) (b : Fin 64) (l : Fin 23) (o : Fin 512), val_main_v130 (F := Ideal) x0 x1 x2 (ix4 e b l o) = (y e o b l.val : EReal))
    (e : Fin 8) (o : Fin 512) :
    val_main_v143 (F := Ideal) x0 x1 x2 (ix4 e 0 0 o) = ((var 23 (y e o) : ℝ) : EReal) := by
  have hM := mean4 x0 x1 x2 y hY e o
  unfold val_main_v143 val_main_v141 val_main_v140 val_main_v139 val_main_v138 val_main_v137 val_main_v136 val_main_v142 val_main_cst_2 val_main_cst_3 val_main_cst_4
  generalize val_main_v135 (F := Ideal) x0 x1 x2 = M at hM ⊢
  generalize val_main_v130 (F := Ideal) x0 x1 x2 = Y at hY ⊢
  pointwise
  refine (div_count _ (fun b l => (y e o b l - mean 23 (y e o)) ^ 2) fun b l => ?_).trans rfl
  rw [hM, hY e b l o, ← EReal.coe_sub, ← EReal.coe_mul, sq]

/-- The normalised and rectified values. -/
theorem relu4 (y : Fin 8 → Fin 512 → Fin 64 → ℕ → ℝ) (g be : Fin 8 → Fin 512 → ℝ)
    (hY : ∀ (e : Fin 8) (b : Fin 64) (l : Fin 23) (o : Fin 512), val_main_v130 (F := Ideal) x0 x1 x2 (ix4 e b l o) = (y e o b l.val : EReal))
    (h3 : ∀ e o, x3 (ix2 e o) = (g e o : EReal)) (h4 : ∀ e o, x4 (ix2 e o) = (be e o : EReal))
    (e : Fin 8) (b : Fin 64) (l : Fin 23) (o : Fin 512) :
    val_main_v157 (F := Ideal) x0 x1 x2 x3 x4 (ix4 e b l o)
      = max ((bn epsR 23 (y e o) (g e o) (be e o) b l.val : ℝ) : EReal) 0 := by
  have hM := mean4 x0 x1 x2 y hY e o
  have hV := var4 x0 x1 x2 y hY e o
  unfold val_main_v157 val_main_v156 val_main_v155 val_main_v154 val_main_v153 val_main_v152 val_main_v151 val_main_v150 val_main_v149 val_main_v148 val_main_v147 val_main_v146 val_main_v145 val_main_v144 val_main_cst_5 val_main_call1_v0 val_main_call1_cst
  generalize val_main_v135 (F := Ideal) x0 x1 x2 = M at hM ⊢
  generalize val_main_v143 (F := Ideal) x0 x1 x2 = V at hV ⊢
  generalize val_main_v130 (F := Ideal) x0 x1 x2 = Y at hY ⊢
  pointwise
  rw [hY e b l o, h3 e o, h4 e o, eps_coe, ref_bn epsR eps_pos _ _ (y e o) (g e o) (be e o) hM hV]

theorem eleven : Ideal.ofBits .f32 0x41300000#32 = ((11 : ℝ) : EReal) := by
  simp [Ideal.ofBits, Ideal.ieee, -EReal.coe_mul]
  norm_num

/-- The result: the mean over the eleven pooled positions of the experts' sums, each weighted by its sample's gate. -/
theorem out4 (u : Fin 8 → Fin 512 → Fin 64 → ℕ → ℝ) (wt : Fin 64 → Fin 8 → ℝ)
    (hU : ∀ (e : Fin 8) (b : Fin 64) (l : Fin 23) (o : Fin 512),
      val_main_v157 (F := Ideal) x0 x1 x2 x3 x4 (ix4 e b l o) = max (u e o b l.val : EReal) 0)
    (h5 : ∀ b e, x5 (ix2 b e) = (wt b e : EReal)) (b : Fin 64) (o : Fin 512) :
    val_main_v168 (F := Ideal) x0 x1 x2 x3 x4 x5 (ix2 b o)
      = (((∑ l : Fin 11, ∑ e : Fin 8, pool (u e o) b l.val * wt b e) / 11 : ℝ) : EReal) := by
  unfold val_main_v168 val_main_v166 val_main_v165 val_main_v164 val_main_v163 val_main_v162 val_main_v161 val_main_v160 val_main_v159 val_main_v158 val_main_v167 val_main_cst_6 val_main_cst_7 val_main_cst_8
  generalize val_main_v157 (F := Ideal) x0 x1 x2 x3 x4 = U at hU ⊢
  pointwise
  rw [eleven, ← div_coe _ _ (by norm_num), coe_sum]
  congr 1
  refine Finset.sum_congr rfl fun l _ => ?_
  rw [coe_sum]
  refine Finset.sum_congr rfl fun e _ => ?_
  rw [EReal.coe_mul, pool_coe, h5, hU, hU]
  simp only [Nat.add_comm 1]

/-- The reference's result from its arguments' values. -/
theorem value4 (x : Fin 8 → Fin 64 → ℕ → Fin 256 → ℝ) (w : Fin 8 → Fin 512 → Fin 256 → Fin 25 → ℝ)
    (bias g be : Fin 8 → Fin 512 → ℝ) (wt : Fin 64 → Fin 8 → ℝ)
    (hx0 : ∀ (e : Fin 8) (b : Fin 64) (l : ℕ) (r : Fin 1568) (i : Fin 256), l < 23 → r.val = 16 + b.val * 24 + l →
      x0 (ix3 e r i) = (x e b l i : EReal))
    (hx1 : ∀ (e : Fin 8) (o : Fin 512) (i : Fin 256) (k : Fin 25), x1 (ix4 e o i k) = (w e o i k : EReal))
    (h2 : ∀ e o, x2 (ix2 e o) = (bias e o : EReal)) (h3 : ∀ e o, x3 (ix2 e o) = (g e o : EReal))
    (h4 : ∀ e o, x4 (ix2 e o) = (be e o : EReal)) (h5 : ∀ b e, x5 (ix2 b e) = (wt b e : EReal)) (b : Fin 64) (o : Fin 512) :
    val_main_v168 (F := Ideal) x0 x1 x2 x3 x4 x5 (ix2 b o)
      = (((∑ l : Fin 11, ∑ e : Fin 8, layer epsR 23 12 (x e) (w e) (bias e) (g e) (be e) b l.val o * wt b e) / 11 : ℝ) : EReal) :=
  out4 x0 x1 x2 x3 x4 x5 (fun e o => bn epsR 23 (conv 23 12 (x e) (w e o) (bias e o)) (g e o) (be e o)) wt
    (relu4 x0 x1 x2 x3 x4 (fun e o => conv 23 12 (x e) (w e o) (bias e o)) g be
      (fun e b l o => conv4 x0 x1 x2 x w bias hx0 hx1 h2 e b l o) h3 h4) h5 b o

end Cert.Reference4Ideal.Read
-- ==== Proof.PreRead.lean ====
/- What the precondition says of the arguments: every number is finite, and the gap rows of the activations are zero. -/
module

public import proofs.«01_k».proof.Proof.Gen.Pre_clean4
public import Idealize.ShloMosaic.Lib.ReduceAll
public import Idealize.ShloMosaic.Lib.Pointwise
public import Idealize.ShloMosaic.Lib.IdealHost

@[expose] public section

noncomputable section

namespace Cert.Pre_clean4.Gen

open Idealize.ShloMosaic Cert.Pre_clean4 Cert.Pre_clean4.Facts

instance : Subsingleton S_.Idx := ⟨fun a b => funext fun d => d.elim0⟩

theorem inf_coe : Ideal.ofBits .f32 0x7F800000#32 = ⊤ := by
  simp [Ideal.ofBits, Ideal.ieee]

/-- A number whose absolute value lies below infinity is a real number. -/
theorem real_of_lt (y : EReal) (h : (max y (-y) : EReal) < ⊤) : y = ((y.toReal : ℝ) : EReal) := by
  rw [EReal.coe_toReal]
  · rintro rfl; simp at h
  · rintro rfl; simp at h

/-- A comparison of absolute values with infinity that holds everywhere makes every entry a real number. -/
theorem all_real {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32))) (constantI S_ 1 1#1) hr Facts.h_S_ j = 1#1)
    (i : s.Idx) : x i = (((x i : EReal).toReal : ℝ) : EReal) := by
  have e := Host.reduce_andi_all _ _ hr Facts.h_S_ j h i
  refine real_of_lt _ ?_
  rw [← inf_coe]
  exact (Ideal.cmp_olt_eq_one _ _).mp e

variable (a0 : FVec Ideal S8x1568x256 .f32) (a1 : FVec Ideal S8x512x256x25 .f32) (a2 a3 a4 : FVec Ideal S8x512 .f32) (a5 : FVec Ideal S64x8 .f32)

/-- A conjunction of two scalar truths. -/
theorem both {p q : IVec S_ 1} {j : S_.Idx} (h : andi p q j = 1#1) : p j = 1#1 ∧ q j = 1#1 := IntOp.andi_eq_one.mp h

/-- The gap rows, from their comparison with zero. -/
theorem gap_zero (j : S_.Idx)
    (h : Host.reduce IntOp.andi (cmpf .oeq (fn_where (cmpi .eq (Host.remsi (iotaInDim S8x1568x256 32 1) (broadcastInDim S8x1568x256 ![] Facts.bcast_S_S8x1568x256 (constantI S_ 32 24#32)))
        (broadcastInDim S8x1568x256 ![] Facts.bcast_S_S8x1568x256 (constantI S_ 32 15#32))) a0 (constant S_ .f32 0x00000000#32))
        (broadcastInDim S8x1568x256 ![] Facts.bcast_S_S8x1568x256 (constant S_ .f32 0x00000000#32))) (constantI S_ 1 1#1)
        Facts.reducesTo_S8x1568x256_S_d0_1_2 Facts.h_S_ j = 1#1)
    (e : Fin 8) (r : Fin 1568) (i : Fin 256) (hr : r.val % 24 = 15) : a0 (ix3 e r i) = (0 : EReal) := by
  have z := Host.reduce_andi_all _ _ _ _ _ h (ix3 e r i)
  have hc : IntOp.cmpi .eq (IntOp.remsi .host (BitVec.ofNat 32 r.val) 24#32) 15#32 = 1#1 := by
    rw [IntOp.cmpi_eq]
    apply BitVec.eq_of_toNat_eq
    have := r.isLt
    have hn : (BitVec.ofNat 32 r.val).toNat = r.val := by rw [BitVec.toNat_ofNat, Nat.mod_eq_of_lt (by omega)]
    rw [show (24#32 : BitVec 32) = BitVec.ofNat 32 24 from rfl, IntOp.toNat_remsi _ (by rw [hn]; omega) 24 (by omega) (by omega), hn, hr]
    rfl
  have hs : (Scalar.select (IntOp.cmpi .eq (IntOp.remsi .host (BitVec.ofNat 32 r.val) 24#32) 15#32) (a0 (ix3 e r i)) (Ideal.ofBits .f32 0x00000000#32) : EReal)
      = Ideal.ofBits .f32 0x00000000#32 := (Ideal.cmp_oeq_eq_one _ _).mp z
  rw [hc, Ideal.ofBits_zero_f32] at hs
  exact hs

/-- Every argument is an array of real numbers, and the gap rows are zero. -/
theorem read (h : Cert.Pre_clean4.fn (F := Ideal) a0 a1 a2 a3 a4 a5 = fun _ => 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) ∧ (∀ i, a3 i = (((a3 i : EReal).toReal : ℝ) : EReal))
    ∧ (∀ i, a4 i = (((a4 i : EReal).toReal : ℝ) : EReal)) ∧ (∀ i, a5 i = (((a5 i : EReal).toReal : ℝ) : EReal))
    ∧ ∀ (e : Fin 8) (r : Fin 1568) (i : Fin 256), r.val % 24 = 15 → a0 (ix3 e r i) = (0 : EReal) := by
  have h := congrFun h (fun d => d.elim0)
  have c6 := both h
  have c5 := both c6.1
  have c4 := both c5.1
  have c3 := both c4.1
  have c2 := both c3.1
  have c1 := both c2.1
  have c0 := both c1.1
  have r0 := all_real a0 Facts.bcast_S_S8x1568x256 Facts.reducesTo_S8x1568x256_S_d0_1_2 _ c0.2
  have r1 := all_real a1 Facts.bcast_S_S8x512x256x25 Facts.reducesTo_S8x512x256x25_S_d0_1_2_3 _ c1.2
  have r2 := all_real a2 Facts.bcast_S_S8x512 Facts.reducesTo_S8x512_S_d0_1 _ c2.2
  have r3 := all_real a3 Facts.bcast_S_S8x512 Facts.reducesTo_S8x512_S_d0_1 _ c3.2
  have r4 := all_real a4 Facts.bcast_S_S8x512 Facts.reducesTo_S8x512_S_d0_1 _ c4.2
  have r5 := all_real a5 Facts.bcast_S_S64x8 Facts.reducesTo_S64x8_S_d0_1 _ c5.2
  have z := gap_zero a0 _ c6.2
  clear c0 c1 c2 c3 c4 c5 c6 h
  exact ⟨r0, r1, r2, r3, r4, r5, z⟩

end Cert.Pre_clean4.Gen
-- ==== Proof.FourValue.lean ====
/- The last layer's call and the reference's last layer end with equal results. -/
module

public import proofs.«01_k».proof.Defs
public import proofs.«01_k».proof.Proof.FourFinal
public import proofs.«01_k».proof.Proof.RefPool
public import proofs.«01_k».proof.Proof.PreRead
public import Idealize.ShloMosaic.Lib.Claim

@[expose] public section

noncomputable section

namespace Cert.Proof

open Idealize.ShloMosaic Idealize.ShloMosaic.TcCoe Idealize.SL.Sem Idealize.ShloMosaic.StableHlo Moe
open Idealize.ShloMosaic.Pipeline (Dat)
open Cert.Kernel4Ideal.Gen (share last)

/-- The pooled mean of weighted sums is the weighted sum of pooled means. -/
theorem regroup (u : Fin 8 → Fin 11 → ℝ) (g : Fin 8 → ℝ) :
    (∑ l : Fin 11, ∑ e : Fin 8, u e l * g e) / 11 = ∑ e : Fin 8, (∑ l : Fin 11, u e l) * (1 / 11) * g e := by
  rw [Finset.sum_comm, Finset.sum_div]
  refine Finset.sum_congr rfl fun e _ => ?_
  rw [← Finset.sum_mul]
  ring

/-- The real numbers an array of rank two, or four, holds. -/
def real2 {a b : ℕ} (x : FVec Ideal ⟨2, ![a, b]⟩ .f32) (i : Fin a) (j : Fin b) : ℝ := (x (ix2 i j) : EReal).toReal
def real4 {a b c d : ℕ} (x : FVec Ideal ⟨4, ![a, b, c, d]⟩ .f32) (i : Fin a) (j : Fin b) (k : Fin c) (l : Fin d) : ℝ := (x (ix4 i j k l) : EReal).toReal

/-- The activations of a sample's position. -/
def rows (a : FVec Ideal ⟨3, ![8, 1568, 256]⟩ .f32) (e : Fin 8) (b : Fin 64) (l : ℕ) (i : Fin 256) : ℝ :=
  (a (ix3 e (Fin.ofNat 1568 (16 + b.val * 24 + l)) i) : EReal).toReal

/-- A row of the activations seen as its sample and position, or as a gap. -/
theorem row_split (a : FVec Ideal ⟨3, ![8, 1568, 256]⟩ .f32)
    (hf : ∀ i, a i = (((a i : EReal).toReal : ℝ) : EReal))
    (hz : ∀ (e : Fin 8) (r : Fin 1568) (i : Fin 256), r.val % 24 = 15 → a (ix3 e r i) = (0 : EReal))
    (e : Fin 8) (r : Fin 1568) (i : Fin 256) (h1 : 16 - (24 - 23) ≤ r.val) (h2 : r.val < 16 + 64 * 24) :
    a (ix3 e r i) = ((padded 24 23 (rows a e) r.val i : ℝ) : EReal) := by
  by_cases hg : 16 ≤ r.val ∧ (r.val - 16) / 24 < 64 ∧ (r.val - 16) % 24 < 23
  · rw [padded, if_pos hg]
    have er : Fin.ofNat 1568 (16 + (Fin.ofNat 64 ((r.val - 16) / 24)).val * 24 + (r.val - 16) % 24) = r := by
      apply Fin.ext
      show (16 + ((r.val - 16) / 24 % 64) * 24 + (r.val - 16) % 24) % 1568 = r.val
      have := r.isLt
      rw [Nat.mod_eq_of_lt hg.2.1, Nat.mod_eq_of_lt (by omega)]
      omega
    simp only [rows, er]
    exact hf _
  · rw [padded, if_neg hg, hz e r i (by omega)]
    rfl

/-- The two results agree, of arguments the precondition holds of. -/
theorem same (m : (ℓ : Loc Cert.Kernel4Ideal.nD Cert.Kernel4Ideal.τ Cert.Kernel4Ideal.sig) → Buf (Elt Ideal) ℓ) (c : Dev Cert.Kernel4Ideal.nD)
    (h : Pre_Kernel4Ideal_clean4 m) :
    Cert.Reference4Ideal.Read.val_main_v168 (F := Ideal)
        (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg3))
        (m ((c.tc : Thread Cert.Kernel4Ideal.nD Cert.Kernel4Ideal.τ).loc Cert.Kernel4Ideal.main_arg4))
        (m ((c.tc : Thread Cert.Kernel4Ideal.nD Cert.Kernel4Ideal.τ).loc Cert.Kernel4Ideal.main_arg5))
      = last m c := by
  obtain ⟨f0, f1, f2, f3, f4, f5, z⟩ := Cert.Pre_clean4.Gen.read _ _ _ _ _ _ (h c)
  have hk := Cert.Kernel4Ideal.Gen.last_at m c (rows (m ((c.tc : Thread Cert.Kernel4Ideal.nD Cert.Kernel4Ideal.τ).loc Cert.Kernel4Ideal.main_arg0))) (real4 (m ((c.tc : Thread Cert.Kernel4Ideal.nD Cert.Kernel4Ideal.τ).loc Cert.Kernel4Ideal.main_arg1))) (real2 (m ((c.tc : Thread Cert.Kernel4Ideal.nD Cert.Kernel4Ideal.τ).loc Cert.Kernel4Ideal.main_arg2))) (real2 (m ((c.tc : Thread Cert.Kernel4Ideal.nD Cert.Kernel4Ideal.τ).loc Cert.Kernel4Ideal.main_arg3))) (real2 (m ((c.tc : Thread Cert.Kernel4Ideal.nD Cert.Kernel4Ideal.τ).loc Cert.Kernel4Ideal.main_arg4)))
    (real2 (m ((c.tc : Thread Cert.Kernel4Ideal.nD Cert.Kernel4Ideal.τ).loc Cert.Kernel4Ideal.main_arg5)))
    (row_split _ f0 z) (fun e o i k => f1 (ix4 e o i k)) (fun e o => f2 (ix2 e o)) (fun e o => f3 (ix2 e o)) (fun e o => f4 (ix2 e o)) (fun b e => f5 (ix2 b e))
  have hr := Cert.Reference4Ideal.Read.value4 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
    (rows (m ((c.tc : Thread Cert.Kernel4Ideal.nD Cert.Kernel4Ideal.τ).loc Cert.Kernel4Ideal.main_arg0))) (real4 (m ((c.tc : Thread Cert.Kernel4Ideal.nD Cert.Kernel4Ideal.τ).loc Cert.Kernel4Ideal.main_arg1))) (real2 (m ((c.tc : Thread Cert.Kernel4Ideal.nD Cert.Kernel4Ideal.τ).loc Cert.Kernel4Ideal.main_arg2))) (real2 (m ((c.tc : Thread Cert.Kernel4Ideal.nD Cert.Kernel4Ideal.τ).loc Cert.Kernel4Ideal.main_arg3))) (real2 (m ((c.tc : Thread Cert.Kernel4Ideal.nD Cert.Kernel4Ideal.τ).loc Cert.Kernel4Ideal.main_arg4)))
    (real2 (m ((c.tc : Thread Cert.Kernel4Ideal.nD Cert.Kernel4Ideal.τ).loc Cert.Kernel4Ideal.main_arg5)))
    (fun e b l r i hl hr => by
      have er : Fin.ofNat 1568 (16 + b.val * 24 + l) = r := by
        apply Fin.ext
        show (16 + b.val * 24 + l) % 1568 = r.val
        have := r.isLt
        omega
      simp only [rows, er]
      exact f0 _)
    (fun e o i k => f1 (ix4 e o i k)) (fun e o => f2 (ix2 e o)) (fun e o => f3 (ix2 e o)) (fun e o => f4 (ix2 e o)) (fun b e => f5 (ix2 b e))
  funext j
  rw [eq_ix2 j]
  refine (hr (j 0) (j 1)).trans (Eq.trans ?_ (hk (j 0) (j 1)).symm)
  rw [regroup]
  rfl

/-- The call's run, with its result. -/
theorem call_run (m : (ℓ : Loc Cert.Kernel4Ideal.nD Cert.Kernel4Ideal.τ Cert.Kernel4Ideal.sig) → Buf (Elt Ideal) ℓ) (ρ : Dev Cert.Kernel4Ideal.nD → PrngReg) :
    θ_run (Cert.Kernel4Ideal.defs (F := Ideal)) (onTc (τ := Cert.Kernel4Ideal.τ) (Cert.Kernel4Ideal.main (F := Ideal))) ⟨m, fun _ => 0, ρ⟩ (fun r => ∀ c : Dev Cert.Kernel4Ideal.nD,
      r.2.mem ((c.tc : Thread Cert.Kernel4Ideal.nD Cert.Kernel4Ideal.τ).loc Cert.Kernel4Ideal.main_v4) = last m c
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)) := by
  open Cert.Kernel4Ideal Cert.Kernel4Ideal.Gen in
  exact (θ_run defs _ _).mono (fun r h c =>
    ⟨((h.1 c).1 6).trans (final4 m c),
      ((h.1 c).1 0).trans (((held m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 5).trans (((held m 0 c).arrAt_in 5 rfl _).trans (V_main_arg5 m c))⟩) (whole_run m ρ)

/-- The value claim. -/
theorem equal4 : algebraic_Kernel4Ideal_Reference4Ideal_pre_clean4 := by
  intro m g m' g' hpre hagree
  refine ⟨fun c => last m c, call_run m g, ?_⟩
  refine (θ_run Cert.Reference4Ideal.defs _ _).mono (fun r h c => ⟨?_, (h c).2⟩) (Cert.Reference4Ideal.Value.run (F := Ideal) m' g')
  refine (h c).1.trans ((Cert.Reference4Ideal.Read.val_main_v168_eq (F := Ideal) (launchContents m' c)).trans ?_)
  obtain ⟨a0, a1, a2, a3, a4, a5⟩ := hagree c
  rw [launchContents_devRef, launchContents_devRef, launchContents_devRef, launchContents_devRef, launchContents_devRef, launchContents_devRef,
    a0, a1, a2, a3, a4, a5]
  exact same m c hpre

end Cert.Proof
-- ==== Proof.HeadValue.lean ====
/- The head's call and the reference's head end with equal results: three dot products, each plus its bias, the first two cut off at zero. -/
module

public import proofs.«01_k».proof.Defs
public import proofs.«01_k».proof.Proof.Gen.KernelHIdeal.Value
public import proofs.«01_k».proof.Proof.Gen.ReferenceHIdeal.Read
public import Idealize.ShloMosaic.Lib.Claim
public import Idealize.ShloMosaic.Lib.Pointwise
public import Idealize.ShloMosaic.Lib.WholeRead
public import Idealize.ShloMosaic.Lib.StableHlo.ReadAt

@[expose] public section

noncomputable section

/-- One dense layer at a row and a column: the row against the column's weights, plus the column's bias. -/
def Cert.dense {a k n : ℕ} (x : Fin a → Fin k → EReal) (w : Fin n → Fin k → EReal) (b : Fin n → EReal) (i : Fin a) (j : Fin n) : EReal :=
  (∑ c : Fin k, x i c * w j c) + b j

/-- The same, cut off at zero. -/
def Cert.cut {a k n : ℕ} (x : Fin a → Fin k → EReal) (w : Fin n → Fin k → EReal) (b : Fin n → EReal) (i : Fin a) (j : Fin n) : EReal :=
  max (Cert.dense x w b i j) 0

/-- The head at a row and a class. -/
def Cert.head (x : Fin 64 → Fin 512 → EReal) (w1 : Fin 256 → Fin 512 → EReal) (b1 : Fin 256 → EReal) (w2 : Fin 64 → Fin 256 → EReal) (b2 : Fin 64 → EReal)
    (w3 : Fin 5 → Fin 64 → EReal) (b3 : Fin 5 → EReal) : Fin 64 → Fin 5 → EReal :=
  Cert.dense (Cert.cut (Cert.cut x w1 b1) w2 b2) w3 b3

theorem Cert.head_congr {x x' : Fin 64 → Fin 512 → EReal} {w1 w1' : Fin 256 → Fin 512 → EReal} {b1 b1' : Fin 256 → EReal} {w2 w2' : Fin 64 → Fin 256 → EReal} {b2 b2' : Fin 64 → EReal}
    {w3 w3' : Fin 5 → Fin 64 → EReal} {b3 b3' : Fin 5 → EReal} (h : x = x') (h1 : w1 = w1') (k1 : b1 = b1') (h2 : w2 = w2') (k2 : b2 = b2') (h3 : w3 = w3') (k3 : b3 = b3') (i : Fin 64) (j : Fin 5) :
    Cert.head x w1 b1 w2 b2 w3 b3 i j = Cert.head x' w1' b1' w2' b2' w3' b3' i j := by
  subst h h1 k1 h2 k2 h3 k3
  rfl

namespace Cert.KernelHIdeal.Gen

open Cert.KernelHIdeal Idealize.ShloMosaic Idealize.ShloMosaic.TcCoe Idealize.SL.Sem
open Idealize.ShloMosaic.Pipeline (Dat)

theorem lay1 (X : FVec Ideal S64x512 .f32) (W : FVec Ideal S512x256 .f32) (B : FVec Ideal S1x256 .f32) (i : Fin 64) (j : Fin 256) :
    maximumf (addf (matmul dot_S64x512_S512x256_S64x256_1_0_0_1_n_n none X (shapeCast S512x256 W shapeCasts_S512x256_S512x256) (constant S64x256 .f32 0x00000000#32))
      (broadcastTo S64x256 (shapeCast S1x256 B shapeCasts_S1x256_S1x256) broadcasts_S1x256_S64x256)) (broadcast S64x256 (Scalar.ofBits (F := Ideal) .f32 0x00000000#32)) (ix2 i j)
      = Cert.cut (fun i c => X (ix2 i c)) (fun j c => W (ix2 c j)) (fun j => B (ix2 0 j)) i j := by
  pointwise [Cert.cut, Cert.dense]

theorem lay2 (X : FVec Ideal S64x256 .f32) (W : FVec Ideal S256x64 .f32) (B : FVec Ideal S1x64 .f32) (i : Fin 64) (j : Fin 64) :
    maximumf (addf (matmul dot_S64x256_S256x64_S64x64_1_0_0_1_n_n none X (shapeCast S256x64 W shapeCasts_S256x64_S256x64) (constant S64x64 .f32 0x00000000#32))
      (broadcastTo S64x64 (shapeCast S1x64 B shapeCasts_S1x64_S1x64) broadcasts_S1x64_S64x64)) (broadcast S64x64 (Scalar.ofBits (F := Ideal) .f32 0x00000000#32)) (ix2 i j)
      = Cert.cut (fun i c => X (ix2 i c)) (fun j c => W (ix2 c j)) (fun j => B (ix2 0 j)) i j := by
  pointwise [Cert.cut, Cert.dense]

theorem lay3 (X : FVec Ideal S64x64 .f32) (W : FVec Ideal S64x5 .f32) (B : FVec Ideal S1x5 .f32) (i : Fin 64) (j : Fin 5) :
    addf (matmul dot_S64x64_S64x5_S64x5_1_0_0_1_n_n none X (shapeCast S64x5 W shapeCasts_S64x5_S64x5) (constant S64x5 .f32 0x00000000#32))
      (broadcastTo S64x5 (shapeCast S1x5 B shapeCasts_S1x5_S1x5) broadcasts_S1x5_S64x5) (ix2 i j)
      = Cert.dense (fun i c => X (ix2 i c)) (fun j c => W (ix2 c j)) (fun j => B (ix2 0 j)) i j := by
  pointwise [Cert.dense]

/-- What the body stores. -/
theorem pay_at (x0 : Vec Ideal S64x512 .f32) (x1 : Vec Ideal S512x256 .f32) (x2 : Vec Ideal S1x256 .f32) (x3 : Vec Ideal S256x64 .f32) (x4 : Vec Ideal S1x64 .f32)
    (x5 : Vec Ideal S64x5 .f32) (x6 : Vec Ideal S1x5 .f32) (i : Fin 64) (j : Fin 5) :
    k0_pay1 x0 x1 x2 x3 x4 x5 x6 (ix2 i j)
      = Cert.head (fun i c => x0 (ix2 i c)) (fun j c => x1 (ix2 c j)) (fun j => x2 (ix2 0 j)) (fun j c => x3 (ix2 c j)) (fun j => x4 (ix2 0 j))
          (fun j c => x5 (ix2 c j)) (fun j => x6 (ix2 0 j)) i j := by
  unfold k0_pay1 Cert.head
  rw [lay3]
  simp only [lay2, lay1]

variable (m : (ℓ : Loc nD τ sig) → Buf (Elt Ideal) ℓ)

theorem V_w1 (c : Dev nD) (i : Fin 512) (j : Fin 256) :
    (V m c main_v0 : Vec Ideal S512x256 .f32) (ix2 i j) = (m ((c : Thread nD τ).loc main_arg1) : Vec Ideal S256x512 .f32) (ix2 j i) := by
  unfold V hostOps0
  after_reads_at

theorem V_b1 (c : Dev nD) (j : Fin 256) :
    (V m c main_v1 : Vec Ideal S1x256 .f32) (ix2 0 j) = (m ((c : Thread nD τ).loc main_arg2) : Vec Ideal S256 .f32) (ix1 j) := by
  unfold V hostOps0
  after_reads_at

theorem V_w2 (c : Dev nD) (i : Fin 256) (j : Fin 64) :
    (V m c main_v2 : Vec Ideal S256x64 .f32) (ix2 i j) = (m ((c : Thread nD τ).loc main_arg3) : Vec Ideal S64x256 .f32) (ix2 j i) := by
  unfold V hostOps0
  after_reads_at

theorem V_b2 (c : Dev nD) (j : Fin 64) :
    (V m c main_v3 : Vec Ideal S1x64 .f32) (ix2 0 j) = (m ((c : Thread nD τ).loc main_arg4) : Vec Ideal S64 .f32) (ix1 j) := by
  unfold V hostOps0
  after_reads_at

theorem V_w3 (c : Dev nD) (i : Fin 64) (j : Fin 5) :
    (V m c main_v4 : Vec Ideal S64x5 .f32) (ix2 i j) = (m ((c : Thread nD τ).loc main_arg5) : Vec Ideal S5x64 .f32) (ix2 j i) := by
  unfold V hostOps0
  after_reads_at

theorem V_b3 (c : Dev nD) (j : Fin 5) :
    (V m c main_v5 : Vec Ideal S1x5 .f32) (ix2 0 j) = (m ((c : Thread nD τ).loc main_arg6) : Vec Ideal S5 .f32) (ix1 j) := by
  unfold V hostOps0
  after_reads_at

theorem blk0 (c : Dev nD) (t : Fin cfg0.N) : (iblk m c 0 t : Vec Ideal S64x512 .f32) = V m c main_arg0 :=
  Memref.read_access_unit_zero (Elt Ideal) main_arg0 (funext fun a => by revert t a; decide) (fun a => by revert t a; decide) (V m c main_arg0)

theorem blk1 (c : Dev nD) (t : Fin cfg0.N) : (iblk m c 1 t : Vec Ideal S512x256 .f32) = V m c main_v0 :=
  Memref.read_access_unit_zero (Elt Ideal) main_v0 (funext fun a => by revert t a; decide) (fun a => by revert t a; decide) (V m c main_v0)

theorem blk2 (c : Dev nD) (t : Fin cfg0.N) : (iblk m c 2 t : Vec Ideal S1x256 .f32) = V m c main_v1 :=
  Memref.read_access_unit_zero (Elt Ideal) main_v1 (funext fun a => by revert t a; decide) (fun a => by revert t a; decide) (V m c main_v1)

theorem blk3 (c : Dev nD) (t : Fin cfg0.N) : (iblk m c 3 t : Vec Ideal S256x64 .f32) = V m c main_v2 :=
  Memref.read_access_unit_zero (Elt Ideal) main_v2 (funext fun a => by revert t a; decide) (fun a => by revert t a; decide) (V m c main_v2)

theorem blk4 (c : Dev nD) (t : Fin cfg0.N) : (iblk m c 4 t : Vec Ideal S1x64 .f32) = V m c main_v3 :=
  Memref.read_access_unit_zero (Elt Ideal) main_v3 (funext fun a => by revert t a; decide) (fun a => by revert t a; decide) (V m c main_v3)

theorem blk5 (c : Dev nD) (t : Fin cfg0.N) : (iblk m c 5 t : Vec Ideal S64x5 .f32) = V m c main_v4 :=
  Memref.read_access_unit_zero (Elt Ideal) main_v4 (funext fun a => by revert t a; decide) (fun a => by revert t a; decide) (V m c main_v4)

theorem blk6 (c : Dev nD) (t : Fin cfg0.N) : (iblk m c 6 t : Vec Ideal S1x5 .f32) = V m c main_v5 :=
  Memref.read_access_unit_zero (Elt Ideal) main_v5 (funext fun a => by revert t a; decide) (fun a => by revert t a; decide) (V m c main_v5)

/-- The result array. -/
abbrev last (c : Dev nD) : Buf (Elt Ideal) ((c : Thread nD τ).loc main_v6) :=
  k0_pay1 (V m c main_arg0) (V m c main_v0) (V m c main_v1) (V m c main_v2) (V m c main_v3) (V m c main_v4) (V m c main_v5)

/-- Its elements, of the arguments. -/
theorem last_at (c : Dev nD) (i : Fin 64) (j : Fin 5) :
    (last m c : Vec Ideal S64x5 .f32) (ix2 i j)
      = Cert.head (fun i k => (m ((c : Thread nD τ).loc main_arg0) : Vec Ideal S64x512 .f32) (ix2 i k)) (fun j k => (m ((c : Thread nD τ).loc main_arg1) : Vec Ideal S256x512 .f32) (ix2 j k))
          (fun j => (m ((c : Thread nD τ).loc main_arg2) : Vec Ideal S256 .f32) (ix1 j)) (fun j k => (m ((c : Thread nD τ).loc main_arg3) : Vec Ideal S64x256 .f32) (ix2 j k))
          (fun j => (m ((c : Thread nD τ).loc main_arg4) : Vec Ideal S64 .f32) (ix1 j)) (fun j k => (m ((c : Thread nD τ).loc main_arg5) : Vec Ideal S5x64 .f32) (ix2 j k))
          (fun j => (m ((c : Thread nD τ).loc main_arg6) : Vec Ideal S5 .f32) (ix1 j)) i j := by
  exact (pay_at _ _ _ _ _ _ _ i j).trans (Cert.head_congr (funext₂ fun i k => congrFun (V_main_arg0 m c) _) (funext₂ fun j k => V_w1 m c k j) (funext fun j => V_b1 m c j)
    (funext₂ fun j k => V_w2 m c k j) (funext fun j => V_b2 m c j) (funext₂ fun j k => V_w3 m c k j) (funext fun j => V_b3 m c j) i j)

theorem z2 : (![0, 0] : Fin 2 → ℕ) = fun _ => 0 := by decide

theorem flushed (c : Dev nD) (t : Fin cfg0.N) (hf : (cfg0.win 7).flush t = true) :
    (dats m 0 c).flushed 7 t = ((cfg0.win 7).blk t).view.read (Elt Ideal) (last m c) := by
  rw [Value.flushed7, blk0, blk1, blk2, blk3, blk4, blk5, blk6]
  unfold out0_7
  rw [View.canon_unit_zero z2, View.ld_unit_zero (S := S64x512) z2, View.ld_unit_zero (S := S512x256) z2, View.ld_unit_zero (S := S1x256) z2, View.ld_unit_zero (S := S256x64) z2,
    View.ld_unit_zero (S := S1x64) z2, View.ld_unit_zero (S := S64x5) z2, View.ld_unit_zero (S := S1x5) z2]
  exact (Memref.read_access_unit_zero (Elt Ideal) main_v6 (funext fun a => by revert t a; decide) (fun a => by revert t a; decide) (last m c)).symm

/-- The result array ends holding it. -/
theorem final (c : Dev nD) : (dats m 0 c).arrAt 7 cfg0.N = last m c :=
  (dats m 0 c).arrAt_eq_of_cover 7 (last m c) (flushed m c) fun i =>
    ⟨t0_0, flush0_7 t0_0, by
      have hi : ∀ t : Fin cfg0.N, win0_7.index t 0 * win0_7.size 0 = 0 ∧ win0_7.index t 1 * win0_7.size 1 = 0 := by decide +kernel
      have hx : ∀ t : Fin cfg0.N, win0_7.xsize (grid0.coords t) 0 = 64 ∧ win0_7.xsize (grid0.coords t) 1 = 5 := by decide +kernel
      show i ∈ ((View.whole main_v6).slice (win0_7.rect t0_0)).set
      rw [View.set_slice_whole, Rect.mem_set_unit]
      intro a
      have h0 : (i 0 : Nat) < 64 := (i 0).isLt
      have h1 : (i 1 : Nat) < 5 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [(hi _).1, (hx _).1]; omega
      | ⟨1, _⟩ => show win0_7.index t0_0 1 * win0_7.size 1 ≤ (i 1 : Nat) ∧ (i 1 : Nat) < win0_7.index t0_0 1 * win0_7.size 1 + win0_7.xsize (grid0.coords t0_0) 1
                  rw [(hi _).2, (hx _).2]; omega⟩

end Cert.KernelHIdeal.Gen

namespace Cert.ReferenceHIdeal.Read

open Cert.ReferenceHIdeal Idealize.ShloMosaic Idealize.ShloMosaic.TcCoe Idealize.SL.Sem

theorem zero1 (i : S64x256.Idx) : val_main_call0_v0 (F := Ideal) i = 0 := by
  unfold val_main_call0_v0 val_main_call0_cst
  rw [eq_ix2 i]
  pointwise

theorem zero2 (i : S64x64.Idx) : val_main_call1_v0 (F := Ideal) i = 0 := by
  unfold val_main_call1_v0 val_main_call1_cst
  rw [eq_ix2 i]
  pointwise

theorem row1 (x0 : (⟨S64x512, .f32⟩ : BufTy).Contents (Elt Ideal)) (x1 : (⟨S256x512, .f32⟩ : BufTy).Contents (Elt Ideal)) (x2 : (⟨S256, .f32⟩ : BufTy).Contents (Elt Ideal)) (i : Fin 64) (j : Fin 256) :
    val_main_v5 (F := Ideal) x0 x1 x2 (ix2 i j) = Cert.cut (fun i k => x0 (ix2 i k)) (fun j k => x1 (ix2 j k)) (fun j => x2 (ix1 j)) i j := by
  rw [val_main_v5_apply, val_main_v4_apply, val_main_v1_apply, val_main_v3_apply, val_main_v2_apply, zero1]
  unfold Cert.cut Cert.dense
  refine congrArg (fun s : EReal => max s 0) (congrArg₂ (fun a b : EReal => a + b) (Finset.sum_congr rfl fun k _ => ?_) ?_)
  · rw [val_main_v0_apply]
    exact congrArg₂ (fun a b : EReal => a * b) (congrArg x0 (eq_ix2 _)) (congrArg x1 (eq_ix2 _))
  · exact congrArg x2 (eq_ix1 _)

theorem row2 (x0 : (⟨S64x512, .f32⟩ : BufTy).Contents (Elt Ideal)) (x1 : (⟨S256x512, .f32⟩ : BufTy).Contents (Elt Ideal)) (x2 : (⟨S256, .f32⟩ : BufTy).Contents (Elt Ideal))
    (x3 : (⟨S64x256, .f32⟩ : BufTy).Contents (Elt Ideal)) (x4 : (⟨S64, .f32⟩ : BufTy).Contents (Elt Ideal)) (i : Fin 64) (j : Fin 64) :
    val_main_v11 (F := Ideal) x0 x1 x2 x3 x4 (ix2 i j)
      = Cert.cut (Cert.cut (fun i k => x0 (ix2 i k)) (fun j k => x1 (ix2 j k)) (fun j => x2 (ix1 j))) (fun j k => x3 (ix2 j k)) (fun j => x4 (ix1 j)) i j := by
  rw [val_main_v11_apply, val_main_v10_apply, val_main_v7_apply, val_main_v9_apply, val_main_v8_apply, zero2, Cert.cut, Cert.dense]
  refine congrArg (fun s : EReal => max s 0) (congrArg₂ (fun a b : EReal => a + b) (Finset.sum_congr rfl fun k _ => ?_) ?_)
  · rw [val_main_v6_apply]
    exact congrArg₂ (fun a b : EReal => a * b) ((congrArg (val_main_v5 (F := Ideal) x0 x1 x2) (eq_ix2 _)).trans (row1 x0 x1 x2 _ _)) (congrArg x3 (eq_ix2 _))
  · exact congrArg x4 (eq_ix1 _)

theorem head_at (x0 : (⟨S64x512, .f32⟩ : BufTy).Contents (Elt Ideal)) (x1 : (⟨S256x512, .f32⟩ : BufTy).Contents (Elt Ideal)) (x2 : (⟨S256, .f32⟩ : BufTy).Contents (Elt Ideal))
    (x3 : (⟨S64x256, .f32⟩ : BufTy).Contents (Elt Ideal)) (x4 : (⟨S64, .f32⟩ : BufTy).Contents (Elt Ideal)) (x5 : (⟨S5x64, .f32⟩ : BufTy).Contents (Elt Ideal)) (x6 : (⟨S5, .f32⟩ : BufTy).Contents (Elt Ideal))
    (i : Fin 64) (j : Fin 5) :
    val_main_v16 (F := Ideal) x0 x1 x2 x3 x4 x5 x6 (ix2 i j)
      = Cert.head (fun i k => x0 (ix2 i k)) (fun j k => x1 (ix2 j k)) (fun j => x2 (ix1 j)) (fun j k => x3 (ix2 j k)) (fun j => x4 (ix1 j)) (fun j k => x5 (ix2 j k)) (fun j => x6 (ix1 j)) i j := by
  rw [val_main_v16_apply, val_main_v13_apply, val_main_v15_apply, val_main_v14_apply, Cert.head, Cert.dense]
  refine congrArg₂ (fun a b : EReal => a + b) (Finset.sum_congr rfl fun k _ => ?_) ?_
  · rw [val_main_v12_apply]
    exact congrArg₂ (fun a b : EReal => a * b) ((congrArg (val_main_v11 (F := Ideal) x0 x1 x2 x3 x4) (eq_ix2 _)).trans (row2 x0 x1 x2 x3 x4 _ _)) (congrArg x5 (eq_ix2 _))
  · exact congrArg x6 (eq_ix1 _)

end Cert.ReferenceHIdeal.Read

namespace Cert.Proof

open Idealize.ShloMosaic Idealize.ShloMosaic.TcCoe Idealize.SL.Sem Idealize.ShloMosaic.StableHlo

/-- The head's value claim. -/
theorem equalH : algebraic_KernelHIdeal_ReferenceHIdeal := by
  intro m g m' g' _ hagree
  refine ⟨fun c => Cert.KernelHIdeal.Gen.last m c, ?_, ?_⟩
  · exact (θ_run Cert.KernelHIdeal.defs _ _).mono (fun r h c => ⟨(h c).1.trans (Cert.KernelHIdeal.Gen.final m c), (h c).2⟩) (Cert.KernelHIdeal.Value.run_blocks (F := Ideal) m g)
  refine (θ_run Cert.ReferenceHIdeal.defs _ _).mono (fun r h c => ⟨?_, (h c).2⟩) (Cert.ReferenceHIdeal.Value.run (F := Ideal) m' g')
  refine (h c).1.trans ((Cert.ReferenceHIdeal.Read.val_main_v16_eq (F := Ideal) _ _ _ _ _ _ _).trans ?_)
  obtain ⟨a0, a1, a2, a3, a4, a5, a6⟩ := hagree c
  rw [a0, a1, a2, a3, a4, a5, a6]
  funext j
  rw [eq_ix2 j]
  exact (Cert.ReferenceHIdeal.Read.head_at _ _ _ _ _ _ _ (j 0) (j 1)).trans (Cert.KernelHIdeal.Gen.last_at m c (j 0) (j 1)).symm

end Cert.Proof
-- ==== Proof.StemHost.lean ====
/- The arrays the stem's call is handed: the signal's three shifted columns, padded to 192 rows a sample, and the weights turned round. -/
module

public import proofs.«01_k».proof.Proof.Gen.KernelSIdeal.Value
public import Idealize.ShloMosaic.Lib.Pointwise
public import Idealize.ShloMosaic.Lib.WholeRead
public import Idealize.ShloMosaic.Lib.StableHlo.ReadAt

@[expose] public section

noncomputable section

namespace Cert

/-- The signal `x` one step apart for each `k`: the entry at `l + k - 1`, and
zero where that runs past either end. -/
noncomputable def tap (x : Fin 64 → Fin 187 → EReal) (b : Fin 64) (l : Fin 187) (k : Fin 3) :
    EReal :=
  if h : 1 ≤ (l : ℕ) + k ∧ (l : ℕ) + k - 1 < 187 then x b ⟨(l : ℕ) + k - 1, h.2⟩ else 0

end Cert

namespace Cert.KernelSIdeal.Gen

open Cert.KernelSIdeal Idealize.ShloMosaic Idealize.ShloMosaic.TcCoe Idealize.SL.Sem
open Idealize.ShloMosaic.Pipeline (Dat)

variable (m : (ℓ : Loc nD τ sig) → Buf (Elt Ideal) ℓ)

theorem V_w (c : Dev nD) (k : Fin 3) (o : Fin 16) :
    (V m c main_v14 : Vec Ideal S3x16 .f32) (ix2 k o) = (m ((c : Thread nD τ).loc main_arg1) : Vec Ideal S16x1x3 .f32) (ix3 o 0 k) := by
  unfold V hostOps0
  after_reads_at

theorem V_cb (c : Dev nD) (o : Fin 16) :
    (V m c main_v15 : Vec Ideal S1x16 .f32) (ix2 0 o) = (m ((c : Thread nD τ).loc main_arg2) : Vec Ideal S16 .f32) (ix1 o) := by
  unfold V hostOps0
  after_reads_at

theorem V_rw (c : Dev nD) (o : Fin 16) (e : Fin 8) :
    (V m c main_v16 : Vec Ideal S16x8 .f32) (ix2 o e) = (m ((c : Thread nD τ).loc main_arg3) : Vec Ideal S8x16 .f32) (ix2 e o) := by
  unfold V hostOps0
  after_reads_at

theorem V_rb (c : Dev nD) (e : Fin 8) :
    (V m c main_v17 : Vec Ideal S1x8 .f32) (ix2 0 e) = (m ((c : Thread nD τ).loc main_arg4) : Vec Ideal S8 .f32) (ix1 e) := by
  unfold V hostOps0
  after_reads_at

theorem V_in (c : Dev nD) (r : Fin 12320) (k : Fin 3) (h : (16 ≤ (r : ℕ) ∧ (r : ℕ) - 16 < 12288) ∧ ((r : ℕ) - 16) % 192 < 187)
    (q : Fin 187) (hq : (q : ℕ) + 1 = ((r : ℕ) - 16) % 192 + (k : ℕ)) (b : Fin 64) (hb : (b : ℕ) = ((r : ℕ) - 16) / 192) :
    (V m c main_v12 : Vec Ideal S12320x3 .f32) (ix2 r k) = (m (c, main_arg0) : Vec Ideal S64x1x187 .f32) (ix3 b 0 q) := by
  have hk := k.isLt
  unfold V hostOps0
  after_reads_at
  split_ifs
  all_goals try after_reads_at
  all_goals try split_ifs
  all_goals try after_reads_at
  all_goals first
    | (exfalso; omega)
    | exact congrArg (m (c, main_arg0)) (congrArg₂ (fun i j => ix3 i 0 j) (Fin.ext (by dsimp only; omega)) (Fin.ext (by dsimp only; omega)))

theorem V_out (c : Dev nD) (r : Fin 12320) (k : Fin 3) (h : (16 ≤ (r : ℕ) ∧ (r : ℕ) - 16 < 12288) ∧ ((r : ℕ) - 16) % 192 < 187)
    (hq : ¬(1 ≤ ((r : ℕ) - 16) % 192 + (k : ℕ) ∧ ((r : ℕ) - 16) % 192 + (k : ℕ) - 1 < 187)) :
    (V m c main_v12 : Vec Ideal S12320x3 .f32) (ix2 r k) = (0 : EReal) := by
  have hk := k.isLt
  unfold V hostOps0
  after_reads_at
  split_ifs
  all_goals try after_reads_at
  all_goals try split_ifs
  all_goals try after_reads_at
  all_goals try (exfalso; omega)

theorem V_x (c : Dev nD) (r : Fin 12320) (k : Fin 3) (b : Fin 64) (l : Fin 187) (hr : (r : ℕ) = 16 + (b.val * 192 + l.val)) :
    (V m c main_v12 : Vec Ideal S12320x3 .f32) (ix2 r k)
      = Cert.tap (fun b l => (m (c, main_arg0) : Vec Ideal S64x1x187 .f32) (ix3 b 0 l)) b l k := by
  have hb := b.isLt
  have hl := l.isLt
  unfold Cert.tap
  split
  · next h => exact V_in m c r k (by omega) _ (by dsimp only; omega) b (by omega)
  · next h => exact V_out m c r k (by omega) (by omega)

end Cert.KernelSIdeal.Gen
-- ==== Proof.StemPay.lean ====
/- What the stem's body computes: the convolution over each row, the mean over a sample's rows, the expert scores, their softmax, and the spread of the experts' mean gates. -/
module

public import proofs.«01_k».proof.Proof.FourSum
public import proofs.«01_k».proof.Proof.Gen.KernelSIdeal.Value

@[expose] public section

noncomputable section

namespace Cert

/-- One channel of the convolution at a row of `x` three steps wide, plus the bias, cut off at zero. -/
def act (x : Fin 3 → EReal) (w : Fin 3 → EReal) (b : EReal) : EReal := max ((∑ k : Fin 3, x k * w k) + b) 0

/-- The expert scores of a sample: its pooled channels against the expert's weights, plus the expert's bias. -/
def score (p : Fin 64 → Fin 16 → EReal) (w : Fin 8 → Fin 16 → EReal) (s : Fin 8 → EReal) (b : Fin 64) (e : Fin 8) : EReal :=
  (∑ o : Fin 16, p b o * w e o) + s e

/-- The largest of a sample's scores. -/
def top (s : Fin 64 → Fin 8 → EReal) (b : Fin 64) : EReal := Finset.fold max ⊥ (fun e => s b e) Finset.univ

/-- A score's exponential, taken from the largest. -/
def lift (s : Fin 64 → Fin 8 → EReal) (b : Fin 64) (e : Fin 8) : EReal := Idealize.ShloMosaic.Ideal.exp (s b e - top s b)

/-- A sample's softmax. -/
def soft (s : Fin 64 → Fin 8 → EReal) (b : Fin 64) (e : Fin 8) : EReal := Idealize.ShloMosaic.Ideal.div (lift s b e) (∑ e' : Fin 8, lift s b e')

/-- An expert's mean gate. -/
def avg (p : Fin 64 → Fin 8 → EReal) (e : Fin 8) : EReal := Idealize.ShloMosaic.Ideal.div (∑ b : Fin 64, p b e) ((64 : ℝ) : EReal)

/-- The mean of eight numbers. -/
def mid (a : Fin 8 → EReal) : EReal := Idealize.ShloMosaic.Ideal.div (∑ e : Fin 8, a e) ((8 : ℝ) : EReal)

/-- The sum of their squared distances from the mean. -/
def off (a : Fin 8 → EReal) : EReal := ∑ e : Fin 8, (a e - mid a) * (a e - mid a)

end Cert

namespace Cert.KernelSIdeal.Gen

open Cert.KernelSIdeal Idealize.ShloMosaic Idealize.ShloMosaic.TcCoe Idealize.SL.Sem Moe

theorem rowdiv : ∀ x : Fin 12288, (Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 192#32 0#32))
              (Scalar.extui (Scalar.cmpi CmpIPredicate.slt 192#32 0#32))))
          (IntOp.cmpi CmpIPredicate.ne (IntOp.remsi ArithUnit.vector (BitVec.ofNat 32 x.val) 192#32) 0#32))
        (IntOp.subi (IntOp.divsi ArithUnit.vector (BitVec.ofNat 32 x.val) 192#32) 1#32)
        (IntOp.divsi ArithUnit.vector (BitVec.ofNat 32 x.val) 192#32)) = BitVec.ofNat 32 (x.val / 192) := by
  decide +kernel

theorem rowrem : ∀ x : Fin 12288, IntOp.cmpi CmpIPredicate.slt (Scalar.select
      (IntOp.andi
        (IntOp.xori
          (IntOp.cmpi CmpIPredicate.slt
            (IntOp.remsi ArithUnit.vector (BitVec.ofNat 32 x.val)
              (Scalar.select (Scalar.cmpi CmpIPredicate.eq 192#32 0#32) 1#32 192#32))
            0#32)
          (Scalar.cmpi CmpIPredicate.slt (Scalar.select (Scalar.cmpi CmpIPredicate.eq 192#32 0#32) 1#32 192#32) 0#32))
        (IntOp.cmpi CmpIPredicate.ne
          (IntOp.remsi ArithUnit.vector (BitVec.ofNat 32 x.val)
            (Scalar.select (Scalar.cmpi CmpIPredicate.eq 192#32 0#32) 1#32 192#32))
          0#32))
      (IntOp.addi
        (IntOp.remsi ArithUnit.vector (BitVec.ofNat 32 x.val)
          (Scalar.select (Scalar.cmpi CmpIPredicate.eq 192#32 0#32) 1#32 192#32))
        (Scalar.select (Scalar.cmpi CmpIPredicate.eq 192#32 0#32) 1#32 192#32))
      (IntOp.remsi ArithUnit.vector (BitVec.ofNat 32 x.val)
        (Scalar.select (Scalar.cmpi CmpIPredicate.eq 192#32 0#32) 1#32 192#32))) 187#32 = if x.val % 192 < 187 then 1#1 else 0#1 := by
  decide +kernel

theorem p3 (v0 : Vec Ideal S12288x3 .f32) (v2 : Vec Ideal S3x16 .f32) (v5 : Vec Ideal S1x16 .f32) (r : Fin 12288) (o : Fin 16) (h : r.val % 192 < 187) :
    k0_pay3 v0 v2 v5 (ix2 r o) = Cert.act (fun k => v0 (ix2 r k)) (fun k => v2 (ix2 k o)) (v5 (ix2 0 o)) := by
  pointwise [k0_pay3]
  rw [rowrem, if_pos h]
  rfl

theorem p6 (b : Fin 64) (r : Fin 12288) : k0_pay6 (ix2 b r) = if r.val / 192 = b.val then 1#1 else 0#1 := by
  pointwise [k0_pay6]
  rw [rowdiv]
  have hr := r.isLt
  have hb := b.isLt
  exact eq_nat (r.val / 192) b.val (by omega) (by omega)

theorem p7 (b : Fin 64) (r : Fin 12288) : IntOp.cmpi .slt (k0_pay7 (ix2 b r)) 187#32 = if r.val % 192 < 187 then 1#1 else 0#1 := by
  pointwise [k0_pay7]
  exact rowrem r

/-- One entry of the selection matrix times a row. -/
theorem sel_mul (x : Fin 12288) (b : Fin 64) (P : EReal) :
    (FloatOps.sitofp .f32 (BitVec.setWidth 32 (IntOp.andi (if x.val / 192 = b.val then 1#1 else 0#1) (if x.val % 192 < 187 then 1#1 else 0#1))) : Ideal .f32) * P
      = (if x.val % 192 < 187 then (if x.val / 192 = b.val then P else 0) else 0 : EReal) := by
  by_cases h1 : x.val / 192 = b.val <;> by_cases h2 : x.val % 192 < 187
  · rw [if_pos h1, if_pos h2, if_pos h2, if_pos h1, Kernel4Ideal.Gen.bit_one]; exact one_mul P
  · rw [if_neg h2, if_neg h2, Kernel4Ideal.Gen.bit_zero _ _ (Or.inr rfl)]; exact zero_mul P
  · rw [if_neg h1, if_pos h2, if_pos h2, if_neg h1, Kernel4Ideal.Gen.bit_zero _ _ (Or.inl rfl)]; exact zero_mul P
  · rw [if_neg h2, if_neg h2, Kernel4Ideal.Gen.bit_zero _ _ (Or.inr rfl)]; exact zero_mul P

/-- The rows a sample's entry of the selection matrix keeps. -/
theorem sum_sel (b : Fin 64) (f : Fin 12288 → EReal) (g : Fin 187 → EReal)
    (hf : ∀ (r : Fin 12288) (l : Fin 187), r.val = b.val * 192 + l.val → f r = g l) :
    ∑ r : Fin 12288, (if r.val % 192 < 187 then (if r.val / 192 = b.val then f r else 0) else 0 : EReal) = ∑ l : Fin 187, g l := by
  rw [sum_rows (S := 192) (by norm_num)]
  rw [Finset.sum_eq_single b (fun b' _ h => Finset.sum_eq_zero fun l _ => ?_) (fun h => absurd (Finset.mem_univ b) h)]
  · change (∑ x : Fin (187 + 5), _) = _
    rw [Fin.sum_univ_add]
    rw [Finset.sum_eq_zero (s := (Finset.univ : Finset (Fin 5))), add_zero]
    · refine Finset.sum_congr rfl fun l _ => ?_
      have := l.isLt
      rw [if_pos (by simp only [Fin.val_castAdd]; omega), if_pos (by simp only [Fin.val_castAdd]; omega)]
      exact hf _ l rfl
    · intro l _
      have := l.isLt
      rw [if_neg (by simp only [Fin.val_natAdd]; omega)]
  · have h1 := l.isLt
    have h2 : b'.val ≠ b.val := fun h' => h (Fin.ext h')
    rw [if_neg (c := _ = b.val) (by dsimp only; omega)]
    split <;> rfl

theorem pool (H : FVec Ideal S12288x16 .f32) (g : Fin 64 → Fin 187 → Fin 16 → EReal)
    (hH : ∀ (r : Fin 12288) (b : Fin 64) (l : Fin 187) (o : Fin 16), r.val = b.val * 192 + l.val → H (ix2 r o) = g b l o) (b : Fin 64) (o : Fin 16) :
    mulf (matmul dot_S64x12288_S12288x16_S64x16_1_0_0_1_n_n none
        (sitofp .f32 (extui 32 (andi k0_pay6 (cmpi .slt k0_pay7 (broadcast S64x12288 187#32))) natLt_1_32)) H (constant S64x16 .f32 0x00000000#32))
      (broadcast S64x16 (Named.named (F := Ideal) κ "inv_len" 0x3BAF3ADE#32)) (ix2 b o) = (∑ l : Fin 187, g b l o) * ((1 / 187 : ℝ) : EReal) := by
  generalize h6 : k0_pay6 = A
  generalize h7 : k0_pay7 = B
  pointwise
  subst h6 h7
  simp only [p6, p7, sel_mul]
  rw [sum_sel b _ (fun l => g b l o) (fun r l h => hH r b l o h)]
  rw [show (Named.named κ "inv_len" 0x3BAF3ADE#32 : Ideal .f32) = ((1 / 187 : ℝ) : EReal) from
    (IdealRules.named_const.ideal_named_scalar _ _ _ _ rfl).trans (by norm_num)]

theorem scores (P : FVec Ideal S64x16 .f32) (W : FVec Ideal S16x8 .f32) (B : FVec Ideal S1x8 .f32) (b : Fin 64) (e : Fin 8) :
    addf (matmul dot_S64x16_S16x8_S64x8_1_0_0_1_n_n none P (shapeCast S16x8 W shapeCasts_S16x8_S16x8) (constant S64x8 .f32 0x00000000#32))
      (broadcastTo S64x8 (shapeCast S1x8 B shapeCasts_S1x8_S1x8) broadcasts_S1x8_S64x8) (ix2 b e)
      = Cert.score (fun b o => P (ix2 b o)) (fun e o => W (ix2 o e)) (fun e => B (ix2 0 e)) b e := by
  pointwise [Cert.score]

theorem tops (X : FVec Ideal S64x8 .f32) (b : Fin 64) (e : Fin 8) :
    broadcastTo S64x8 (shapeCast S64x1 (multiReduction .maximumf [1] S64 X 0xFF800000#32 reduces_S64x8_S64 (.inl rfl) rfl) shapeCasts_S64_S64x1) broadcasts_S64x1_S64x8 (ix2 b e)
      = Cert.top (fun b e => X (ix2 b e)) b := by
  pointwise [Cert.top]
  rw [neg_inf]

theorem lifts (X : FVec Ideal S64x8 .f32) (b : Fin 64) (e : Fin 8) :
    exp (subf X (broadcastTo S64x8 (shapeCast S64x1 (multiReduction .maximumf [1] S64 X 0xFF800000#32 reduces_S64x8_S64 (.inl rfl) rfl) shapeCasts_S64_S64x1) broadcasts_S64x1_S64x8)) (ix2 b e)
      = Cert.lift (fun b e => X (ix2 b e)) b e := by
  have h := tops X b e
  generalize broadcastTo S64x8 (shapeCast S64x1 (multiReduction .maximumf [1] S64 X 0xFF800000#32 reduces_S64x8_S64 (.inl rfl) rfl) shapeCasts_S64_S64x1) broadcasts_S64x1_S64x8 = T at h ⊢
  unfold Cert.lift
  rw [← h]
  pointwise

theorem divs (X : FVec Ideal S64x8 .f32) (b : Fin 64) (e : Fin 8) :
    divf X (broadcastTo S64x8 (shapeCast S64x1 (multiReduction .add [1] S64 X 0x00000000#32 reduces_S64x8_S64 (.inl rfl) rfl) shapeCasts_S64_S64x1) broadcasts_S64x1_S64x8) (ix2 b e)
      = Ideal.div (X (ix2 b e)) (∑ e' : Fin 8, X (ix2 b e')) := by
  pointwise

theorem softs (X : FVec Ideal S64x8 .f32) (b : Fin 64) (e : Fin 8) :
    divf (exp (subf X (broadcastTo S64x8 (shapeCast S64x1 (multiReduction .maximumf [1] S64 X 0xFF800000#32 reduces_S64x8_S64 (.inl rfl) rfl) shapeCasts_S64_S64x1) broadcasts_S64x1_S64x8)))
      (broadcastTo S64x8 (shapeCast S64x1 (multiReduction .add [1] S64 (exp (subf X (broadcastTo S64x8 (shapeCast S64x1 (multiReduction .maximumf [1] S64 X 0xFF800000#32 reduces_S64x8_S64 (.inl rfl) rfl) shapeCasts_S64_S64x1) broadcasts_S64x1_S64x8)))
        0x00000000#32 reduces_S64x8_S64 (.inl rfl) rfl) shapeCasts_S64_S64x1) broadcasts_S64x1_S64x8) (ix2 b e)
      = Cert.soft (fun b e => X (ix2 b e)) b e :=
  (divs _ b e).trans (congrArg₂ Ideal.div (lifts X b e) (Finset.sum_congr rfl fun e' _ => lifts X b e'))

theorem gates (H : FVec Ideal S12288x16 .f32) (W : Vec Ideal S16x8 .f32) (B : Vec Ideal S1x8 .f32) (g : Fin 64 → Fin 187 → Fin 16 → EReal)
    (hH : ∀ (r : Fin 12288) (b : Fin 64) (l : Fin 187) (o : Fin 16), r.val = b.val * 192 + l.val → H (ix2 r o) = g b l o) (b : Fin 64) (e : Fin 8) :
    k0_pay8 H k0_pay6 k0_pay7 W B (ix2 b e)
      = Cert.soft (Cert.score (fun b o => (∑ l : Fin 187, g b l o) * ((1 / 187 : ℝ) : EReal)) (fun e o => W (ix2 o e)) (fun e => B (ix2 0 e))) b e := by
  unfold k0_pay8
  refine (softs _ b e).trans (congrArg (fun s => Cert.soft s b e) (funext₂ fun b e => (scores _ W B b e).trans ?_))
  exact congrArg (fun p => Cert.score p (fun e o => W (ix2 o e)) (fun e => B (ix2 0 e)) b e) (funext₂ fun b o => pool H g hH b o)

theorem c64 : Ideal.ofBits .f32 0x42800000#32 = ((64 : ℝ) : EReal) := by
  simp [Ideal.ofBits, Ideal.ieee, -EReal.coe_mul]
  norm_num

theorem c8 : Ideal.ofBits .f32 0x41000000#32 = ((8 : ℝ) : EReal) := by
  simp [Ideal.ofBits, Ideal.ieee, -EReal.coe_mul]
  norm_num

theorem means (P : FVec Ideal S64x8 .f32) (e : Fin 8) :
    divf (shapeCast S1x8 (multiReduction .add [0] S8 P 0x00000000#32 reduces_S64x8_S8 (.inl rfl) rfl) shapeCasts_S8_S1x8) (broadcast S1x8 (Scalar.ofBits (F := Ideal) .f32 0x42800000#32)) (ix2 0 e)
      = Cert.avg (fun b e => P (ix2 b e)) e := by
  pointwise [Cert.avg]
  rw [← c64]

theorem mids (A : FVec Ideal S1x8 .f32) :
    divf (shapeCast S1x1 (multiReduction .add [1] S1 A 0x00000000#32 reduces_S1x8_S1 (.inl rfl) rfl) shapeCasts_S1_S1x1) (broadcast S1x1 (Scalar.ofBits (F := Ideal) .f32 0x41000000#32)) (ix2 0 0)
      = Cert.mid (fun e => A (ix2 0 e)) := by
  pointwise [Cert.mid]
  rw [← c8]

theorem offs (A : FVec Ideal S1x8 .f32) (M : FVec Ideal S1x1 .f32) :
    mulf (shapeCast S1x1 (multiReduction .add [1] S1 (mulf (subf A (broadcastTo S1x8 M broadcasts_S1x1_S1x8)) (subf A (broadcastTo S1x8 M broadcasts_S1x1_S1x8))) 0x00000000#32 reduces_S1x8_S1 (.inl rfl) rfl) shapeCasts_S1_S1x1)
      (broadcast S1x1 (Named.named (F := Ideal) κ "inv_dof" 0x3E124925#32)) (ix2 0 0)
      = (∑ e : Fin 8, (A (ix2 0 e) - M (ix2 0 0)) * (A (ix2 0 e) - M (ix2 0 0))) * ((1 / 7 : ℝ) : EReal) := by
  pointwise
  rw [show (Named.named κ "inv_dof" 0x3E124925#32 : Ideal .f32) = ((1 / 7 : ℝ) : EReal) from
    (IdealRules.named_const.ideal_named_scalar _ _ _ _ rfl).trans (by norm_num)]

theorem ends (V M : FVec Ideal S1x1 .f32) :
    divf V (mulf (addf M (broadcast S1x1 (Scalar.ofBits (F := Ideal) .f32 0x2EDBE6FF#32))) (addf M (broadcast S1x1 (Scalar.ofBits (F := Ideal) .f32 0x2EDBE6FF#32)))) (ix2 0 0)
      = Ideal.div (V (ix2 0 0)) ((M (ix2 0 0) + Ideal.ofBits .f32 0x2EDBE6FF#32) * (M (ix2 0 0) + Ideal.ofBits .f32 0x2EDBE6FF#32)) := by
  pointwise

theorem spread (P : FVec Ideal S64x8 .f32) :
    k0_pay2 P (ix2 0 0) = Ideal.div (Cert.off (Cert.avg fun b e => P (ix2 b e)) * ((1 / 7 : ℝ) : EReal))
      ((Cert.mid (Cert.avg fun b e => P (ix2 b e)) + Ideal.ofBits .f32 0x2EDBE6FF#32) * (Cert.mid (Cert.avg fun b e => P (ix2 b e)) + Ideal.ofBits .f32 0x2EDBE6FF#32)) := by
  unfold k0_pay2
  dsimp only
  refine (ends _ _).trans ?_
  have ha : ∀ e : Fin 8, _ := fun e => means P e
  have hm := (mids _).trans (congrArg Cert.mid (funext ha))
  refine congrArg₂ Ideal.div ((offs _ _).trans (congrArg (fun s : EReal => s * ((1 / 7 : ℝ) : EReal)) (Finset.sum_congr rfl fun e _ => ?_))) ?_
  · exact congrArg₂ (fun a b : EReal => (a - b) * (a - b)) (means P e) hm
  · exact congrArg (fun a : EReal => (a + Ideal.ofBits .f32 0x2EDBE6FF#32) * (a + Ideal.ofBits .f32 0x2EDBE6FF#32)) hm

end Cert.KernelSIdeal.Gen
-- ==== Proof.StemRef.lean ====
/- The reference's stem, read at an index: the same convolution, pooling, scores, softmax and spread. -/
module

public import proofs.«01_k».proof.Proof.StemHost
public import proofs.«01_k».proof.Proof.StemPay
public import proofs.«01_k».proof.Proof.Gen.ReferenceSIdeal.Read
public import Idealize.ShloMosaic.Lib.KernelVsHost

@[expose] public section

noncomputable section

namespace Cert.ReferenceSIdeal.Read

open Cert.ReferenceSIdeal Idealize.ShloMosaic Idealize.ShloMosaic.TcCoe Idealize.SL.Sem

variable (x0 : (⟨S64x1x187, .f32⟩ : BufTy).Contents (Elt Ideal)) (x1 : (⟨S16x1x3, .f32⟩ : BufTy).Contents (Elt Ideal)) (x2 : (⟨S16, .f32⟩ : BufTy).Contents (Elt Ideal))
  (x3 : (⟨S8x16, .f32⟩ : BufTy).Contents (Elt Ideal)) (x4 : (⟨S8, .f32⟩ : BufTy).Contents (Elt Ideal))

/-- The padded signal, `l + k` steps in. -/
theorem pad_at (b : Fin 64) (l : Fin 187) (k : Fin 3) (q : Fin 189) (h : (q : ℕ) = l.val + k.val) :
    val_main_v0 (F := Ideal) x0 (ix3 b 0 q) = Cert.tap (fun b l => x0 (ix3 b 0 l)) b l k := by
  have z : (FloatOps.sitofp (F := Ideal) FTy.f32 0#32 : EReal) = 0 := by
    simp [FloatOps.sitofp]
  unfold val_main_v0 val_main_call0_v0 val_main_c Cert.tap
  pointwise
  by_cases h2 : 1 ≤ l.val + k.val ∧ l.val + k.val - 1 < 187
  · rw [dif_pos h2, dif_pos (by omega)]
    exact congrArg x0 (congrArg (ix3 b 0) (Fin.ext (by dsimp only; omega)))
  · rw [dif_neg h2, dif_neg (by omega), z]

theorem prod0 (b : Fin 64) (o : Fin 16) (l : Fin 187) :
    val_main_v5 (F := Ideal) x0 x1 (ix3 b o l) = Cert.tap (fun b l => x0 (ix3 b 0 l)) b l 0 * x1 (ix3 o 0 0) := by
  rw [val_main_v5_apply, val_main_v4_apply, Fin.sum_univ_one, val_main_v3_apply, val_main_v2_apply, val_main_v1_apply, mul_comm]
  exact congrArg₂ (fun a b : EReal => a * b) ((congrArg (val_main_v0 (F := Ideal) x0) (eq_ix3 _)).trans (pad_at x0 b l 0 _ (by rfl))) (congrArg x1 (funext fun a => Fin.ext (by have := o.isLt; fin_cases a <;> simp <;> omega)))

theorem prod1 (b : Fin 64) (o : Fin 16) (l : Fin 187) :
    val_main_v10 (F := Ideal) x0 x1 (ix3 b o l) = Cert.tap (fun b l => x0 (ix3 b 0 l)) b l 1 * x1 (ix3 o 0 1) := by
  rw [val_main_v10_apply, val_main_v9_apply, Fin.sum_univ_one, val_main_v8_apply, val_main_v7_apply, val_main_v6_apply, mul_comm]
  exact congrArg₂ (fun a b : EReal => a * b) ((congrArg (val_main_v0 (F := Ideal) x0) (eq_ix3 _)).trans (pad_at x0 b l 1 _ (Nat.add_comm _ _))) (congrArg x1 (funext fun a => Fin.ext (by have := o.isLt; fin_cases a <;> simp <;> omega)))

theorem prod2 (b : Fin 64) (o : Fin 16) (l : Fin 187) :
    val_main_v16 (F := Ideal) x0 x1 (ix3 b o l) = Cert.tap (fun b l => x0 (ix3 b 0 l)) b l 2 * x1 (ix3 o 0 2) := by
  rw [val_main_v16_apply, val_main_v15_apply, Fin.sum_univ_one, val_main_v14_apply, val_main_v13_apply, val_main_v12_apply, mul_comm]
  exact congrArg₂ (fun a b : EReal => a * b) ((congrArg (val_main_v0 (F := Ideal) x0) (eq_ix3 _)).trans (pad_at x0 b l 2 _ (Nat.add_comm _ _))) (congrArg x1 (funext fun a => Fin.ext (by have := o.isLt; fin_cases a <;> simp <;> omega)))

theorem zero1 (i : S64x16x187.Idx) : val_main_call1_v0 (F := Ideal) i = 0 := by
  unfold val_main_call1_v0 val_main_call1_cst
  rw [eq_ix3 i]
  pointwise

/-- The convolution, cut off at zero. -/
theorem act_at (b : Fin 64) (o : Fin 16) (l : Fin 187) :
    val_main_v21 (F := Ideal) x0 x1 x2 (ix3 b o l)
      = Cert.act (fun k => Cert.tap (fun b l => x0 (ix3 b 0 l)) b l k) (fun k => x1 (ix3 o 0 k)) (x2 (ix1 o)) := by
  rw [val_main_v21_apply, val_main_v20_apply, val_main_v17_apply, val_main_v11_apply, prod0, prod1, prod2, val_main_v19_apply, val_main_v18_apply, zero1]
  unfold Cert.act
  rw [Fin.sum_univ_three]
  exact congrArg (fun s : EReal => max (_ + s) 0) (congrArg x2 (eq_ix1 _))

theorem c187 : Ideal.ofBits .f32 0x433B0000#32 = ((187 : ℝ) : EReal) := by
  simp [Ideal.ofBits, Ideal.ieee, -EReal.coe_mul]
  norm_num

theorem div_real (x : EReal) (r : ℝ) (h : r ≠ 0) : Ideal.div x (r : EReal) = x * ((1 / r : ℝ) : EReal) := by
  unfold Ideal.div
  rw [if_neg (by simpa using h), one_div, EReal.coe_inv]

/-- The mean over a sample's rows. -/
theorem pool_at (b : Fin 64) (o : Fin 16) :
    val_main_v24 (F := Ideal) x0 x1 x2 (ix2 b o)
      = (∑ l : Fin 187, Cert.act (fun k => Cert.tap (fun b l => x0 (ix3 b 0 l)) b l k) (fun k => x1 (ix3 o 0 k)) (x2 (ix1 o))) * ((1 / 187 : ℝ) : EReal) := by
  rw [val_main_v24_apply, val_main_v22_apply, val_main_v23_apply, val_main_cst_0_apply, val_main_cst_apply]
  show Ideal.div (Ideal.ofBits .f32 0x00000000#32 + _) (Ideal.ofBits .f32 0x433B0000#32) = _
  rw [c187, div_real _ _ (by norm_num), show Ideal.ofBits .f32 0x00000000#32 = 0 from by simp [Ideal.ofBits, Ideal.ieee], zero_add]
  exact congrArg (fun s : EReal => s * ((1 / 187 : ℝ) : EReal)) (Finset.sum_congr rfl fun l _ => (congrArg (val_main_v21 (F := Ideal) x0 x1 x2) (eq_ix3 _)).trans (act_at x0 x1 x2 b o l))

/-- The expert scores. -/
abbrev scoreR : Fin 64 → Fin 8 → EReal :=
  Cert.score (fun b o => (∑ l : Fin 187, Cert.act (fun k => Cert.tap (fun b l => x0 (ix3 b 0 l)) b l k) (fun k => x1 (ix3 o 0 k)) (x2 (ix1 o))) * ((1 / 187 : ℝ) : EReal))
    (fun e o => x3 (ix2 e o)) (fun e => x4 (ix1 e))

theorem score_at (b : Fin 64) (e : Fin 8) : val_main_v29 (F := Ideal) x0 x1 x2 x3 x4 (ix2 b e) = scoreR x0 x1 x2 x3 x4 b e := by
  rw [val_main_v29_apply, val_main_v26_apply, val_main_v28_apply, val_main_v27_apply]
  refine congrArg₂ (fun a b : EReal => a + b) (Finset.sum_congr rfl fun o _ => ?_) (congrArg x4 (eq_ix1 _))
  rw [val_main_v25_apply]
  exact congrArg₂ (fun a b : EReal => a * b) ((congrArg (val_main_v24 (F := Ideal) x0 x1 x2) (eq_ix2 _)).trans (pool_at x0 x1 x2 b o)) (congrArg x3 (eq_ix2 _))

theorem top_at (b : Fin 64) : val_main_v30 (F := Ideal) x0 x1 x2 x3 x4 (ix1 b) = Cert.top (scoreR x0 x1 x2 x3 x4) b := by
  have hs : (fun b e => val_main_v29 (F := Ideal) x0 x1 x2 x3 x4 (ix2 b e)) = scoreR x0 x1 x2 x3 x4 := funext₂ fun b e => score_at x0 x1 x2 x3 x4 b e
  rw [← hs]
  unfold val_main_v30 val_main_cst_1
  generalize val_main_v29 (F := Ideal) x0 x1 x2 x3 x4 = y
  refine (congrFun (hostReduce_maximumf_eq_multiReduction (F := Ideal) (φ := .f32) y 0xFF800000#32 Gen.reducesTo_S64x8_S64_d1 Gen.h_S_ (by decide) (.inl rfl) rfl) (ix1 b)).trans ?_
  pointwise [Cert.top]
  rw [Moe.neg_inf]

theorem lift_at (b : Fin 64) (e : Fin 8) : val_main_v36 (F := Ideal) x0 x1 x2 x3 x4 (ix2 b e) = Cert.lift (scoreR x0 x1 x2 x3 x4) b e := by
  rw [val_main_v36_apply, val_main_v35_apply, score_at, val_main_v34_apply, val_main_v33_apply, val_main_v32_apply, val_main_v31_apply, val_main_cst_2_apply]
  have h : val_main_v30 (F := Ideal) x0 x1 x2 x3 x4 (idx_main_v33 (idx_main_v34 (ix2 b e))) = Cert.top (scoreR x0 x1 x2 x3 x4) b :=
    (congrArg (val_main_v30 (F := Ideal) x0 x1 x2 x3 x4) (eq_ix1 _)).trans (top_at x0 x1 x2 x3 x4 b)
  rw [h]
  show Ideal.exp (_ - max (Ideal.ofBits .f32 0xFF800000#32) _) = _
  rw [Moe.neg_inf, max_eq_right bot_le]
  rfl

theorem soft_at (b : Fin 64) (e : Fin 8) : val_main_v40 (F := Ideal) x0 x1 x2 x3 x4 (ix2 b e) = Cert.soft (scoreR x0 x1 x2 x3 x4) b e := by
  rw [val_main_v40_apply, lift_at, val_main_v39_apply, val_main_v38_apply, val_main_v37_apply, val_main_cst_3_apply]
  show Ideal.div _ (Ideal.ofBits .f32 0x00000000#32 + _) = _
  rw [show Ideal.ofBits .f32 0x00000000#32 = 0 from by simp [Ideal.ofBits, Ideal.ieee], zero_add]
  exact congrArg (Ideal.div _) (Finset.sum_congr rfl fun e' _ => (congrArg (val_main_v36 (F := Ideal) x0 x1 x2 x3 x4) (eq_ix2 _)).trans (lift_at x0 x1 x2 x3 x4 b e'))

/-- The experts' mean gates. -/
abbrev avgR : Fin 8 → EReal := Cert.avg (Cert.soft (scoreR x0 x1 x2 x3 x4))

theorem avg_at (e : Fin 8) : val_main_v43 (F := Ideal) x0 x1 x2 x3 x4 (ix1 e) = avgR x0 x1 x2 x3 x4 e := by
  rw [val_main_v43_apply, val_main_v41_apply, val_main_v42_apply, val_main_cst_5_apply, val_main_cst_4_apply]
  show Ideal.div (Ideal.ofBits .f32 0x00000000#32 + _) (Ideal.ofBits .f32 0x42800000#32) = _
  rw [Cert.KernelSIdeal.Gen.c64, show Ideal.ofBits .f32 0x00000000#32 = 0 from by simp [Ideal.ofBits, Ideal.ieee], zero_add]
  exact congrArg (fun s : EReal => Ideal.div s ((64 : ℝ) : EReal)) (Finset.sum_congr rfl fun b _ => (congrArg (val_main_v40 (F := Ideal) x0 x1 x2 x3 x4) (eq_ix2 _)).trans (soft_at x0 x1 x2 x3 x4 b e))

/-- A sum over a row of eight, by its number. -/
theorem sum8 (f : S8.Idx → EReal) (g : Fin 8 → EReal) (h : ∀ e, f (ix1 e) = g e) : ∑ j : S8.Idx, f j = ∑ e : Fin 8, g e := by
  refine (Fintype.sum_equiv ⟨fun e : Fin 8 => (ix1 e : S8.Idx), fun j => j 0, fun e => rfl, fun j => (eq_ix1 j).symm⟩ _ _ fun e => ?_).symm
  exact (h e).symm

theorem var_mid (i : S1.Idx) : val_main_call2_call0_v3 (F := Ideal) x0 x1 x2 x3 x4 i = Cert.mid (avgR x0 x1 x2 x3 x4) := by
  rw [val_main_call2_call0_v3_apply, val_main_call2_call0_v1_apply, val_main_call2_call0_v0_apply, val_main_call2_call0_v2_apply, val_main_call2_call0_cst_0_apply, val_main_call2_call0_cst_apply,
    sum8 _ _ (avg_at x0 x1 x2 x3 x4)]
  show Ideal.div (Ideal.ofBits .f32 0x00000000#32 + _) (Ideal.ofBits .f32 0x41000000#32) = _
  rw [Cert.KernelSIdeal.Gen.c8, show Ideal.ofBits .f32 0x00000000#32 = 0 from by simp [Ideal.ofBits, Ideal.ieee], zero_add]
  rfl

theorem mid_at (i : S_.Idx) : val_main_v46 (F := Ideal) x0 x1 x2 x3 x4 i = Cert.mid (avgR x0 x1 x2 x3 x4) := by
  rw [val_main_v46_apply, val_main_v45_apply, val_main_cst_8_apply, val_main_cst_7_apply, sum8 _ _ (avg_at x0 x1 x2 x3 x4)]
  show Ideal.div (Ideal.ofBits .f32 0x00000000#32 + _) (Ideal.ofBits .f32 0x41000000#32) = _
  rw [Cert.KernelSIdeal.Gen.c8, show Ideal.ofBits .f32 0x00000000#32 = 0 from by simp [Ideal.ofBits, Ideal.ieee], zero_add]
  rfl

theorem seven (i : S_.Idx) : val_main_call2_call0_v8 (F := Ideal) i = ((7 : ℝ) : EReal) := by
  rw [val_main_call2_call0_v8_apply, val_main_call2_call0_cst_1_apply, val_main_call2_call0_v7_apply, val_main_c_6_apply]
  show Ideal.ofBits .f32 0x41000000#32 - (((1#32).toInt : ℝ) : EReal) = _
  rw [Cert.KernelSIdeal.Gen.c8, show (1#32).toInt = 1 from by decide, ← EReal.coe_sub]
  norm_num

theorem off_at (i : S_.Idx) : val_main_call2_v0 (F := Ideal) x0 x1 x2 x3 x4 i = Cert.off (avgR x0 x1 x2 x3 x4) * ((1 / 7 : ℝ) : EReal) := by
  rw [val_main_call2_v0_apply, val_main_call2_call0_v11_apply, seven, val_main_call2_call0_cst_3_apply, val_main_call2_call0_v10_apply, seven, val_main_call2_call0_v9_apply, val_main_call2_call0_cst_2_apply]
  have hc : (FloatOps.cmpf (F := Ideal) .ogt ((7 : ℝ) : EReal) (FloatOps.ofBits (F := Ideal) .f32 0x00000000#32) : BitVec 1) = 1#1 := by
    rw [show (FloatOps.ofBits (F := Ideal) .f32 0x00000000#32 : EReal) = 0 from by simp [FloatOps.ofBits, Ideal.ofBits, Ideal.ieee]]
    exact (Ideal.cmp_ogt_eq_one _ _).mpr (by exact_mod_cast (by norm_num : (0 : ℝ) < 7))
  rw [hc]
  show Ideal.div (Ideal.ofBits .f32 0x00000000#32 + _) ((7 : ℝ) : EReal) = _
  rw [div_real _ _ (by norm_num), show Ideal.ofBits .f32 0x00000000#32 = 0 from by simp [Ideal.ofBits, Ideal.ieee], zero_add]
  refine congrArg (fun s : EReal => s * ((1 / 7 : ℝ) : EReal)) (sum8 _ _ fun e => ?_)
  rw [val_main_call2_call0_v6_apply, val_main_call2_call0_v5_apply, avg_at, val_main_call2_call0_v4_apply, var_mid]
  rfl

theorem end_at (i : S_.Idx) : val_main_v49 (F := Ideal) x0 x1 x2 x3 x4 i
    = Ideal.div (Ideal.sqrt (Cert.off (avgR x0 x1 x2 x3 x4) * ((1 / 7 : ℝ) : EReal))) (Cert.mid (avgR x0 x1 x2 x3 x4) + Ideal.ofBits .f32 0x2EDBE6FF#32)
      * Ideal.div (Ideal.sqrt (Cert.off (avgR x0 x1 x2 x3 x4) * ((1 / 7 : ℝ) : EReal))) (Cert.mid (avgR x0 x1 x2 x3 x4) + Ideal.ofBits .f32 0x2EDBE6FF#32) := by
  rw [val_main_v49_apply, val_main_v48_apply, val_main_v44_apply, off_at, val_main_v47_apply, mid_at, val_main_cst_9_apply]
  rfl

end Cert.ReferenceSIdeal.Read
-- ==== Proof.StemTie.lean ====
/- Why the two ways of squaring the coefficient of variation agree: the mean gate plus its small constant is never zero, and the variance is never negative. -/
module

public import proofs.«01_k».proof.Proof.StemPay

@[expose] public section

noncomputable section

namespace Cert

open Idealize.ShloMosaic

theorem exp_nonneg (x : EReal) : 0 ≤ Ideal.exp x := by
  induction x using EReal.rec with
  | bot => exact (le_rfl : (0 : EReal) ≤ 0)
  | top => exact (le_top : (0 : EReal) ≤ ⊤)
  | coe r => show (0 : EReal) ≤ ((Real.exp r : ℝ) : EReal); exact_mod_cast (Real.exp_pos r).le

theorem sq_nonneg' (d : EReal) : 0 ≤ d * d := by
  rcases le_total 0 d with h | h
  · exact mul_nonneg h h
  · rw [← neg_mul_neg]
    exact mul_nonneg (by simpa using h) (by simpa using h)

theorem off_nonneg (a : Fin 8 → EReal) : 0 ≤ off a * ((1 / 7 : ℝ) : EReal) :=
  mul_nonneg (Finset.sum_nonneg fun _ _ => sq_nonneg' _) (by exact_mod_cast (by norm_num : (0 : ℝ) ≤ 1 / 7))

/-- At least zero, or minus infinity. -/
def Low (x : EReal) : Prop := 0 ≤ x ∨ x = ⊥

theorem low_sum {n : ℕ} (f : Fin n → EReal) (h : ∀ i, Low (f i)) : Low (∑ i, f i) := by
  refine Finset.sum_induction f Low (fun a b ha hb => ?_) (Or.inl le_rfl) (fun i _ => h i)
  rcases ha with ha | ha
  · rcases hb with hb | hb
    · exact Or.inl (add_nonneg ha hb)
    · exact Or.inr (by rw [hb, EReal.add_bot])
  · exact Or.inr (by rw [ha, EReal.bot_add])

theorem low_div {x y : EReal} (hx : 0 ≤ x) (hy : 0 ≤ y) : Low (Ideal.div x y) := by
  unfold Ideal.div
  split
  · split
    · exact Or.inl le_top
    · exact Or.inr rfl
  · exact Or.inl (mul_nonneg hx (EReal.inv_nonneg_of_nonneg hy))

theorem low_div_real {x : EReal} (hx : Low x) (r : ℝ) (hr : 0 < r) : Low (Ideal.div x (r : EReal)) := by
  unfold Ideal.div
  rw [if_neg (by simpa using hr.ne'), ← EReal.coe_inv]
  rcases hx with hx | hx
  · exact Or.inl (mul_nonneg hx (by exact_mod_cast (inv_pos.mpr hr).le))
  · exact Or.inr (by rw [hx, EReal.bot_mul_coe_of_pos (inv_pos.mpr hr)])

theorem low_mid (s : Fin 64 → Fin 8 → EReal) : Low (mid (avg (soft s))) := by
  refine low_div_real (low_sum _ fun e => low_div_real (low_sum _ fun b => low_div (exp_nonneg _) (Finset.sum_nonneg fun _ _ => exp_nonneg _)) _ (by norm_num)) _ (by norm_num)

theorem small : ∃ r : ℝ, 0 < r ∧ Ideal.ofBits .f32 0x2EDBE6FF#32 = (r : EReal) := by
  refine ⟨_, ?_, by simp [Ideal.ofBits, Ideal.ieee, -EReal.coe_mul]; rfl⟩
  norm_num

theorem ne_zero (s : Fin 64 → Fin 8 → EReal) : mid (avg (soft s)) + Ideal.ofBits .f32 0x2EDBE6FF#32 ≠ 0 := by
  obtain ⟨r, hr, e⟩ := small
  rw [e]
  rcases low_mid s with h | h
  · have : (0 : EReal) < (r : EReal) := by exact_mod_cast hr
    exact (lt_of_lt_of_le this (le_add_of_nonneg_left h)).ne'
  · rw [h, EReal.bot_add]
    exact EReal.bot_ne_zero

theorem sqrt_sq (v : EReal) (h : 0 ≤ v) : Ideal.sqrt v * Ideal.sqrt v = v := by
  induction v using EReal.rec with
  | bot => exact absurd h (by simp)
  | top => exact EReal.top_mul_top
  | coe r =>
    have hr : 0 ≤ r := by exact_mod_cast h
    have e : Ideal.sqrt (r : EReal) = ((Real.sqrt r : ℝ) : EReal) := by
      show (if r < 0 then (⊥ : EReal) else ((Real.sqrt r : ℝ) : EReal)) = _
      rw [if_neg (not_lt.mpr hr)]
    rw [e, ← EReal.coe_mul, Real.mul_self_sqrt hr]

/-- Dividing the variance by the squared mean is squaring the quotient of the square root by the mean. -/
theorem square (v a : EReal) (hv : 0 ≤ v) (ha : a ≠ 0) : Ideal.div v (a * a) = Ideal.div (Ideal.sqrt v) a * Ideal.div (Ideal.sqrt v) a := by
  unfold Ideal.div
  rw [if_neg (mul_ne_zero ha ha), if_neg ha, mul_mul_mul_comm, sqrt_sq v hv, EReal.mul_inv]

end Cert
-- ==== Proof.StemValue.lean ====
/- The stem's call and the reference's stem end with equal third results: the squared ratio of the experts' spread to their mean gate. -/
module

public import proofs.«01_k».proof.Defs
public import proofs.«01_k».proof.Proof.StemRef
public import proofs.«01_k».proof.Proof.StemTie
public import Idealize.ShloMosaic.Lib.Claim
public import Idealize.ShloMosaic.Lib.WholeRead

@[expose] public section

noncomputable section

namespace Cert.KernelSIdeal.Gen

open Cert.KernelSIdeal Idealize.ShloMosaic Idealize.ShloMosaic.TcCoe Idealize.SL.Sem
open Idealize.ShloMosaic.Pipeline (Dat)

theorem z2 : (![0, 0] : Fin 2 → ℕ) = fun _ => 0 := by decide

/-- The rows the convolution reads: all but the first sixteen and the last sixteen. -/
abbrev rows (x0 : Vec Ideal S12320x3 .f32) : Vec Ideal S12288x3 .f32 :=
  View.ld x0 (Rect.unit (s := S12320x3) ![16, 0] S12288x3.size inb_S12320x3_S12288x3_16_0)

theorem rows_at (x0 : Vec Ideal S12320x3 .f32) (r : Fin 12288) (k : Fin 3) :
    rows x0 (ix2 r k) = x0 (ix2 ⟨16 + r.val, by have := r.isLt; omega⟩ k) :=
  congrArg x0 (funext fun a => Fin.ext ((congrArg ((![16, 0] : Fin 2 → ℕ) a + ·) (Nat.one_mul _)).trans (by fin_cases a <;> simp)))

/-- The one store to the third output. -/
theorem run_out (c : Dev nD) (arg0 : Memref sig .tc .vmem S12320x3 .f32) (harg0 : arg0.IsWhole) (arg1 : Memref sig .tc .vmem S3x16 .f32) (harg1 : arg1.IsWhole) (arg2 : Memref sig .tc .vmem S1x16 .f32) (harg2 : arg2.IsWhole) (arg3 : Memref sig .tc .vmem S16x8 .f32) (harg3 : arg3.IsWhole) (arg4 : Memref sig .tc .vmem S1x8 .f32) (harg4 : arg4.IsWhole) (arg5 : Memref sig .tc .vmem S12320x16 .f32) (harg5 : arg5.IsWhole) (arg6 : Memref sig .tc .vmem S64x8 .f32) (harg6 : arg6.IsWhole) (arg7 : Memref sig .tc .vmem S1x1 .f32) (harg7 : arg7.IsWhole)
    (x0 : Vec Ideal S12320x3 .f32) (x1 : Vec Ideal S3x16 .f32) (x2 : Vec Ideal S1x16 .f32) (x3 : Vec Ideal S16x8 .f32) (x4 : Vec Ideal S1x8 .f32) :
    out0_A_7 c arg0 harg0 arg1 harg1 arg2 harg2 arg3 harg3 arg4 harg4 arg5 harg5 arg6 harg6 arg7 harg7 x0 x1 x2 x3 x4
      = k0_pay2 (k0_pay8 (k0_pay3 (rows x0) x1 x2) k0_pay6 k0_pay7 x3 x4) := by
  unfold out0_A_7
  rw [View.read_writes_eq_canon _ _ _ (cover0_A_7 c arg0 harg0 arg1 harg1 arg2 harg2 arg3 harg3 arg4 harg4 arg5 harg5 arg6 harg6 arg7 harg7 x0 x1 x2 x3 x4)]
  unfold kernelRun0_A
  dsimp only
  rw [View.canon_unit_zero z2]
  have e0 : View.readAt (Elt Ideal) arg0.view (Rect.unit (s := S12320x3) ![16, 0] S12288x3.size inb_S12320x3_S12288x3_16_0).toLoadRect (harg0.unread x0) = rows x0 := by
    rw [View.readAt_eq_ld, harg0.read_unread]
  have e1 : View.readAt (Elt Ideal) arg1.view (Rect.unit (s := S3x16) ![0, 0] S3x16.size inb_S3x16_S3x16_0_0).toLoadRect (harg1.unread x1) = x1 := by
    rw [View.readAt_eq_ld, harg1.read_unread, View.ld_unit_zero (S := S3x16) z2]
  have e2 : View.readAt (Elt Ideal) arg2.view (Rect.unit (s := S1x16) ![0, 0] S1x16.size inb_S1x16_S1x16_0_0).toLoadRect (harg2.unread x2) = x2 := by
    rw [View.readAt_eq_ld, harg2.read_unread, View.ld_unit_zero (S := S1x16) z2]
  have e3 : View.readAt (Elt Ideal) arg3.view (Rect.unit (s := S16x8) ![0, 0] S16x8.size inb_S16x8_S16x8_0_0).toLoadRect (harg3.unread x3) = x3 := by
    rw [View.readAt_eq_ld, harg3.read_unread, View.ld_unit_zero (S := S16x8) z2]
  have e4 : View.readAt (Elt Ideal) arg4.view (Rect.unit (s := S1x8) ![0, 0] S1x8.size inb_S1x8_S1x8_0_0).toLoadRect (harg4.unread x4) = x4 := by
    rw [View.readAt_eq_ld, harg4.read_unread, View.ld_unit_zero (S := S1x8) z2]
  have e : k0_pay8 (k0_pay3 (View.readAt (Elt Ideal) arg0.view (Rect.unit (s := S12320x3) ![16, 0] S12288x3.size inb_S12320x3_S12288x3_16_0).toLoadRect (harg0.unread x0))
        (View.readAt (Elt Ideal) arg1.view (Rect.unit (s := S3x16) ![0, 0] S3x16.size inb_S3x16_S3x16_0_0).toLoadRect (harg1.unread x1))
        (View.readAt (Elt Ideal) arg2.view (Rect.unit (s := S1x16) ![0, 0] S1x16.size inb_S1x16_S1x16_0_0).toLoadRect (harg2.unread x2))) k0_pay6 k0_pay7
        (View.readAt (Elt Ideal) arg3.view (Rect.unit (s := S16x8) ![0, 0] S16x8.size inb_S16x8_S16x8_0_0).toLoadRect (harg3.unread x3))
        (View.readAt (Elt Ideal) arg4.view (Rect.unit (s := S1x8) ![0, 0] S1x8.size inb_S1x8_S1x8_0_0).toLoadRect (harg4.unread x4))
      = k0_pay8 (k0_pay3 (rows x0) x1 x2) k0_pay6 k0_pay7 x3 x4 := by
    rw [e0, e1, e2, e3, e4]
  exact congrArg k0_pay2 e

variable (m : (ℓ : Loc nD τ sig) → Buf (Elt Ideal) ℓ)

theorem blk0 (c : Dev nD) (t : Fin cfg0.N) : (iblk m c 0 t : Vec Ideal S12320x3 .f32) = V m c main_v12 :=
  Memref.read_access_unit_zero (Elt Ideal) main_v12 (funext fun a => by revert t a; decide) (fun a => by revert t a; decide) (V m c main_v12)

theorem blk1 (c : Dev nD) (t : Fin cfg0.N) : (iblk m c 1 t : Vec Ideal S3x16 .f32) = V m c main_v14 :=
  Memref.read_access_unit_zero (Elt Ideal) main_v14 (funext fun a => by revert t a; decide) (fun a => by revert t a; decide) (V m c main_v14)

theorem blk2 (c : Dev nD) (t : Fin cfg0.N) : (iblk m c 2 t : Vec Ideal S1x16 .f32) = V m c main_v15 :=
  Memref.read_access_unit_zero (Elt Ideal) main_v15 (funext fun a => by revert t a; decide) (fun a => by revert t a; decide) (V m c main_v15)

theorem blk3 (c : Dev nD) (t : Fin cfg0.N) : (iblk m c 3 t : Vec Ideal S16x8 .f32) = V m c main_v16 :=
  Memref.read_access_unit_zero (Elt Ideal) main_v16 (funext fun a => by revert t a; decide) (fun a => by revert t a; decide) (V m c main_v16)

theorem blk4 (c : Dev nD) (t : Fin cfg0.N) : (iblk m c 4 t : Vec Ideal S1x8 .f32) = V m c main_v17 :=
  Memref.read_access_unit_zero (Elt Ideal) main_v17 (funext fun a => by revert t a; decide) (fun a => by revert t a; decide) (V m c main_v17)

/-- The result array. -/
abbrev last (c : Dev nD) : Buf (Elt Ideal) ((c : Thread nD τ).loc main_v18_2) :=
  k0_pay2 (k0_pay8 (k0_pay3 (rows (V m c main_v12)) (V m c main_v14) (V m c main_v15)) k0_pay6 k0_pay7 (V m c main_v16) (V m c main_v17))

theorem flushed (c : Dev nD) (t : Fin cfg0.N) (hf : (cfg0.win 7).flush t = true) :
    (dats m 0 c).flushed 7 t = ((cfg0.win 7).blk t).view.read (Elt Ideal) (last m c) := by
  rw [Value.flushed7_A, blk0, blk1, blk2, blk3, blk4, run_out]
  exact (Memref.read_access_unit_zero (Elt Ideal) main_v18_2 (funext fun a => by revert t a; decide) (fun a => by revert t a; decide) (last m c)).symm

/-- The result array ends holding it. -/
theorem final (c : Dev nD) : (dats m 0 c).arrAt 7 cfg0.N = last m c :=
  (dats m 0 c).arrAt_eq_of_cover 7 (last m c) (flushed m c) fun i =>
    ⟨t0_0, flush0_7 t0_0, by
      have hi : ∀ t : Fin cfg0.N, win0_7.index t 0 * win0_7.size 0 = 0 ∧ win0_7.index t 1 * win0_7.size 1 = 0 := by decide +kernel
      have hx : ∀ t : Fin cfg0.N, win0_7.xsize (grid0.coords t) 0 = 1 ∧ win0_7.xsize (grid0.coords t) 1 = 1 := by decide +kernel
      show i ∈ ((View.whole main_v18_2).slice (win0_7.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [(hi _).1, (hx _).1]; omega
      | ⟨1, _⟩ => show win0_7.index t0_0 1 * win0_7.size 1 ≤ (i 1 : Nat) ∧ (i 1 : Nat) < win0_7.index t0_0 1 * win0_7.size 1 + win0_7.xsize (grid0.coords t0_0) 1
                  rw [(hi _).2, (hx _).2]; omega⟩

/-- The convolution's rows, of the arguments. -/
theorem act_row (c : Dev nD) (r : Fin 12288) (b : Fin 64) (l : Fin 187) (o : Fin 16) (hr : r.val = b.val * 192 + l.val) :
    k0_pay3 (rows (V m c main_v12)) (V m c main_v14) (V m c main_v15) (ix2 r o)
      = Cert.act (fun k => Cert.tap (fun b l => (m ((c : Thread nD τ).loc main_arg0) : Vec Ideal S64x1x187 .f32) (ix3 b 0 l)) b l k)
          (fun k => (m ((c : Thread nD τ).loc main_arg1) : Vec Ideal S16x1x3 .f32) (ix3 o 0 k)) ((m ((c : Thread nD τ).loc main_arg2) : Vec Ideal S16 .f32) (ix1 o)) := by
  have hl := l.isLt
  refine (p3 _ _ _ r o (by omega)).trans ?_
  have h0 : (fun k => rows (V m c main_v12) (ix2 r k)) = fun k => Cert.tap (fun b l => (m ((c : Thread nD τ).loc main_arg0) : Vec Ideal S64x1x187 .f32) (ix3 b 0 l)) b l k :=
    funext fun k => (rows_at _ r k).trans (V_x m c _ k b l (by dsimp only; omega))
  have h1 : (fun k => (V m c main_v14 : Vec Ideal S3x16 .f32) (ix2 k o)) = fun k => (m ((c : Thread nD τ).loc main_arg1) : Vec Ideal S16x1x3 .f32) (ix3 o 0 k) :=
    funext fun k => V_w m c k o
  rw [h0, h1, V_cb m c o]

end Cert.KernelSIdeal.Gen

namespace Cert.Proof

open Idealize.ShloMosaic Idealize.ShloMosaic.TcCoe Idealize.SL.Sem Idealize.ShloMosaic.StableHlo

open Cert.KernelSIdeal Cert.KernelSIdeal.Gen in
/-- The kernel's third result, of the arguments, in the reference's form. -/
theorem lastS (m : (ℓ : Loc nD τ sig) → Buf (Elt Ideal) ℓ) (c : Dev nD) (i : Cert.ReferenceSIdeal.S_.Idx) :
    (last m c : Vec Ideal S1x1 .f32) (ix2 0 0)
      = Cert.ReferenceSIdeal.Read.val_main_v49 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) i := by
  rw [Cert.ReferenceSIdeal.Read.end_at]
  refine (spread _).trans ?_
  have hp : (fun b e => k0_pay8 (k0_pay3 (rows (V m c main_v12)) (V m c main_v14) (V m c main_v15)) k0_pay6 k0_pay7 (V m c main_v16) (V m c main_v17) (ix2 b e))
      = Cert.soft (Cert.ReferenceSIdeal.Read.scoreR (m ((c : Thread nD τ).loc main_arg0)) (m ((c : Thread nD τ).loc main_arg1)) (m ((c : Thread nD τ).loc main_arg2))
          (m ((c : Thread nD τ).loc main_arg3)) (m ((c : Thread nD τ).loc main_arg4))) := by
    funext b e
    refine (gates _ _ _ _ (fun r b l o hr => act_row m c r b l o hr) b e).trans ?_
    refine congrArg (fun s => Cert.soft s b e) (funext₂ fun b e => ?_)
    exact congrArg₂ (fun w s => Cert.score _ w s b e) (funext₂ fun e o => V_rw m c o e) (funext fun e => V_rb m c e)
  rw [hp]
  exact Cert.square _ _ (Cert.off_nonneg _) (Cert.ne_zero _)

theorem scalar (y : FVec Ideal Cert.ReferenceSIdeal.S_ .f32) (v : EReal) (h : ∀ i, y i = v) (j : Cert.ReferenceSIdeal.S1x1.Idx) :
    (shapeCast Cert.ReferenceSIdeal.S1x1 y Cert.ReferenceSIdeal.Gen.shapeCasts_S_S1x1 : FVec Ideal Cert.ReferenceSIdeal.S1x1 .f32) j = v := h _

open Cert.ReferenceSIdeal in
/-- The reference's result, of the kernel's arguments. -/
theorem lastR (m : (ℓ : Loc Cert.KernelSIdeal.nD Cert.KernelSIdeal.τ Cert.KernelSIdeal.sig) → Buf (Elt Ideal) ℓ) (c : Dev Cert.KernelSIdeal.nD) :
    Cert.ReferenceSIdeal.Read.val_main_v50 (F := Ideal) (m ((c : Thread Cert.KernelSIdeal.nD Cert.KernelSIdeal.τ).loc Cert.KernelSIdeal.main_arg0)) (m ((c : Thread Cert.KernelSIdeal.nD Cert.KernelSIdeal.τ).loc Cert.KernelSIdeal.main_arg1))
        (m ((c : Thread Cert.KernelSIdeal.nD Cert.KernelSIdeal.τ).loc Cert.KernelSIdeal.main_arg2)) (m ((c : Thread Cert.KernelSIdeal.nD Cert.KernelSIdeal.τ).loc Cert.KernelSIdeal.main_arg3))
        (m ((c : Thread Cert.KernelSIdeal.nD Cert.KernelSIdeal.τ).loc Cert.KernelSIdeal.main_arg4))
      = Cert.KernelSIdeal.Gen.last m c := by
  funext j
  have hj : j = ix2 0 0 := (eq_ix2 j).trans (congrArg₂ ix2 (Subsingleton.elim _ _) (Subsingleton.elim _ _))
  rw [hj]
  exact scalar _ _ (fun i => (lastS m c i).symm) _

/-- The stem's value claim. -/
theorem equalS : algebraic_KernelSIdeal_ReferenceSIdeal := by
  intro m g m' g' _ hagree
  refine ⟨fun c => Cert.KernelSIdeal.Gen.last m c, ?_, ?_⟩
  · exact (θ_run Cert.KernelSIdeal.defs _ _).mono (fun r h c => ⟨(h c).2.2.1.trans (Cert.KernelSIdeal.Gen.final m c), (h c).2.2.2⟩) (Cert.KernelSIdeal.Value.run_blocks (F := Ideal) m g)
  refine (θ_run Cert.ReferenceSIdeal.defs _ _).mono (fun r h c => ⟨?_, (h c).2⟩) (Cert.ReferenceSIdeal.Value.run (F := Ideal) m' g')
  refine (h c).1.trans ((Cert.ReferenceSIdeal.Read.val_main_v50_eq (F := Ideal) _).trans ?_)
  obtain ⟨a0, a1, a2, a3, a4⟩ := hagree c
  refine Eq.trans ?_ (lastR m c)
  rw [← a0, ← a1, ← a2, ← a3, ← a4]

end Cert.Proof
-- ==== Proof.lean ====
/- The certificate: the program's runs and its constants, and the last layer's and the head's calls as programs of their own, equal to the reference's last layer and head. -/
module

public import proofs.«01_k».proof.Defs
public import proofs.«01_k».proof.Proof.RunK
public import proofs.«01_k».proof.Proof.RunI
public import proofs.«01_k».proof.Proof.FourKRun
public import proofs.«01_k».proof.Proof.FourIRun
public import proofs.«01_k».proof.Proof.FourValue
public import proofs.«01_k».proof.Proof.HeadValue
public import proofs.«01_k».proof.Proof.StemValue
public import proofs.«01_k».proof.Proof.Gen.Reference4Ideal
public import proofs.«01_k».proof.Proof.Gen.Pre_clean4
public import proofs.«01_k».proof.Proof.Gen.Reference4Ideal.Read
public import proofs.«01_k».proof.Proof.Gen.KernelH
public import proofs.«01_k».proof.Proof.Gen.KernelH.Frame
public import proofs.«01_k».proof.Proof.Gen.KernelHIdeal
public import proofs.«01_k».proof.Proof.Gen.KernelHIdeal.Value
public import proofs.«01_k».proof.Proof.Gen.ReferenceHIdeal
public import proofs.«01_k».proof.Proof.Gen.ReferenceHIdeal.Read
public import proofs.«01_k».proof.Proof.Gen.KernelS
public import proofs.«01_k».proof.Proof.Gen.KernelS.Frame
public import proofs.«01_k».proof.Proof.Gen.KernelSIdeal
public import proofs.«01_k».proof.Proof.Gen.KernelSIdeal.Value
public import proofs.«01_k».proof.Proof.Gen.ReferenceSIdeal
public import proofs.«01_k».proof.Proof.Gen.ReferenceSIdeal.Read
public import Idealize.ShloMosaic.PureOps.IdealRules
public import Idealize.ShloMosaic.Lib.Quiescent

@[expose] public section

noncomputable section

namespace Cert.Proof

open Idealize.ShloMosaic Idealize.SL.Sem

theorem constants : preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl⟩

theorem constants4 : preserves_Kernel4_Kernel4Ideal :=
  ⟨IdealRules.named_const.statement _ _ _ _ _ rfl, IdealRules.named_const.statement _ _ _ _ _ rfl⟩

/-- The reference leaves its arguments as they were; it has no semaphore. -/
theorem kept4 : quiescent_Reference4Ideal := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

/-- The head's reference likewise. -/
theorem keptH : quiescent_ReferenceHIdeal := fun m ρ _ =>
  (θ_run (Cert.ReferenceHIdeal.defs (F := Ideal)) _ _).mono (fun r h => ⟨fun c => (h c).2, sem_eq_zero_of_no_sems (by decide) r.2⟩)
    (Cert.ReferenceHIdeal.Value.run (F := Ideal) m ρ)

theorem constantsS : preserves_KernelS_KernelSIdeal :=
  ⟨IdealRules.named_const.statement _ _ _ _ _ rfl, IdealRules.named_const.statement _ _ _ _ _ rfl⟩

/-- The stem's reference likewise. -/
theorem keptS : quiescent_ReferenceSIdeal := fun m ρ _ =>
  (θ_run (Cert.ReferenceSIdeal.defs (F := Ideal)) _ _).mono (fun r h => ⟨fun c => (h c).2, sem_eq_zero_of_no_sems (by decide) r.2⟩)
    (Cert.ReferenceSIdeal.Value.run (F := Ideal) m ρ)

theorem claim : Cert.Claim :=
  ⟨Cert.Kernel.Gen.facts, Cert.KernelIdeal.Gen.facts, Cert.Kernel4.Gen.facts, Cert.Kernel4Ideal.Gen.facts, Cert.Reference4Ideal.Gen.facts,
    Cert.KernelH.Gen.facts, Cert.KernelHIdeal.Gen.facts, Cert.ReferenceHIdeal.Gen.facts,
    Cert.KernelS.Gen.facts, Cert.KernelSIdeal.Gen.facts, Cert.ReferenceSIdeal.Gen.facts, Cert.Pre_clean4.Gen.facts,
    fun m ρ _ => Cert.Kernel.Gen.frame m ρ, fun m ρ _ => Cert.KernelIdeal.Gen.frame m ρ,
    fun m ρ _ => Cert.Kernel4.Gen.args_kept m ρ, fun m ρ _ => Cert.Kernel4Ideal.Gen.args_kept m ρ, fun m ρ _ => Cert.Kernel4Ideal.Gen.args_kept m ρ,
    kept4, fun m ρ _ => kept4 m ρ trivial,
    fun m ρ _ => Cert.KernelH.Gen.frame m ρ, fun m ρ _ => Cert.KernelHIdeal.Gen.frame m ρ, keptH,
    fun m ρ _ => Cert.KernelS.Gen.frame m ρ, fun m ρ _ => Cert.KernelSIdeal.Gen.frame m ρ, keptS,
    constants, constants4, equal4, trivial, equalH, constantsS, equalS⟩

end Cert.Proof

end
